-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_OutLastRefIdeal (m : (ℓ : Loc Cert.OutLastRefIdeal.nD Cert.OutLastRefIdeal.τ Cert.OutLastRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3))
      ∧ r.2.sem = fun _ => 0)

def quiescent_OutLastRefIdeal [hOutLastRefIdeal : Cert.OutLastRefIdeal.Facts] : Prop :=
  ∀ (m : (ℓ : Loc Cert.OutLastRefIdeal.nD Cert.OutLastRefIdeal.τ Cert.OutLastRefIdeal.sig) → Buf (Elt Ideal) ℓ) (g : Dev Cert.OutLastRefIdeal.nD → PrngReg), Pre_OutLastRefIdeal m →
    θ_run (Cert.OutLastRefIdeal.defs (F := Ideal)) (onTc (τ := Cert.OutLastRefIdeal.τ) (Cert.OutLastRefIdeal.main (F := Ideal))) ⟨m, fun _ => 0, g⟩ (fun r => (∀ c : Dev Cert.OutLastRefIdeal.nD,
      r.2.mem ((c.tc : Thread Cert.OutLastRefIdeal.nD Cert.OutLastRefIdeal.τ).loc Cert.OutLastRefIdeal.main_arg0) = m ((c.tc : Thread Cert.OutLastRefIdeal.nD Cert.OutLastRefIdeal.τ).loc Cert.OutLastRefIdeal.main_arg0)
      ∧ r.2.mem ((c.tc : Thread Cert.OutLastRefIdeal.nD Cert.OutLastRefIdeal.τ).loc Cert.OutLastRefIdeal.main_arg1) = m ((c.tc : Thread Cert.OutLastRefIdeal.nD Cert.OutLastRefIdeal.τ).loc Cert.OutLastRefIdeal.main_arg1)
      ∧ r.2.mem ((c.tc : Thread Cert.OutLastRefIdeal.nD Cert.OutLastRefIdeal.τ).loc Cert.OutLastRefIdeal.main_arg2) = m ((c.tc : Thread Cert.OutLastRefIdeal.nD Cert.OutLastRefIdeal.τ).loc Cert.OutLastRefIdeal.main_arg2)
      ∧ r.2.mem ((c.tc : Thread Cert.OutLastRefIdeal.nD Cert.OutLastRefIdeal.τ).loc Cert.OutLastRefIdeal.main_arg3) = m ((c.tc : Thread Cert.OutLastRefIdeal.nD Cert.OutLastRefIdeal.τ).loc Cert.OutLastRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v6_0)) (v1 : (c : Dev Cert.NormIdeal.nD) → Buf (Elt Ideal) ((c.tc : Thread Cert.NormIdeal.nD Cert.NormIdeal.τ).loc Cert.NormIdeal.main_v6_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6_0) = v0 c
          ∧ r.2.mem ((c.tc : Thread Cert.NormIdeal.nD Cert.NormIdeal.τ).loc Cert.NormIdeal.main_v6_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_v21) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)) (v2 : (c : Dev Cert.OutProjIdeal.nD) → Buf (Elt Ideal) ((c.tc : Thread Cert.OutProjIdeal.nD Cert.OutProjIdeal.τ).loc Cert.OutProjIdeal.main_v7_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_v7_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_v23) = v1 c
          ∧ r.2.mem ((c.tc : Thread Cert.OutProjRefIdeal.nD Cert.OutProjRefIdeal.τ).loc Cert.OutProjRefIdeal.main_v26) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_OutLast_OutLastIdeal : Prop :=
  True

def algebraic_OutLastIdeal_OutLastRefIdeal [hOutLastIdeal : Cert.OutLastIdeal.Facts] [hOutLastRefIdeal : Cert.OutLastRefIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.OutLastRefIdeal.nD Cert.OutLastRefIdeal.τ Cert.OutLastRefIdeal.sig) → Buf (Elt Ideal) ℓ) (g' : Dev Cert.OutLastRefIdeal.nD → PrngReg), Pre_OutLastIdeal m →
    (∀ c : Dev Cert.OutLastIdeal.nD,
      m' ((c.tc : Thread Cert.OutLastRefIdeal.nD Cert.OutLastRefIdeal.τ).loc Cert.OutLastRefIdeal.main_arg0) = m ((c.tc : Thread Cert.OutLastIdeal.nD Cert.OutLastIdeal.τ).loc Cert.OutLastIdeal.main_arg0)
      ∧ m' ((c.tc : Thread Cert.OutLastRefIdeal.nD Cert.OutLastRefIdeal.τ).loc Cert.OutLastRefIdeal.main_arg1) = m ((c.tc : Thread Cert.OutLastIdeal.nD Cert.OutLastIdeal.τ).loc Cert.OutLastIdeal.main_arg1)
      ∧ m' ((c.tc : Thread Cert.OutLastRefIdeal.nD Cert.OutLastRefIdeal.τ).loc Cert.OutLastRefIdeal.main_arg2) = m ((c.tc : Thread Cert.OutLastIdeal.nD Cert.OutLastIdeal.τ).loc Cert.OutLastIdeal.main_arg2)
      ∧ m' ((c.tc : Thread Cert.OutLastRefIdeal.nD Cert.OutLastRefIdeal.τ).loc Cert.OutLastRefIdeal.main_arg3) = m ((c.tc : Thread Cert.OutLastIdeal.nD Cert.OutLastIdeal.τ).loc Cert.OutLastIdeal.main_arg3)) →
    ∃ (v0 : (c : Dev Cert.OutLastIdeal.nD) → Buf (Elt Ideal) ((c.tc : Thread Cert.OutLastIdeal.nD Cert.OutLastIdeal.τ).loc Cert.OutLastIdeal.main_v2_0)) (v1 : (c : Dev Cert.OutLastIdeal.nD) → Buf (Elt Ideal) ((c.tc : Thread Cert.OutLastIdeal.nD Cert.OutLastIdeal.τ).loc Cert.OutLastIdeal.main_v2_1)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v2_0) = v0 c
          ∧ r.2.mem ((c.tc : Thread Cert.OutLastIdeal.nD Cert.OutLastIdeal.τ).loc Cert.OutLastIdeal.main_v2_1) = v1 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3))
      ∧ θ_run (Cert.OutLastRefIdeal.defs (F := Ideal)) (onTc (τ := Cert.OutLastRefIdeal.τ) (Cert.OutLastRefIdeal.main (F := Ideal))) ⟨m', fun _ => 0, g'⟩ (fun r => ∀ c : Dev Cert.OutLastRefIdeal.nD,
          r.2.mem ((c.tc : Thread Cert.OutLastRefIdeal.nD Cert.OutLastRefIdeal.τ).loc Cert.OutLastRefIdeal.main_v18) = v0 c
          ∧ r.2.mem ((c.tc : Thread Cert.OutLastRefIdeal.nD Cert.OutLastRefIdeal.τ).loc Cert.OutLastRefIdeal.main_v19) = v1 c
          ∧ r.2.mem ((c.tc : Thread Cert.OutLastRefIdeal.nD Cert.OutLastRefIdeal.τ).loc Cert.OutLastRefIdeal.main_arg0) = m' ((c.tc : Thread Cert.OutLastRefIdeal.nD Cert.OutLastRefIdeal.τ).loc Cert.OutLastRefIdeal.main_arg0)
          ∧ r.2.mem ((c.tc : Thread Cert.OutLastRefIdeal.nD Cert.OutLastRefIdeal.τ).loc Cert.OutLastRefIdeal.main_arg1) = m' ((c.tc : Thread Cert.OutLastRefIdeal.nD Cert.OutLastRefIdeal.τ).loc Cert.OutLastRefIdeal.main_arg1)
          ∧ r.2.mem ((c.tc : Thread Cert.OutLastRefIdeal.nD Cert.OutLastRefIdeal.τ).loc Cert.OutLastRefIdeal.main_arg2) = m' ((c.tc : Thread Cert.OutLastRefIdeal.nD Cert.OutLastRefIdeal.τ).loc Cert.OutLastRefIdeal.main_arg2)
          ∧ r.2.mem ((c.tc : Thread Cert.OutLastRefIdeal.nD Cert.OutLastRefIdeal.τ).loc Cert.OutLastRefIdeal.main_arg3) = m' ((c.tc : Thread Cert.OutLastRefIdeal.nD Cert.OutLastRefIdeal.τ).loc Cert.OutLastRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v67) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hNorm : Cert.Norm.Facts) (hNormIdeal : Cert.NormIdeal.Facts) (hNormRefIdeal : Cert.NormRefIdeal.Facts) (hOutProj : Cert.OutProj.Facts) (hOutProjIdeal : Cert.OutProjIdeal.Facts) (hOutProjRefIdeal : Cert.OutProjRefIdeal.Facts) (hOutLast : Cert.OutLast.Facts) (hOutLastIdeal : Cert.OutLastIdeal.Facts) (hOutLastRefIdeal : Cert.OutLastRefIdeal.Facts) (hMix : Cert.Mix.Facts) (hMixIdeal : Cert.MixIdeal.Facts) (hMixRefIdeal : Cert.MixRefIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_InProj (hInProj := hInProj)
    ∧ quiescent_InProjIdeal (hInProjIdeal := hInProjIdeal)
    ∧ quiescent_InProjRefIdeal (hInProjRefIdeal := hInProjRefIdeal)
    ∧ quiescent_Norm (hNorm := hNorm)
    ∧ quiescent_NormIdeal (hNormIdeal := hNormIdeal)
    ∧ quiescent_NormRefIdeal (hNormRefIdeal := hNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutLast (hOutLast := hOutLast)
    ∧ quiescent_OutLastIdeal (hOutLastIdeal := hOutLastIdeal)
    ∧ quiescent_OutLastRefIdeal (hOutLastRefIdeal := hOutLastRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_InProj_InProjIdeal
    ∧ algebraic_InProjIdeal_InProjRefIdeal (hInProjIdeal := hInProjIdeal) (hInProjRefIdeal := hInProjRefIdeal)
    ∧ preserves_Norm_NormIdeal
    ∧ algebraic_NormIdeal_NormRefIdeal (hNormIdeal := hNormIdeal) (hNormRefIdeal := hNormRefIdeal)
    ∧ preserves_OutProj_OutProjIdeal
    ∧ algebraic_OutProjIdeal_OutProjRefIdeal (hOutProjIdeal := hOutProjIdeal) (hOutProjRefIdeal := hOutProjRefIdeal)
    ∧ preserves_OutLast_OutLastIdeal
    ∧ algebraic_OutLastIdeal_OutLastRefIdeal (hOutLastIdeal := hOutLastIdeal) (hOutLastRefIdeal := hOutLastRefIdeal)
    ∧ preserves_Mix_MixIdeal
    ∧ algebraic_MixIdeal_MixRefIdeal (hMixIdeal := hMixIdeal) (hMixRefIdeal := hMixRefIdeal)
-- ==== Pre_finite_arguments.lean ====
abbrev S8704x10240 : Shape := ⟨2, ![8704, 10240]⟩
abbrev S256x64x16 : Shape := ⟨3, ![256, 64, 16]⟩
abbrev S256x16x64 : Shape := ⟨3, ![256, 16, 64]⟩
abbrev S256x64 : Shape := ⟨2, ![256, 64]⟩
abbrev S2x2048 : Shape := ⟨2, ![2, 2048]⟩
abbrev S128x128x64 : Shape := ⟨3, ![128, 128, 64]⟩
abbrev S_ : Shape := ⟨0, ![]⟩

class Facts : Prop where
  bcast_S_S8704x10240 : S_.BroadcastsInDim S8704x10240 (![] : Fin 0 → Fin S8704x10240.rank)
  bcast_S_S256x64x16 : S_.BroadcastsInDim S256x64x16 (![] : Fin 0 → Fin S256x64x16.rank)
  bcast_S_S256x16x64 : S_.BroadcastsInDim S256x16x64 (![] : Fin 0 → Fin S256x16x64.rank)
  bcast_S_S256x64 : S_.BroadcastsInDim S256x64 (![] : Fin 0 → Fin S256x64.rank)
  bcast_S_S128x128x64 : S_.BroadcastsInDim S128x128x64 (![] : Fin 0 → Fin S128x128x64.rank)

variable [Facts]

def fn_part1 {F : FTy → Type} [FloatOps F] (main_arg6 : FVec F S256x64 .f32) (main_arg8 : FVec F S128x128x64 .f32) (main_arg9 : FVec F S128x128x64 .f32) (main_v2 : IVec S8704x10240 1) (main_v5 : IVec S256x64x16 1) (main_v8 : IVec S256x64x16 1) (main_v11 : IVec S256x16x64 1) (main_v14 : IVec S256x16x64 1) (main_v17 : IVec S256x64 1) : IVec S8704x10240 1 × IVec S256x64x16 1 × IVec S256x64x16 1 × IVec S256x16x64 1 × IVec S256x16x64 1 × IVec S256x64 1 × IVec S256x64 1 × IVec S128x128x64 1 × IVec S128x128x64 1 :=
  let main_v18 : FVec F S256x64 .f32 := Host.absf main_arg6
  let main_cst_5 : FVec F S_ .f32 := constant S_ .f32 0x7F800000#32
  let main_v19 : FVec F S256x64 .f32 := broadcastInDim S256x64 ![] bcast_S_S256x64 main_cst_5
  let main_v20 : IVec S256x64 1 := cmpf .olt main_v18 main_v19
  let main_v21 : FVec F S128x128x64 .f32 := Host.absf main_arg8
  let main_cst_6 : FVec F S_ .f32 := constant S_ .f32 0x7F800000#32
  let main_v22 : FVec F S128x128x64 .f32 := broadcastInDim S128x128x64 ![] bcast_S_S128x128x64 main_cst_6
  let main_v23 : IVec S128x128x64 1 := cmpf .olt main_v21 main_v22
  let main_v24 : FVec F S128x128x64 .f32 := Host.absf main_arg9
  let main_cst_7 : FVec F S_ .f32 := constant S_ .f32 0x7F800000#32
  let main_v25 : FVec F S128x128x64 .f32 := broadcastInDim S128x128x64 ![] bcast_S_S128x128x64 main_cst_7
  let main_v26 : IVec S128x128x64 1 := cmpf .olt main_v24 main_v25
  (main_v2, main_v5, main_v8, main_v11, main_v14, main_v17, main_v20, main_v23, main_v26)

def fn {F : FTy → Type} [FloatOps F] (main_arg0 : FVec F S8704x10240 .f32) (main_arg1 : FVec F S256x64x16 .f32) (main_arg2 : FVec F S256x64x16 .f32) (main_arg3 : FVec F S256x16x64 .f32) (main_arg4 : FVec F S256x16x64 .f32) (main_arg5 : FVec F S256x64 .f32) (main_arg6 : FVec F S256x64 .f32) (main_arg7 : FVec F S2x2048 .f32) (main_arg8 : FVec F S128x128x64 .f32) (main_arg9 : FVec F S128x128x64 .f32) : IVec S8704x10240 1 × IVec S256x64x16 1 × IVec S256x64x16 1 × IVec S256x16x64 1 × IVec S256x16x64 1 × IVec S256x64 1 × IVec S256x64 1 × IVec S128x128x64 1 × IVec S128x128x64 1 :=
  let main_v0 : FVec F S8704x10240 .f32 := Host.absf main_arg0
  let main_cst : FVec F S_ .f32 := constant S_ .f32 0x7F800000#32
  let main_v1 : FVec F S8704x10240 .f32 := broadcastInDim S8704x10240 ![] bcast_S_S8704x10240 main_cst
  let main_v2 : IVec S8704x10240 1 := cmpf .olt main_v0 main_v1
  let main_v3 : FVec F S256x64x16 .f32 := Host.absf main_arg1
  let main_cst_0 : FVec F S_ .f32 := constant S_ .f32 0x7F800000#32
  let main_v4 : FVec F S256x64x16 .f32 := broadcastInDim S256x64x16 ![] bcast_S_S256x64x16 main_cst_0
  let main_v5 : IVec S256x64x16 1 := cmpf .olt main_v3 main_v4
  let main_v6 : FVec F S256x64x16 .f32 := Host.absf main_arg2
  let main_cst_1 : FVec F S_ .f32 := constant S_ .f32 0x7F800000#32
  let main_v7 : FVec F S256x64x16 .f32 := broadcastInDim S256x64x16 ![] bcast_S_S256x64x16 main_cst_1
  let main_v8 : IVec S256x64x16 1 := cmpf .olt main_v6 main_v7
  let main_v9 : FVec F S256x16x64 .f32 := Host.absf main_arg3
  let main_cst_2 : FVec F S_ .f32 := constant S_ .f32 0x7F800000#32
  let main_v10 : FVec F S256x16x64 .f32 := broadcastInDim S256x16x64 ![] bcast_S_S256x16x64 main_cst_2
  let main_v11 : IVec S256x16x64 1 := cmpf .olt main_v9 main_v10
  let main_v12 : FVec F S256x16x64 .f32 := Host.absf main_arg4
  let main_cst_3 : FVec F S_ .f32 := constant S_ .f32 0x7F800000#32
  let main_v13 : FVec F S256x16x64 .f32 := broadcastInDim S256x16x64 ![] bcast_S_S256x16x64 main_cst_3
  let main_v14 : IVec S256x16x64 1 := cmpf .olt main_v12 main_v13
  let main_v15 : FVec F S256x64 .f32 := Host.absf main_arg5
  let main_cst_4 : FVec F S_ .f32 := constant S_ .f32 0x7F800000#32
  let main_v16 : FVec F S256x64 .f32 := broadcastInDim S256x64 ![] bcast_S_S256x64 main_cst_4
  let main_v17 : IVec S256x64 1 := cmpf .olt main_v15 main_v16
  fn_part1 (F := F) main_arg6 main_arg8 main_arg9 main_v2 main_v5 main_v8 main_v11 main_v14 main_v17
-- ==== Kernel.lean ====
abbrev S8704x10240 : Shape := ⟨2, ![8704, 10240]⟩
abbrev S256x64x16 : Shape := ⟨3, ![256, 64, 16]⟩
abbrev S256x16x64 : Shape := ⟨3, ![256, 16, 64]⟩
abbrev S256x64 : Shape := ⟨2, ![256, 64]⟩
abbrev S2x2048 : Shape := ⟨2, ![2, 2048]⟩
abbrev S128x128x64 : Shape := ⟨3, ![128, 128, 64]⟩
abbrev S16x16x64x16 : Shape := ⟨4, ![16, 16, 64, 16]⟩
abbrev S16x16x16x64 : Shape := ⟨4, ![16, 16, 16, 64]⟩
abbrev S16x256x64 : Shape := ⟨3, ![16, 256, 64]⟩
abbrev S256x1024 : Shape := ⟨2, ![256, 1024]⟩
abbrev S_ : Shape := ⟨0, ![]⟩
abbrev S1x16x1x256x1x64 : Shape := ⟨6, ![1, 16, 1, 256, 1, 64]⟩
abbrev S1x16x1x256x16x64 : Shape := ⟨6, ![1, 16, 1, 256, 16, 64]⟩
abbrev S16x256x1024 : Shape := ⟨3, ![16, 256, 1024]⟩
abbrev S16x64x16x16 : Shape := ⟨4, ![16, 64, 16, 16]⟩
abbrev S16x64x256 : Shape := ⟨3, ![16, 64, 256]⟩
abbrev S1024x256 : Shape := ⟨2, ![1024, 256]⟩
abbrev S1x16x1x64x1x256 : Shape := ⟨6, ![1, 16, 1, 64, 1, 256]⟩
abbrev S1x16x16x64x1x256 : Shape := ⟨6, ![1, 16, 16, 64, 1, 256]⟩
abbrev S16x1024x256 : Shape := ⟨3, ![16, 1024, 256]⟩
abbrev S2x1x8192 : Shape := ⟨3, ![2, 1, 8192]⟩
abbrev S2x1x2048 : Shape := ⟨3, ![2, 1, 2048]⟩
abbrev S128x8192 : Shape := ⟨2, ![128, 8192]⟩
abbrev S128x128 : Shape := ⟨2, ![128, 128]⟩
abbrev S512x2048 : Shape := ⟨2, ![512, 2048]⟩
abbrev S128x2048 : Shape := ⟨2, ![128, 2048]⟩
abbrev S8x256x1024 : Shape := ⟨3, ![8, 256, 1024]⟩
abbrev S8x1024x256 : Shape := ⟨3, ![8, 1024, 256]⟩
abbrev S1x1x8192 : Shape := ⟨3, ![1, 1, 8192]⟩
abbrev S1x1x2048 : Shape := ⟨3, ![1, 1, 2048]⟩
abbrev S32x8192 : Shape := ⟨2, ![32, 8192]⟩
abbrev S128x256 : Shape := ⟨2, ![128, 256]⟩
abbrev S1x256x1024 : Shape := ⟨3, ![1, 256, 1024]⟩
abbrev S128x1024 : Shape := ⟨2, ![128, 1024]⟩
abbrev S1x1x512 : Shape := ⟨3, ![1, 1, 512]⟩
abbrev S1x512 : Shape := ⟨2, ![1, 512]⟩
abbrev S32x512 : Shape := ⟨2, ![32, 512]⟩
abbrev S1x1024x256 : Shape := ⟨3, ![1, 1024, 256]⟩
abbrev S1x2048 : Shape := ⟨2, ![1, 2048]⟩

abbrev nBuf : Space → Nat
  | .hbm => 125
  | .vmem => 24
  | .smem => 0
  | _ => 0

abbrev bufTy : (tb : Table) → Fin (tcTables nBuf tb) → BufTy
  | .hbm, ⟨0, _⟩ => ⟨S8704x10240, .f32⟩
  | .hbm, ⟨1, _⟩ => ⟨S256x64x16, .f32⟩
  | .hbm, ⟨2, _⟩ => ⟨S256x64x16, .f32⟩
  | .hbm, ⟨3, _⟩ => ⟨S256x16x64, .f32⟩
  | .hbm, ⟨4, _⟩ => ⟨S256x16x64, .f32⟩
  | .hbm, ⟨5, _⟩ => ⟨S256x64, .f32⟩
  | .hbm, ⟨6, _⟩ => ⟨S256x64, .f32⟩
  | .hbm, ⟨7, _⟩ => ⟨S2x2048, .f32⟩
  | .hbm, ⟨8, _⟩ => ⟨S128x128x64, .f32⟩
  | .hbm, ⟨9, _⟩ => ⟨S128x128x64, .f32⟩
  | .hbm, ⟨10, _⟩ => ⟨S16x16x64x16, .f32⟩
  | .hbm, ⟨11, _⟩ => ⟨S16x16x16x64, .f32⟩
  | .hbm, ⟨12, _⟩ => ⟨S16x256x64, .f32⟩
  | .hbm, ⟨13, _⟩ => ⟨S256x1024, .i32⟩
  | .hbm, ⟨14, _⟩ => ⟨S256x1024, .i32⟩
  | .hbm, ⟨15, _⟩ => ⟨S_, .i32⟩
  | .hbm, ⟨16, _⟩ => ⟨S256x1024, .i32⟩
  | .hbm, ⟨17, _⟩ => ⟨S256x1024, .i32⟩
  | .hbm, ⟨18, _⟩ => ⟨S_, .i32⟩
  | .hbm, ⟨19, _⟩ => ⟨S256x1024, .i32⟩
  | .hbm, ⟨20, _⟩ => ⟨S256x1024, .i32⟩
  | .hbm, ⟨21, _⟩ => ⟨S256x1024, .i1⟩
  | .hbm, ⟨22, _⟩ => ⟨S1x16x1x256x1x64, .f32⟩
  | .hbm, ⟨23, _⟩ => ⟨S1x16x1x256x16x64, .f32⟩
  | .hbm, ⟨24, _⟩ => ⟨S16x256x1024, .f32⟩
  | .hbm, ⟨25, _⟩ => ⟨S_, .f32⟩
  | .hbm, ⟨26, _⟩ => ⟨S_, .f32⟩
  | .hbm, ⟨27, _⟩ => ⟨S16x256x1024, .i1⟩
  | .hbm, ⟨28, _⟩ => ⟨S16x256x1024, .f32⟩
  | .hbm, ⟨29, _⟩ => ⟨S16x256x1024, .f32⟩
  | .hbm, ⟨30, _⟩ => ⟨S16x256x1024, .bf16⟩
  | .hbm, ⟨31, _⟩ => ⟨S16x16x64x16, .f32⟩
  | .hbm, ⟨32, _⟩ => ⟨S16x16x16x64, .f32⟩
  | .hbm, ⟨33, _⟩ => ⟨S16x256x64, .f32⟩
  | .hbm, ⟨34, _⟩ => ⟨S256x1024, .i32⟩
  | .hbm, ⟨35, _⟩ => ⟨S256x1024, .i32⟩
  | .hbm, ⟨36, _⟩ => ⟨S_, .i32⟩
  | .hbm, ⟨37, _⟩ => ⟨S256x1024, .i32⟩
  | .hbm, ⟨38, _⟩ => ⟨S256x1024, .i32⟩
  | .hbm, ⟨39, _⟩ => ⟨S_, .i32⟩
  | .hbm, ⟨40, _⟩ => ⟨S256x1024, .i32⟩
  | .hbm, ⟨41, _⟩ => ⟨S256x1024, .i32⟩
  | .hbm, ⟨42, _⟩ => ⟨S256x1024, .i1⟩
  | .hbm, ⟨43, _⟩ => ⟨S1x16x1x256x1x64, .f32⟩
  | .hbm, ⟨44, _⟩ => ⟨S1x16x1x256x16x64, .f32⟩
  | .hbm, ⟨45, _⟩ => ⟨S16x256x1024, .f32⟩
  | .hbm, ⟨46, _⟩ => ⟨S_, .f32⟩
  | .hbm, ⟨47, _⟩ => ⟨S_, .f32⟩
  | .hbm, ⟨48, _⟩ => ⟨S16x256x1024, .i1⟩
  | .hbm, ⟨49, _⟩ => ⟨S16x256x1024, .f32⟩
  | .hbm, ⟨50, _⟩ => ⟨S16x256x1024, .f32⟩
  | .hbm, ⟨51, _⟩ => ⟨S16x256x1024, .bf16⟩
  | .hbm, ⟨52, _⟩ => ⟨S16x16x16x64, .f32⟩
  | .hbm, ⟨53, _⟩ => ⟨S16x64x16x16, .f32⟩
  | .hbm, ⟨54, _⟩ => ⟨S16x64x256, .f32⟩
  | .hbm, ⟨55, _⟩ => ⟨S256x1024, .i32⟩
  | .hbm, ⟨56, _⟩ => ⟨S256x1024, .i32⟩
  | .hbm, ⟨57, _⟩ => ⟨S_, .i32⟩
  | .hbm, ⟨58, _⟩ => ⟨S256x1024, .i32⟩
  | .hbm, ⟨59, _⟩ => ⟨S256x1024, .i32⟩
  | .hbm, ⟨60, _⟩ => ⟨S_, .i32⟩
  | .hbm, ⟨61, _⟩ => ⟨S256x1024, .i32⟩
  | .hbm, ⟨62, _⟩ => ⟨S256x1024, .i32⟩
  | .hbm, ⟨63, _⟩ => ⟨S256x1024, .i1⟩
  | .hbm, ⟨64, _⟩ => ⟨S1024x256, .i1⟩
  | .hbm, ⟨65, _⟩ => ⟨S1x16x1x64x1x256, .f32⟩
  | .hbm, ⟨66, _⟩ => ⟨S1x16x16x64x1x256, .f32⟩
  | .hbm, ⟨67, _⟩ => ⟨S16x1024x256, .f32⟩
  | .hbm, ⟨68, _⟩ => ⟨S_, .f32⟩
  | .hbm, ⟨69, _⟩ => ⟨S_, .f32⟩
  | .hbm, ⟨70, _⟩ => ⟨S16x1024x256, .i1⟩
  | .hbm, ⟨71, _⟩ => ⟨S16x1024x256, .f32⟩
  | .hbm, ⟨72, _⟩ => ⟨S16x1024x256, .f32⟩
  | .hbm, ⟨73, _⟩ => ⟨S16x1024x256, .bf16⟩
  | .hbm, ⟨74, _⟩ => ⟨S16x16x16x64, .f32⟩
  | .hbm, ⟨75, _⟩ => ⟨S16x64x16x16, .f32⟩
  | .hbm, ⟨76, _⟩ => ⟨S16x64x256, .f32⟩
  | .hbm, ⟨77, _⟩ => ⟨S256x1024, .i32⟩
  | .hbm, ⟨78, _⟩ => ⟨S256x1024, .i32⟩
  | .hbm, ⟨79, _⟩ => ⟨S_, .i32⟩
  | .hbm, ⟨80, _⟩ => ⟨S256x1024, .i32⟩
  | .hbm, ⟨81, _⟩ => ⟨S256x1024, .i32⟩
  | .hbm, ⟨82, _⟩ => ⟨S_, .i32⟩
  | .hbm, ⟨83, _⟩ => ⟨S256x1024, .i32⟩
  | .hbm, ⟨84, _⟩ => ⟨S256x1024, .i32⟩
  | .hbm, ⟨85, _⟩ => ⟨S256x1024, .i1⟩
  | .hbm, ⟨86, _⟩ => ⟨S1024x256, .i1⟩
  | .hbm, ⟨87, _⟩ => ⟨S1x16x1x64x1x256, .f32⟩
  | .hbm, ⟨88, _⟩ => ⟨S1x16x16x64x1x256, .f32⟩
  | .hbm, ⟨89, _⟩ => ⟨S16x1024x256, .f32⟩
  | .hbm, ⟨90, _⟩ => ⟨S_, .f32⟩
  | .hbm, ⟨91, _⟩ => ⟨S_, .f32⟩
  | .hbm, ⟨92, _⟩ => ⟨S16x1024x256, .i1⟩
  | .hbm, ⟨93, _⟩ => ⟨S16x1024x256, .f32⟩
  | .hbm, ⟨94, _⟩ => ⟨S16x1024x256, .f32⟩
  | .hbm, ⟨95, _⟩ => ⟨S16x1024x256, .bf16⟩
  | .hbm, ⟨96, _⟩ => ⟨S2x1x8192, .f32⟩
  | .hbm, ⟨97, _⟩ => ⟨S2x1x8192, .f32⟩
  | .hbm, ⟨98, _⟩ => ⟨S2x1x2048, .f32⟩
  | .hbm, ⟨99, _⟩ => ⟨S128x8192, .f32⟩
  | .hbm, ⟨100, _⟩ => ⟨S128x8192, .f32⟩
  | .hbm, ⟨101, _⟩ => ⟨S128x128, .i32⟩
  | .hbm, ⟨102, _⟩ => ⟨S128x128, .i32⟩
  | .hbm, ⟨103, _⟩ => ⟨S_, .i32⟩
  | .hbm, ⟨104, _⟩ => ⟨S128x128, .i32⟩
  | .hbm, ⟨105, _⟩ => ⟨S128x128, .i32⟩
  | .hbm, ⟨106, _⟩ => ⟨S_, .i32⟩
  | .hbm, ⟨107, _⟩ => ⟨S128x128, .i32⟩
  | .hbm, ⟨108, _⟩ => ⟨S128x128, .i32⟩
  | .hbm, ⟨109, _⟩ => ⟨S_, .i32⟩
  | .hbm, ⟨110, _⟩ => ⟨S128x128, .i32⟩
  | .hbm, ⟨111, _⟩ => ⟨S128x128, .i32⟩
  | .hbm, ⟨112, _⟩ => ⟨S128x128, .i32⟩
  | .hbm, ⟨113, _⟩ => ⟨S128x128, .i1⟩
  | .hbm, ⟨114, _⟩ => ⟨S_, .f32⟩
  | .hbm, ⟨115, _⟩ => ⟨S_, .f32⟩
  | .hbm, ⟨116, _⟩ => ⟨S128x128, .f32⟩
  | .hbm, ⟨117, _⟩ => ⟨S128x128, .f32⟩
  | .hbm, ⟨118, _⟩ => ⟨S128x128, .f32⟩
  | .hbm, ⟨119, _⟩ => ⟨S128x128, .bf16⟩
  | .hbm, ⟨120, _⟩ => ⟨S128x128, .f32⟩
  | .hbm, ⟨121, _⟩ => ⟨S128x128, .bf16⟩
  | .hbm, ⟨122, _⟩ => ⟨S512x2048, .f32⟩
  | .hbm, ⟨123, _⟩ => ⟨S128x8192, .f32⟩
  | .hbm, ⟨124, _⟩ => ⟨S128x8192, .f32⟩
  | .local _ .vmem, ⟨0, _⟩ => ⟨S128x2048, .f32⟩
  | .local _ .vmem, ⟨1, _⟩ => ⟨S128x2048, .f32⟩
  | .local _ .vmem, ⟨2, _⟩ => ⟨S8x256x1024, .bf16⟩
  | .local _ .vmem, ⟨3, _⟩ => ⟨S8x256x1024, .bf16⟩
  | .local _ .vmem, ⟨4, _⟩ => ⟨S8x1024x256, .bf16⟩
  | .local _ .vmem, ⟨5, _⟩ => ⟨S8x1024x256, .bf16⟩
  | .local _ .vmem, ⟨6, _⟩ => ⟨S1x1x8192, .f32⟩
  | .local _ .vmem, ⟨7, _⟩ => ⟨S1x1x8192, .f32⟩
  | .local _ .vmem, ⟨8, _⟩ => ⟨S1x1x2048, .f32⟩
  | .local _ .vmem, ⟨9, _⟩ => ⟨S128x128, .bf16⟩
  | .local _ .vmem, ⟨10, _⟩ => ⟨S128x128, .bf16⟩
  | .local _ .vmem, ⟨11, _⟩ => ⟨S32x8192, .f32⟩
  | .local _ .vmem, ⟨12, _⟩ => ⟨S32x8192, .f32⟩
  | .local _ .vmem, ⟨13, _⟩ => ⟨S32x8192, .f32⟩
  | .local _ .vmem, ⟨14, _⟩ => ⟨S32x8192, .f32⟩
  | .local _ .vmem, ⟨15, _⟩ => ⟨S128x2048, .f32⟩
  | .local _ .vmem, ⟨16, _⟩ => ⟨S128x2048, .f32⟩
  | .local _ .vmem, ⟨17, _⟩ => ⟨S32x8192, .f32⟩
  | .local _ .vmem, ⟨18, _⟩ => ⟨S32x8192, .f32⟩
  | .local _ .vmem, ⟨19, _⟩ => ⟨S32x8192, .f32⟩
  | .local _ .vmem, ⟨20, _⟩ => ⟨S32x8192, .f32⟩
  | .local _ .vmem, ⟨21, _⟩ => ⟨S128x8192, .f32⟩
  | .local _ .vmem, ⟨22, _⟩ => ⟨S128x8192, .f32⟩
  | .local _ .vmem, ⟨23, _⟩ => ⟨S128x2048, .f32⟩
  | _, _ => ⟨S8704x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_7 : Ref sig .tc := ⟨.hbm, 79, rfl⟩
abbrev main_v51 : Ref sig .tc := ⟨.hbm, 80, rfl⟩
abbrev main_v52 : Ref sig .tc := ⟨.hbm, 81, rfl⟩
abbrev main_c_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_10 : Ref sig .tc := ⟨.hbm, 103, rfl⟩
abbrev main_v69 : Ref sig .tc := ⟨.hbm, 104, rfl⟩
abbrev main_v70 : Ref sig .tc := ⟨.hbm, 105, rfl⟩
abbrev main_c_11 : Ref sig .tc := ⟨.hbm, 106, rfl⟩
abbrev main_v71 : Ref sig .tc := ⟨.hbm, 107, rfl⟩
abbrev main_v72 : Ref sig .tc := ⟨.hbm, 108, rfl⟩
abbrev main_c_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_13 : Ref sig .tc := ⟨.hbm, 114, rfl⟩
abbrev main_cst_14 : Ref sig .tc := ⟨.hbm, 115, rfl⟩
abbrev main_call4_v0 : Ref sig .tc := ⟨.hbm, 116, rfl⟩
abbrev main_call4_v1 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81_0 : Ref sig .tc := ⟨.hbm, 122, rfl⟩
abbrev main_v81_1 : Ref sig .tc := ⟨.hbm, 123, rfl⟩
abbrev main_v81_2 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8704x10240 : Shape := ⟨2, ![8704, 10240]⟩
abbrev S256x64x16 : Shape := ⟨3, ![256, 64, 16]⟩
abbrev S256x16x64 : Shape := ⟨3, ![256, 16, 64]⟩
abbrev S256x64 : Shape := ⟨2, ![256, 64]⟩
abbrev S2x2048 : Shape := ⟨2, ![2, 2048]⟩
abbrev S128x128x64 : Shape := ⟨3, ![128, 128, 64]⟩
abbrev S2x128x64x16 : Shape := ⟨4, ![2, 128, 64, 16]⟩
abbrev S1x128x64x16 : Shape := ⟨4, ![1, 128, 64, 16]⟩
abbrev S128x64x16 : Shape := ⟨3, ![128, 64, 16]⟩
abbrev S2x128x16x64 : Shape := ⟨4, ![2, 128, 16, 64]⟩
abbrev S1x128x16x64 : Shape := ⟨4, ![1, 128, 16, 64]⟩
abbrev S128x16x64 : Shape := ⟨3, ![128, 16, 64]⟩
abbrev S2x128x64 : Shape := ⟨3, ![2, 128, 64]⟩
abbrev S1x128x64 : Shape := ⟨3, ![1, 128, 64]⟩
abbrev S128x64 : Shape := ⟨2, ![128, 64]⟩
abbrev S512x2048 : Shape := ⟨2, ![512, 2048]⟩
abbrev S128x4x2048 : Shape := ⟨3, ![128, 4, 2048]⟩
abbrev S128x4x128x16 : Shape := ⟨4, ![128, 4, 128, 16]⟩
abbrev S4x128x128x16 : Shape := ⟨4, ![4, 128, 128, 16]⟩
abbrev S1x128x128x16 : Shape := ⟨4, ![1, 128, 128, 16]⟩
abbrev S128x128x16 : Shape := ⟨3, ![128, 128, 16]⟩
abbrev S128x128x1x16 : Shape := ⟨4, ![128, 128, 1, 16]⟩
abbrev S128x128x64x16 : Shape := ⟨4, ![128, 128, 64, 16]⟩
abbrev S_ : Shape := ⟨0, ![]⟩
abbrev S128x16x128 : Shape := ⟨3, ![128, 16, 128]⟩
abbrev S128x1x128x16 : Shape := ⟨4, ![128, 1, 128, 16]⟩
abbrev S1x2048 : Shape := ⟨2, ![1, 2048]⟩
abbrev S2048 : Shape := ⟨1, ![2048]⟩
abbrev S1x1x2048 : Shape := ⟨3, ![1, 1, 2048]⟩
abbrev S128x8192 : Shape := ⟨2, ![128, 8192]⟩

abbrev nBuf : Space → Nat
  | .hbm => 203
  | .vmem => 0
  | .smem => 0
  | _ => 0

abbrev hbmTy0_0 (i : Nat) : BufTy := match i % 128 with
  | 0 => ⟨S8704x10240, .f32⟩
  | 1 => ⟨S256x64x16, .f32⟩
  | 2 => ⟨S256x64x16, .f32⟩
  | 3 => ⟨S256x16x64, .f32⟩
  | 4 => ⟨S256x16x64, .f32⟩
  | 5 => ⟨S256x64, .f32⟩
  | 6 => ⟨S256x64, .f32⟩
  | 7 => ⟨S2x2048, .f32⟩
  | 8 => ⟨S128x128x64, .f32⟩
  | 9 => ⟨S128x128x64, .f32⟩
  | 10 => ⟨S2x128x64x16, .f32⟩
  | 11 => ⟨S1x128x64x16, .f32⟩
  | 12 => ⟨S128x64x16, .f32⟩
  | 13 => ⟨S2x128x64x16, .f32⟩
  | 14 => ⟨S1x128x64x16, .f32⟩
  | 15 => ⟨S128x64x16, .f32⟩
  | 16 => ⟨S2x128x16x64, .f32⟩
  | 17 => ⟨S1x128x16x64, .f32⟩
  | 18 => ⟨S128x16x64, .f32⟩
  | 19 => ⟨S2x128x16x64, .f32⟩
  | 20 => ⟨S1x128x16x64, .f32⟩
  | 21 => ⟨S128x16x64, .f32⟩
  | 22 => ⟨S2x128x64, .f32⟩
  | 23 => ⟨S1x128x64, .f32⟩
  | 24 => ⟨S128x64, .f32⟩
  | 25 => ⟨S2x128x64, .f32⟩
  | 26 => ⟨S1x128x64, .f32⟩
  | 27 => ⟨S128x64, .f32⟩
  | 28 => ⟨S512x2048, .f32⟩
  | 29 => ⟨S128x4x2048, .f32⟩
  | 30 => ⟨S128x4x128x16, .f32⟩
  | 31 => ⟨S4x128x128x16, .f32⟩
  | 32 => ⟨S1x128x128x16, .f32⟩
  | 33 => ⟨S128x128x16, .f32⟩
  | 34 => ⟨S128x128x1x16, .f32⟩
  | 35 => ⟨S1x128x64x16, .f32⟩
  | 36 => ⟨S128x128x64x16, .f32⟩
  | 37 => ⟨S128x128x64x16, .f32⟩
  | 38 => ⟨S128x128x64x16, .f32⟩
  | 39 => ⟨S_, .f32⟩
  | 40 => ⟨S128x128x64, .f32⟩
  | 41 => ⟨S1x128x128x16, .f32⟩
  | 42 => ⟨S128x128x16, .f32⟩
  | 43 => ⟨S128x128x1x16, .f32⟩
  | 44 => ⟨S1x128x64x16, .f32⟩
  | 45 => ⟨S128x128x64x16, .f32⟩
  | 46 => ⟨S128x128x64x16, .f32⟩
  | 47 => ⟨S128x128x64x16, .f32⟩
  | 48 => ⟨S_, .f32⟩
  | 49 => ⟨S128x128x64, .f32⟩
  | 50 => ⟨S1x128x64, .f32⟩
  | 51 => ⟨S128x128x64, .f32⟩
  | 52 => ⟨S128x128x64, .f32⟩
  | 53 => ⟨S1x128x64, .f32⟩
  | 54 => ⟨S128x128x64, .f32⟩
  | 55 => ⟨S128x128x64, .f32⟩
  | 56 => ⟨S128x128x64, .f32⟩
  | 57 => ⟨S128x128x64, .f32⟩
  | 58 => ⟨S1x128x64, .f32⟩
  | 59 => ⟨S128x128x64, .f32⟩
  | 60 => ⟨S128x128x64, .f32⟩
  | 61 => ⟨S1x128x64, .f32⟩
  | 62 => ⟨S128x128x64, .f32⟩
  | 63 => ⟨S128x128x64, .f32⟩
  | 64 => ⟨S128x128x64, .f32⟩
  | 65 => ⟨S128x128x64, .f32⟩
  | 66 => ⟨S128x16x128, .f32⟩
  | 67 => ⟨S128x128x16, .f32⟩
  | 68 => ⟨S128x16x128, .f32⟩
  | 69 => ⟨S128x128x16, .f32⟩
  | 70 => ⟨S128x128x16, .f32⟩
  | 71 => ⟨S1x128x128x16, .f32⟩
  | 72 => ⟨S128x128x16, .f32⟩
  | 73 => ⟨S128x128x1x16, .f32⟩
  | 74 => ⟨S1x128x64x16, .f32⟩
  | 75 => ⟨S128x128x64x16, .f32⟩
  | 76 => ⟨S128x128x64x16, .f32⟩
  | 77 => ⟨S128x128x64x16, .f32⟩
  | 78 => ⟨S_, .f32⟩
  | 79 => ⟨S128x128x64, .f32⟩
  | 80 => ⟨S1x128x128x16, .f32⟩
  | 81 => ⟨S128x128x16, .f32⟩
  | 82 => ⟨S128x128x1x16, .f32⟩
  | 83 => ⟨S1x128x64x16, .f32⟩
  | 84 => ⟨S128x128x64x16, .f32⟩
  | 85 => ⟨S128x128x64x16, .f32⟩
  | 86 => ⟨S128x128x64x16, .f32⟩
  | 87 => ⟨S_, .f32⟩
  | 88 => ⟨S128x128x64, .f32⟩
  | 89 => ⟨S1x128x64, .f32⟩
  | 90 => ⟨S128x128x64, .f32⟩
  | 91 => ⟨S128x128x64, .f32⟩
  | 92 => ⟨S1x128x64, .f32⟩
  | 93 => ⟨S128x128x64, .f32⟩
  | 94 => ⟨S128x128x64, .f32⟩
  | 95 => ⟨S128x128x64, .f32⟩
  | 96 => ⟨S128x128x64, .f32⟩
  | 97 => ⟨S1x128x64, .f32⟩
  | 98 => ⟨S128x128x64, .f32⟩
  | 99 => ⟨S128x128x64, .f32⟩
  | 100 => ⟨S1x128x64, .f32⟩
  | 101 => ⟨S128x128x64, .f32⟩
  | 102 => ⟨S128x128x64, .f32⟩
  | 103 => ⟨S128x128x64, .f32⟩
  | 104 => ⟨S128x128x64, .f32⟩
  | 105 => ⟨S128x16x128, .f32⟩
  | 106 => ⟨S128x128x16, .f32⟩
  | 107 => ⟨S128x16x128, .f32⟩
  | 108 => ⟨S128x128x16, .f32⟩
  | 109 => ⟨S128x128x16, .f32⟩
  | 110 => ⟨S1x128x128x16, .f32⟩
  | 111 => ⟨S128x128x16, .f32⟩
  | 112 => ⟨S128x128x1x16, .f32⟩
  | 113 => ⟨S1x128x64x16, .f32⟩
  | 114 => ⟨S128x128x64x16, .f32⟩
  | 115 => ⟨S128x128x64x16, .f32⟩
  | 116 => ⟨S128x128x64x16, .f32⟩
  | 117 => ⟨S_, .f32⟩
  | 118 => ⟨S128x128x64, .f32⟩
  | 119 => ⟨S1x128x128x16, .f32⟩
  | 120 => ⟨S128x128x16, .f32⟩
  | 121 => ⟨S128x128x1x16, .f32⟩
  | 122 => ⟨S1x128x64x16, .f32⟩
  | 123 => ⟨S128x128x64x16, .f32⟩
  | 124 => ⟨S128x128x64x16, .f32⟩
  | 125 => ⟨S128x128x64x16, .f32⟩
  | 126 => ⟨S_, .f32⟩
  | 127 => ⟨S128x128x64, .f32⟩
  | _ => ⟨S8704x10240, .f32⟩

abbrev hbmTy0_1 (i : Nat) : BufTy := match i % 128 with
  | 0 => ⟨S1x128x64, .f32⟩
  | 1 => ⟨S128x128x64, .f32⟩
  | 2 => ⟨S128x128x64, .f32⟩
  | 3 => ⟨S1x128x64, .f32⟩
  | 4 => ⟨S128x128x64, .f32⟩
  | 5 => ⟨S128x128x64, .f32⟩
  | 6 => ⟨S128x128x64, .f32⟩
  | 7 => ⟨S128x128x64, .f32⟩
  | 8 => ⟨S1x128x64, .f32⟩
  | 9 => ⟨S128x128x64, .f32⟩
  | 10 => ⟨S128x128x64, .f32⟩
  | 11 => ⟨S1x128x64, .f32⟩
  | 12 => ⟨S128x128x64, .f32⟩
  | 13 => ⟨S128x128x64, .f32⟩
  | 14 => ⟨S128x128x64, .f32⟩
  | 15 => ⟨S128x128x64, .f32⟩
  | 16 => ⟨S128x16x128, .f32⟩
  | 17 => ⟨S128x128x16, .f32⟩
  | 18 => ⟨S128x16x128, .f32⟩
  | 19 => ⟨S128x128x16, .f32⟩
  | 20 => ⟨S128x128x16, .f32⟩
  | 21 => ⟨S1x128x128x16, .f32⟩
  | 22 => ⟨S128x128x16, .f32⟩
  | 23 => ⟨S128x128x1x16, .f32⟩
  | 24 => ⟨S1x128x64x16, .f32⟩
  | 25 => ⟨S128x128x64x16, .f32⟩
  | 26 => ⟨S128x128x64x16, .f32⟩
  | 27 => ⟨S128x128x64x16, .f32⟩
  | 28 => ⟨S_, .f32⟩
  | 29 => ⟨S128x128x64, .f32⟩
  | 30 => ⟨S1x128x128x16, .f32⟩
  | 31 => ⟨S128x128x16, .f32⟩
  | 32 => ⟨S128x128x1x16, .f32⟩
  | 33 => ⟨S1x128x64x16, .f32⟩
  | 34 => ⟨S128x128x64x16, .f32⟩
  | 35 => ⟨S128x128x64x16, .f32⟩
  | 36 => ⟨S128x128x64x16, .f32⟩
  | 37 => ⟨S_, .f32⟩
  | 38 => ⟨S128x128x64, .f32⟩
  | 39 => ⟨S1x128x64, .f32⟩
  | 40 => ⟨S128x128x64, .f32⟩
  | 41 => ⟨S128x128x64, .f32⟩
  | 42 => ⟨S1x128x64, .f32⟩
  | 43 => ⟨S128x128x64, .f32⟩
  | 44 => ⟨S128x128x64, .f32⟩
  | 45 => ⟨S128x128x64, .f32⟩
  | 46 => ⟨S128x128x64, .f32⟩
  | 47 => ⟨S1x128x64, .f32⟩
  | 48 => ⟨S128x128x64, .f32⟩
  | 49 => ⟨S128x128x64, .f32⟩
  | 50 => ⟨S1x128x64, .f32⟩
  | 51 => ⟨S128x128x64, .f32⟩
  | 52 => ⟨S128x128x64, .f32⟩
  | 53 => ⟨S128x128x64, .f32⟩
  | 54 => ⟨S128x128x64, .f32⟩
  | 55 => ⟨S128x16x128, .f32⟩
  | 56 => ⟨S128x128x16, .f32⟩
  | 57 => ⟨S128x16x128, .f32⟩
  | 58 => ⟨S128x128x16, .f32⟩
  | 59 => ⟨S128x128x16, .f32⟩
  | 60 => ⟨S128x1x128x16, .f32⟩
  | 61 => ⟨S128x1x128x16, .f32⟩
  | 62 => ⟨S128x1x128x16, .f32⟩
  | 63 => ⟨S128x1x128x16, .f32⟩
  | 64 => ⟨S128x4x128x16, .f32⟩
  | 65 => ⟨S128x4x2048, .f32⟩
  | 66 => ⟨S1x2048, .f32⟩
  | 67 => ⟨S2048, .f32⟩
  | 68 => ⟨S1x1x2048, .f32⟩
  | 69 => ⟨S128x4x2048, .f32⟩
  | 70 => ⟨S128x4x2048, .f32⟩
  | 71 => ⟨S128x4x2048, .f32⟩
  | 72 => ⟨S512x2048, .f32⟩
  | 73 => ⟨S128x8192, .f32⟩
  | 74 => ⟨S128x8192, .f32⟩
  | _ => ⟨S8704x10240, .f32⟩

abbrev hbmTy (i : Nat) : BufTy := match i / 128 with
  | 0 => hbmTy0_0 i
  | 1 => hbmTy0_1 i
  | _ => ⟨S8704x10240, .f32⟩

abbrev bufTy : (tb : Table) → Fin (tcTables nBuf tb) → BufTy
  | .hbm, ⟨i, _⟩ => hbmTy i
  | _, _ => ⟨S8704x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_1 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_2 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_3 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_4 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_cst_5 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_cst_6 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩

abbrev nD : Nat := 1
abbrev τ : Topo := Topo.v7x

variable {F : FTy → Type} [FloatOps F]
-- ==== InProj.lean ====
abbrev S8704x2048 : Shape := ⟨2, ![8704, 2048]⟩
abbrev S2x2048x10272 : Shape := ⟨3, ![2, 2048, 10272]⟩
abbrev S2x10272x2048 : Shape := ⟨3, ![2, 10272, 2048]⟩
abbrev S8704x10240 : Shape := ⟨2, ![8704, 10240]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x10272, .f32⟩
  | .hbm, ⟨2, _⟩ => ⟨S2x10272x2048, .f32⟩
  | .hbm, ⟨3, _⟩ => ⟨S8704x10240, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S1x2048x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8704x2048 : Shape := ⟨2, ![8704, 2048]⟩
abbrev S2x2048x10272 : Shape := ⟨3, ![2, 2048, 10272]⟩
abbrev S1x2048x10240 : Shape := ⟨3, ![1, 2048, 10240]⟩
abbrev S2048x10240 : Shape := ⟨2, ![2048, 10240]⟩
abbrev S8704x10240 : Shape := ⟨2, ![8704, 10240]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x10272, .f32⟩
  | .hbm, ⟨2, _⟩ => ⟨S8704x2048, .f32⟩
  | .hbm, ⟨3, _⟩ => ⟨S1x2048x10240, .f32⟩
  | .hbm, ⟨4, _⟩ => ⟨S2048x10240, .f32⟩
  | .hbm, ⟨5, _⟩ => ⟨S8704x10240, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Norm.lean ====
abbrev S4x2048x2048 : Shape := ⟨3, ![4, 2048, 2048]⟩
abbrev S128x4x2048 : Shape := ⟨3, ![128, 4, 2048]⟩
abbrev S2x2048 : Shape := ⟨2, ![2, 2048]⟩
abbrev S2x2048x10272 : Shape := ⟨3, ![2, 2048, 10272]⟩
abbrev S8192x2048 : Shape := ⟨2, ![8192, 2048]⟩
abbrev S512x2048 : Shape := ⟨2, ![512, 2048]⟩
abbrev S1x2048 : Shape := ⟨2, ![1, 2048]⟩
abbrev S2048 : Shape := ⟨1, ![2048]⟩
abbrev S2x10272x2048 : Shape := ⟨3, ![2, 10272, 2048]⟩
abbrev S8704x2048 : Shape := ⟨2, ![8704, 2048]⟩
abbrev S8704x32 : Shape := ⟨2, ![8704, 32]⟩
abbrev S1x32x2048 : Shape := ⟨3, ![1, 32, 2048]⟩
abbrev S512x32 : Shape := ⟨2, ![512, 32]⟩
abbrev S512 : Shape := ⟨1, ![512]⟩
abbrev S512x1 : Shape := ⟨2, ![512, 1]⟩
abbrev S32x2048 : Shape := ⟨2, ![32, 2048]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S2x2048, .f32⟩
  | .hbm, ⟨3, _⟩ => ⟨S2x2048x10272, .f32⟩
  | .hbm, ⟨4, _⟩ => ⟨S8192x2048, .f32⟩
  | .hbm, ⟨5, _⟩ => ⟨S512x2048, .f32⟩
  | .hbm, ⟨6, _⟩ => ⟨S1x2048, .f32⟩
  | .hbm, ⟨7, _⟩ => ⟨S2048, .f32⟩
  | .hbm, ⟨8, _⟩ => ⟨S2x10272x2048, .f32⟩
  | .hbm, ⟨9, _⟩ => ⟨S1x2048, .f32⟩
  | .hbm, ⟨10, _⟩ => ⟨S8704x2048, .bf16⟩
  | .hbm, ⟨11, _⟩ => ⟨S8704x32, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x32x2048, .f32⟩
  | .local _ .vmem, ⟨6, _⟩ => ⟨S512x2048, .bf16⟩
  | .local _ .vmem, ⟨7, _⟩ => ⟨S512x2048, .bf16⟩
  | .local _ .vmem, ⟨8, _⟩ => ⟨S512x32, .f32⟩
  | .local _ .vmem, ⟨9, _⟩ => ⟨S512x32, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c320_i32 : BitVec 32 := 320#32
  let c0_i32_0 : BitVec 32 := 0#32
  let c0_i32_1 : BitVec 32 := 0#32
  ![c0_i32.toNat, c320_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S4x2048x2048 : Shape := ⟨3, ![4, 2048, 2048]⟩
abbrev S128x4x2048 : Shape := ⟨3, ![128, 4, 2048]⟩
abbrev S2x2048 : Shape := ⟨2, ![2, 2048]⟩
abbrev S2x2048x10272 : Shape := ⟨3, ![2, 2048, 10272]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048x32 : Shape := ⟨3, ![1, 2048, 32]⟩
abbrev S2048x32 : Shape := ⟨2, ![2048, 32]⟩
abbrev S8704x32 : Shape := ⟨2, ![8704, 32]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S2x2048, .f32⟩
  | .hbm, ⟨3, _⟩ => ⟨S2x2048x10272, .f32⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S1x2048, .f32⟩
  | .hbm, ⟨8, _⟩ => ⟨S2048, .f32⟩
  | .hbm, ⟨9, _⟩ => ⟨S8704x2048, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x2048, .f32⟩
  | .hbm, ⟨21, _⟩ => ⟨S8704x2048, .f32⟩
  | .hbm, ⟨22, _⟩ => ⟨S1x2048, .f32⟩
  | .hbm, ⟨23, _⟩ => ⟨S8704x2048, .f32⟩
  | .hbm, ⟨24, _⟩ => ⟨S8704x2048, .f32⟩
  | .hbm, ⟨25, _⟩ => ⟨S8704x2048, .bf16⟩
  | .hbm, ⟨26, _⟩ => ⟨S1x2048x32, .f32⟩
  | .hbm, ⟨27, _⟩ => ⟨S2048x32, .f32⟩
  | .hbm, ⟨28, _⟩ => ⟨S8704x32, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== OutProj.lean ====
abbrev S8704x4096 : Shape := ⟨2, ![8704, 4096]⟩
abbrev S2x4096x2048 : Shape := ⟨3, ![2, 4096, 2048]⟩
abbrev S4x2048x2048 : Shape := ⟨3, ![4, 2048, 2048]⟩
abbrev S128x4x2048 : Shape := ⟨3, ![128, 4, 2048]⟩
abbrev S2x2048 : Shape := ⟨2, ![2, 2048]⟩
abbrev S2x2048x10272 : Shape := ⟨3, ![2, 2048, 10272]⟩
abbrev S8192x2048 : Shape := ⟨2, ![8192, 2048]⟩
abbrev S512x2048 : Shape := ⟨2, ![512, 2048]⟩
abbrev S1x2048 : Shape := ⟨2, ![1, 2048]⟩
abbrev S2048 : Shape := ⟨1, ![2048]⟩
abbrev S2x10272x2048 : Shape := ⟨3, ![2, 10272, 2048]⟩
abbrev S8704x2048 : Shape := ⟨2, ![8704, 2048]⟩
abbrev S8704x32 : Shape := ⟨2, ![8704, 32]⟩
abbrev S256x4096 : Shape := ⟨2, ![256, 4096]⟩
abbrev S1x4096x2048 : Shape := ⟨3, ![1, 4096, 2048]⟩
abbrev S256x2048 : Shape := ⟨2, ![256, 2048]⟩
abbrev S1x32x2048 : Shape := ⟨3, ![1, 32, 2048]⟩
abbrev S256x32 : Shape := ⟨2, ![256, 32]⟩
abbrev S4096x2048 : Shape := ⟨2, ![4096, 2048]⟩
abbrev S256 : Shape := ⟨1, ![256]⟩
abbrev S256x1 : Shape := ⟨2, ![256, 1]⟩
abbrev S32x2048 : Shape := ⟨2, ![32, 2048]⟩

abbrev nBuf : Space → Nat
  | .hbm => 16
  | .vmem => 15
  | .smem => 0
  | _ => 0

abbrev bufTy : (tb : Table) → Fin (tcTables nBuf tb) → BufTy
  | .hbm, ⟨0, _⟩ => ⟨S8704x4096, .bf16⟩
  | .hbm, ⟨1, _⟩ => ⟨S2x4096x2048, .f32⟩
  | .hbm, ⟨2, _⟩ => ⟨S4x2048x2048, .f32⟩
  | .hbm, ⟨3, _⟩ => ⟨S128x4x2048, .f32⟩
  | .hbm, ⟨4, _⟩ => ⟨S2x2048, .f32⟩
  | .hbm, ⟨5, _⟩ => ⟨S2x2048x10272, .f32⟩
  | .hbm, ⟨6, _⟩ => ⟨S8192x2048, .f32⟩
  | .hbm, ⟨7, _⟩ => ⟨S512x2048, .f32⟩
  | .hbm, ⟨8, _⟩ => ⟨S2x4096x2048, .bf16⟩
  | .hbm, ⟨9, _⟩ => ⟨S1x2048, .f32⟩
  | .hbm, ⟨10, _⟩ => ⟨S2048, .f32⟩
  | .hbm, ⟨11, _⟩ => ⟨S2x10272x2048, .f32⟩
  | .hbm, ⟨12, _⟩ => ⟨S1x2048, .f32⟩
  | .hbm, ⟨13, _⟩ => ⟨S8704x2048, .f32⟩
  | .hbm, ⟨14, _⟩ => ⟨S8704x2048, .bf16⟩
  | .hbm, ⟨15, _⟩ => ⟨S8704x32, .f32⟩
  | .local _ .vmem, ⟨0, _⟩ => ⟨S256x4096, .bf16⟩
  | .local _ .vmem, ⟨1, _⟩ => ⟨S256x4096, .bf16⟩
  | .local _ .vmem, ⟨2, _⟩ => ⟨S1x4096x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x32x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x32, .f32⟩
  | .local _ .vmem, ⟨14, _⟩ => ⟨S256x32, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c320_i32 : BitVec 32 := 320#32
  let c0_i32 : BitVec 32 := 0#32
  let c0_i32_0 : BitVec 32 := 0#32
  ![c1_i32.toNat, c320_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S8704x4096 : Shape := ⟨2, ![8704, 4096]⟩
abbrev S2x4096x2048 : Shape := ⟨3, ![2, 4096, 2048]⟩
abbrev S4x2048x2048 : Shape := ⟨3, ![4, 2048, 2048]⟩
abbrev S128x4x2048 : Shape := ⟨3, ![128, 4, 2048]⟩
abbrev S2x2048 : Shape := ⟨2, ![2, 2048]⟩
abbrev S2x2048x10272 : Shape := ⟨3, ![2, 2048, 10272]⟩
abbrev S8192x2048 : Shape := ⟨2, ![8192, 2048]⟩
abbrev S512x2048 : Shape := ⟨2, ![512, 2048]⟩
abbrev S8704x2048 : Shape := ⟨2, ![8704, 2048]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048x32 : Shape := ⟨3, ![1, 2048, 32]⟩
abbrev S2048x32 : Shape := ⟨2, ![2048, 32]⟩
abbrev S8704x32 : Shape := ⟨2, ![8704, 32]⟩

abbrev nBuf : Space → Nat
  | .hbm => 36
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x2048, .f32⟩
  | .hbm, ⟨2, _⟩ => ⟨S4x2048x2048, .f32⟩
  | .hbm, ⟨3, _⟩ => ⟨S128x4x2048, .f32⟩
  | .hbm, ⟨4, _⟩ => ⟨S2x2048, .f32⟩
  | .hbm, ⟨5, _⟩ => ⟨S2x2048x10272, .f32⟩
  | .hbm, ⟨6, _⟩ => ⟨S8192x2048, .f32⟩
  | .hbm, ⟨7, _⟩ => ⟨S512x2048, .f32⟩
  | .hbm, ⟨8, _⟩ => ⟨S8704x2048, .f32⟩
  | .hbm, ⟨9, _⟩ => ⟨S8704x4096, .f32⟩
  | .hbm, ⟨10, _⟩ => ⟨S1x4096x2048, .f32⟩
  | .hbm, ⟨11, _⟩ => ⟨S4096x2048, .f32⟩
  | .hbm, ⟨12, _⟩ => ⟨S8704x2048, .f32⟩
  | .hbm, ⟨13, _⟩ => ⟨S8704x2048, .f32⟩
  | .hbm, ⟨14, _⟩ => ⟨S1x2048, .f32⟩
  | .hbm, ⟨15, _⟩ => ⟨S2048, .f32⟩
  | .hbm, ⟨16, _⟩ => ⟨S8704x2048, .f32⟩
  | .hbm, ⟨17, _⟩ => ⟨S_, .f32⟩
  | .hbm, ⟨18, _⟩ => ⟨S8704, .f32⟩
  | .hbm, ⟨19, _⟩ => ⟨S8704x1, .f32⟩
  | .hbm, ⟨20, _⟩ => ⟨S_, .f32⟩
  | .hbm, ⟨21, _⟩ => ⟨S8704x1, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x1, .f32⟩
  | .hbm, ⟨27, _⟩ => ⟨S8704x2048, .f32⟩
  | .hbm, ⟨28, _⟩ => ⟨S8704x2048, .f32⟩
  | .hbm, ⟨29, _⟩ => ⟨S1x2048, .f32⟩
  | .hbm, ⟨30, _⟩ => ⟨S8704x2048, .f32⟩
  | .hbm, ⟨31, _⟩ => ⟨S8704x2048, .f32⟩
  | .hbm, ⟨32, _⟩ => ⟨S8704x2048, .bf16⟩
  | .hbm, ⟨33, _⟩ => ⟨S1x2048x32, .f32⟩
  | .hbm, ⟨34, _⟩ => ⟨S2048x32, .f32⟩
  | .hbm, ⟨35, _⟩ => ⟨S8704x32, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== OutLast.lean ====
abbrev S8704x4096 : Shape := ⟨2, ![8704, 4096]⟩
abbrev S2x4096x2048 : Shape := ⟨3, ![2, 4096, 2048]⟩
abbrev S8704x2048 : Shape := ⟨2, ![8704, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S256x4096 : Shape := ⟨2, ![256, 4096]⟩
abbrev S1x4096x2048 : Shape := ⟨3, ![1, 4096, 2048]⟩
abbrev S256x2048 : Shape := ⟨2, ![256, 2048]⟩
abbrev S4096x2048 : Shape := ⟨2, ![4096, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S2x4096x2048, .f32⟩
  | .hbm, ⟨2, _⟩ => ⟨S8704x2048, .f32⟩
  | .hbm, ⟨3, _⟩ => ⟨S2048, .f32⟩
  | .hbm, ⟨4, _⟩ => ⟨S2x4096x2048, .bf16⟩
  | .hbm, ⟨5, _⟩ => ⟨S1x2048, .f32⟩
  | .hbm, ⟨6, _⟩ => ⟨S8192x2048, .f32⟩
  | .hbm, ⟨7, _⟩ => ⟨S512x2048, .f32⟩
  | .local _ .vmem, ⟨0, _⟩ => ⟨S256x4096, .bf16⟩
  | .local _ .vmem, ⟨1, _⟩ => ⟨S256x4096, .bf16⟩
  | .local _ .vmem, ⟨2, _⟩ => ⟨S1x4096x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v20 : BitVec 1 := Scalar.cmpi .slt arg0 c32_i32
  let v21 : BitVec 32 := Scalar.extui v20
  let c0_i32 : BitVec 32 := 0#32
  let v22 : BitVec 1 := Scalar.cmpi .ne v21 c0_i32
  v22

def k0_cond2 (i : grid0.Coords) : BitVec 1 :=
  let arg0 : BitVec 32 := BitVec.ofNat 32 (i 0).val
  let c32_i32_11 : BitVec 32 := 32#32
  let v23 : BitVec 1 := Scalar.cmpi .sge arg0 c32_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutLastRefIdeal.lean ====
abbrev S8704x4096 : Shape := ⟨2, ![8704, 4096]⟩
abbrev S2x4096x2048 : Shape := ⟨3, ![2, 4096, 2048]⟩
abbrev S8704x2048 : Shape := ⟨2, ![8704, 2048]⟩
abbrev S2048 : Shape := ⟨1, ![2048]⟩
abbrev S1x4096x2048 : Shape := ⟨3, ![1, 4096, 2048]⟩
abbrev S4096x2048 : Shape := ⟨2, ![4096, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8192x2048 : Shape := ⟨2, ![8192, 2048]⟩
abbrev S512x2048 : Shape := ⟨2, ![512, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x2048, .f32⟩
  | .hbm, ⟨2, _⟩ => ⟨S8704x2048, .f32⟩
  | .hbm, ⟨3, _⟩ => ⟨S2048, .f32⟩
  | .hbm, ⟨4, _⟩ => ⟨S8704x4096, .f32⟩
  | .hbm, ⟨5, _⟩ => ⟨S1x4096x2048, .f32⟩
  | .hbm, ⟨6, _⟩ => ⟨S4096x2048, .f32⟩
  | .hbm, ⟨7, _⟩ => ⟨S8704x2048, .f32⟩
  | .hbm, ⟨8, _⟩ => ⟨S8704x2048, .f32⟩
  | .hbm, ⟨9, _⟩ => ⟨S8704x2048, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x2048, .f32⟩
  | .hbm, ⟨21, _⟩ => ⟨S8704x2048, .f32⟩
  | .hbm, ⟨22, _⟩ => ⟨S1x2048, .f32⟩
  | .hbm, ⟨23, _⟩ => ⟨S8704x2048, .f32⟩
  | .hbm, ⟨24, _⟩ => ⟨S8704x2048, .f32⟩
  | .hbm, ⟨25, _⟩ => ⟨S8192x2048, .f32⟩
  | .hbm, ⟨26, _⟩ => ⟨S512x2048, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mix.lean ====
abbrev S8192x2048 : Shape := ⟨2, ![8192, 2048]⟩
abbrev S512x2048 : Shape := ⟨2, ![512, 2048]⟩
abbrev S8704x10240 : Shape := ⟨2, ![8704, 10240]⟩
abbrev S2x2048x2048 : Shape := ⟨3, ![2, 2048, 2048]⟩
abbrev S2x2048 : Shape := ⟨2, ![2, 2048]⟩
abbrev S2x1x2048 : Shape := ⟨3, ![2, 1, 2048]⟩
abbrev S8704x4096 : Shape := ⟨2, ![8704, 4096]⟩
abbrev S256x2048 : Shape := ⟨2, ![256, 2048]⟩
abbrev S1x2048x2048 : Shape := ⟨3, ![1, 2048, 2048]⟩
abbrev S1x1x2048 : Shape := ⟨3, ![1, 1, 2048]⟩
abbrev S256x4096 : Shape := ⟨2, ![256, 4096]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S512x2048, .f32⟩
  | .hbm, ⟨4, _⟩ => ⟨S8704x10240, .f32⟩
  | .hbm, ⟨5, _⟩ => ⟨S2x2048x2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048x2048, .bf16⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S8704x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048x2048, .bf16⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S256x4096, .bf16⟩
  | .local _ .vmem, ⟨17, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S8192x2048 : Shape := ⟨2, ![8192, 2048]⟩
abbrev S512x2048 : Shape := ⟨2, ![512, 2048]⟩
abbrev S8704x10240 : Shape := ⟨2, ![8704, 10240]⟩
abbrev S2x2048x2048 : Shape := ⟨3, ![2, 2048, 2048]⟩
abbrev S2x2048 : Shape := ⟨2, ![2, 2048]⟩
abbrev S8704x2048 : Shape := ⟨2, ![8704, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8704 : Shape := ⟨1, ![8704]⟩
abbrev S8704x1 : Shape := ⟨2, ![8704, 1]⟩
abbrev S8704x4096 : Shape := ⟨2, ![8704, 4096]⟩

abbrev nBuf : Space → Nat
  | .hbm => 105
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S512x2048, .f32⟩
  | .hbm, ⟨4, _⟩ => ⟨S8704x10240, .f32⟩
  | .hbm, ⟨5, _⟩ => ⟨S2x2048x2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S_, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704x2048, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704x2048, .f32⟩
  | .hbm, ⟨24, _⟩ => ⟨S8704x2048, .f32⟩
  | .hbm, ⟨25, _⟩ => ⟨S_, .f32⟩
  | .hbm, ⟨26, _⟩ => ⟨S8704x2048, .f32⟩
  | .hbm, ⟨27, _⟩ => ⟨S8704x2048, .f32⟩
  | .hbm, ⟨28, _⟩ => ⟨S8704x2048, .f32⟩
  | .hbm, ⟨29, _⟩ => ⟨S1x2048x2048, .f32⟩
  | .hbm, ⟨30, _⟩ => ⟨S2048x2048, .f32⟩
  | .hbm, ⟨31, _⟩ => ⟨S8704x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S_, .f32⟩
  | .hbm, ⟨40, _⟩ => ⟨S8704x2048, .f32⟩
  | .hbm, ⟨41, _⟩ => ⟨S8704x2048, .f32⟩
  | .hbm, ⟨42, _⟩ => ⟨S_, .f32⟩
  | .hbm, ⟨43, _⟩ => ⟨S8704x2048, .f32⟩
  | .hbm, ⟨44, _⟩ => ⟨S8704x2048, .f32⟩
  | .hbm, ⟨45, _⟩ => ⟨S8704x2048, .f32⟩
  | .hbm, ⟨46, _⟩ => ⟨S8704x2048, .f32⟩
  | .hbm, ⟨47, _⟩ => ⟨S8704x2048, .f32⟩
  | .hbm, ⟨48, _⟩ => ⟨S_, .f32⟩
  | .hbm, ⟨49, _⟩ => ⟨S8704x2048, .f32⟩
  | .hbm, ⟨50, _⟩ => ⟨S8704x2048, .f32⟩
  | .hbm, ⟨51, _⟩ => ⟨S_, .f32⟩
  | .hbm, ⟨52, _⟩ => ⟨S8704x2048, .f32⟩
  | .hbm, ⟨53, _⟩ => ⟨S8704x2048, .f32⟩
  | .hbm, ⟨54, _⟩ => ⟨S8704x2048, .f32⟩
  | .hbm, ⟨55, _⟩ => ⟨S8704x2048, .f32⟩
  | .hbm, ⟨56, _⟩ => ⟨S1x2048, .f32⟩
  | .hbm, ⟨57, _⟩ => ⟨S2048, .f32⟩
  | .hbm, ⟨58, _⟩ => ⟨S8704x2048, .f32⟩
  | .hbm, ⟨59, _⟩ => ⟨S_, .f32⟩
  | .hbm, ⟨60, _⟩ => ⟨S8704, .f32⟩
  | .hbm, ⟨61, _⟩ => ⟨S8704x1, .f32⟩
  | .hbm, ⟨62, _⟩ => ⟨S_, .f32⟩
  | .hbm, ⟨63, _⟩ => ⟨S8704x1, .f32⟩
  | .hbm, ⟨64, _⟩ => ⟨S8704x1, .f32⟩
  | .hbm, ⟨65, _⟩ => ⟨S_, .f32⟩
  | .hbm, ⟨66, _⟩ => ⟨S8704x1, .f32⟩
  | .hbm, ⟨67, _⟩ => ⟨S8704x1, .f32⟩
  | .hbm, ⟨68, _⟩ => ⟨S8704x1, .f32⟩
  | .hbm, ⟨69, _⟩ => ⟨S8704x2048, .f32⟩
  | .hbm, ⟨70, _⟩ => ⟨S8704x2048, .f32⟩
  | .hbm, ⟨71, _⟩ => ⟨S1x2048, .f32⟩
  | .hbm, ⟨72, _⟩ => ⟨S8704x2048, .f32⟩
  | .hbm, ⟨73, _⟩ => ⟨S8704x2048, .f32⟩
  | .hbm, ⟨74, _⟩ => ⟨S8704x2048, .f32⟩
  | .hbm, ⟨75, _⟩ => ⟨S8704x2048, .f32⟩
  | .hbm, ⟨76, _⟩ => ⟨S8704x2048, .f32⟩
  | .hbm, ⟨77, _⟩ => ⟨S_, .f32⟩
  | .hbm, ⟨78, _⟩ => ⟨S8704x2048, .f32⟩
  | .hbm, ⟨79, _⟩ => ⟨S8704x2048, .f32⟩
  | .hbm, ⟨80, _⟩ => ⟨S_, .f32⟩
  | .hbm, ⟨81, _⟩ => ⟨S8704x2048, .f32⟩
  | .hbm, ⟨82, _⟩ => ⟨S8704x2048, .f32⟩
  | .hbm, ⟨83, _⟩ => ⟨S8704x2048, .f32⟩
  | .hbm, ⟨84, _⟩ => ⟨S8704x2048, .f32⟩
  | .hbm, ⟨85, _⟩ => ⟨S1x2048, .f32⟩
  | .hbm, ⟨86, _⟩ => ⟨S2048, .f32⟩
  | .hbm, ⟨87, _⟩ => ⟨S8704x2048, .f32⟩
  | .hbm, ⟨88, _⟩ => ⟨S_, .f32⟩
  | .hbm, ⟨89, _⟩ => ⟨S8704, .f32⟩
  | .hbm, ⟨90, _⟩ => ⟨S8704x1, .f32⟩
  | .hbm, ⟨91, _⟩ => ⟨S_, .f32⟩
  | .hbm, ⟨92, _⟩ => ⟨S8704x1, .f32⟩
  | .hbm, ⟨93, _⟩ => ⟨S8704x1, .f32⟩
  | .hbm, ⟨94, _⟩ => ⟨S_, .f32⟩
  | .hbm, ⟨95, _⟩ => ⟨S8704x1, .f32⟩
  | .hbm, ⟨96, _⟩ => ⟨S8704x1, .f32⟩
  | .hbm, ⟨97, _⟩ => ⟨S8704x1, .f32⟩
  | .hbm, ⟨98, _⟩ => ⟨S8704x2048, .f32⟩
  | .hbm, ⟨99, _⟩ => ⟨S8704x2048, .f32⟩
  | .hbm, ⟨100, _⟩ => ⟨S1x2048, .f32⟩
  | .hbm, ⟨101, _⟩ => ⟨S8704x2048, .f32⟩
  | .hbm, ⟨102, _⟩ => ⟨S8704x2048, .f32⟩
  | .hbm, ⟨103, _⟩ => ⟨S8704x4096, .f32⟩
  | .hbm, ⟨104, _⟩ => ⟨S8704x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_8 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩

abbrev nD : Nat := 1
abbrev τ : Topo := Topo.v7x

variable {F : FTy → Type} [FloatOps F]
-- ==== Proof.DecodeDrive.lean ====
/-
  THE S5 DECODE CALL, one block: 32 sequences of 4 tokens each.  The body permutes its 128 rows so that the rows of a
  step lie together, multiplies them with the input matrices (8 groups of 256 channels into 1024 states), runs the
  recurrence over the 4 steps for 512 states at a time, and multiplies the states with the output matrices.
-/
module

public import proofs.«01_k».proof.Defs
public import proofs.«01_k».proof.Proof.Gen.KernelIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem

/-- What the input matrix of group `q` adds to a state: the permuted rows `x` times the matrix's block `v`. -/
def driveOf (x : Vec Ideal S128x2048 .bf16) (v : Vec Ideal S1x256x1024 .bf16) (q : Fin 8) (r : Fin 128) (c : Fin 1024) : EReal :=
  ∑ k : Fin 256, (x (ix2 r ⟨256 * q.val + k.val, by have := q.isLt; have := k.isLt; omega⟩) : EReal) * v (ix3 0 k c)

/-- The rows of a block, permuted. -/
def permuted (u : Vec Ideal S128x2048 .f32) (p : Vec Ideal S128x128 .bf16) : Vec Ideal S128x2048 .bf16 :=
  fun i => ∑ j : Fin 128, (p (ix2 (i 0) j) : EReal) * u (ix2 j (i 1))

section Drive

variable (u : Vec Ideal S128x2048 .f32) (p : Vec Ideal S128x128 .bf16) (v : Vec Ideal S1x256x1024 .bf16) (r : Fin 128) (c : Fin 1024)

/-- The body's permuted rows. -/
theorem permuted_eq : k0_pay2 u p = permuted u p := by
  suffices h : ∀ (r : Fin 128) (i : Fin 2048), k0_pay2 u p (ix2 r i) = ∑ j : Fin 128, (p (ix2 r j) : EReal) * u (ix2 j i) by
    funext i
    rw [eq_ix2 i]
    exact h _ _
  intro r i
  pointwise [k0_pay2]

theorem drive_re0 : k0_pay4 u p v (ix2 r c) = driveOf (k0_pay2 u p) v 0 r c := by
  unfold k0_pay4 k0_pay3 driveOf
  generalize k0_pay2 u p = x
  pointwise

theorem drive_re1 : k0_pay7 u p v (ix2 r c) = driveOf (k0_pay2 u p) v 1 r c := by
  unfold k0_pay7 k0_pay6 driveOf
  generalize k0_pay2 u p = x
  pointwise

theorem drive_re2 : k0_pay11 (k0_pay2 u p) v (ix2 r c) = driveOf (k0_pay2 u p) v 2 r c := by
  unfold k0_pay11 k0_pay10 driveOf
  generalize k0_pay2 u p = x
  pointwise

theorem drive_re3 : k0_pay14 (k0_pay2 u p) v (ix2 r c) = driveOf (k0_pay2 u p) v 3 r c := by
  unfold k0_pay14 k0_pay13 driveOf
  generalize k0_pay2 u p = x
  pointwise

theorem drive_re4 : k0_pay17 (k0_pay2 u p) v (ix2 r c) = driveOf (k0_pay2 u p) v 4 r c := by
  unfold k0_pay17 k0_pay16 driveOf
  generalize k0_pay2 u p = x
  pointwise

theorem drive_re5 : k0_pay20 (k0_pay2 u p) v (ix2 r c) = driveOf (k0_pay2 u p) v 5 r c := by
  unfold k0_pay20 k0_pay19 driveOf
  generalize k0_pay2 u p = x
  pointwise

theorem drive_re6 : k0_pay24 (k0_pay22 (k0_pay2 u p)) (k0_pay23 v) (ix2 r c) = driveOf (k0_pay2 u p) v 6 r c := by
  unfold k0_pay24 k0_pay22 k0_pay23 driveOf
  generalize k0_pay2 u p = x
  pointwise

theorem drive_re7 : k0_pay27 (k0_pay2 u p) v (ix2 r c) = driveOf (k0_pay2 u p) v 7 r c := by
  unfold k0_pay27 k0_pay26 driveOf
  generalize k0_pay2 u p = x
  pointwise

theorem drive_im0 : k0_pay5 u p v (ix2 r c) = driveOf (k0_pay2 u p) v 0 r c := by
  unfold k0_pay5 k0_pay3 driveOf
  generalize k0_pay2 u p = x
  pointwise

theorem drive_im1 : k0_pay9 (k0_pay8 u p v) (ix2 r c) = driveOf (k0_pay2 u p) v 1 r c := by
  unfold k0_pay9 k0_pay8 k0_pay6 driveOf
  generalize k0_pay2 u p = x
  pointwise

theorem drive_im2 : k0_pay12 (k0_pay2 u p) v (ix2 r c) = driveOf (k0_pay2 u p) v 2 r c := by
  unfold k0_pay12 k0_pay10 driveOf
  generalize k0_pay2 u p = x
  pointwise

theorem drive_im3 : k0_pay15 (k0_pay2 u p) v (ix2 r c) = driveOf (k0_pay2 u p) v 3 r c := by
  unfold k0_pay15 k0_pay13 driveOf
  generalize k0_pay2 u p = x
  pointwise

theorem drive_im4 : k0_pay18 (k0_pay2 u p) v (ix2 r c) = driveOf (k0_pay2 u p) v 4 r c := by
  unfold k0_pay18 k0_pay16 driveOf
  generalize k0_pay2 u p = x
  pointwise

theorem drive_im5 : k0_pay21 (k0_pay2 u p) v (ix2 r c) = driveOf (k0_pay2 u p) v 5 r c := by
  unfold k0_pay21 k0_pay19 driveOf
  generalize k0_pay2 u p = x
  pointwise

theorem drive_im6 : k0_pay25 (k0_pay22 (k0_pay2 u p)) v (ix2 r c) = driveOf (k0_pay2 u p) v 6 r c := by
  unfold k0_pay25 k0_pay22 driveOf
  generalize k0_pay2 u p = x
  pointwise

theorem drive_im7 : k0_pay28 (k0_pay2 u p) v (ix2 r c) = driveOf (k0_pay2 u p) v 7 r c := by
  unfold k0_pay28 k0_pay26 driveOf
  generalize k0_pay2 u p = x
  pointwise

end Drive

end Cert.KernelIdeal.Block

end

end
-- ==== Proof.DecodeStates.lean ====
/-
  THE S5 DECODE CALL, one block: the recurrence.  What the body keeps of the 32 sequences after each of the 4 steps, for
  all 8192 states, and the two arrays of final states it stores.
-/
module

public import proofs.«01_k».proof.Proof.DecodeDrive

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem

/-- What the input matrices `B` add to state `j` in row `r`, of the permuted rows `x`. -/
def driveAt (x : Vec Ideal S128x2048 .bf16) (B : Vec Ideal S8x256x1024 .bf16) (r : Fin 128) (j : Fin 8192) : EReal :=
  ∑ k : Fin 256, (x (ix2 r ⟨256 * (j.val / 1024) + k.val, by omega⟩) : EReal) * B (ix3 ⟨j.val / 1024, by omega⟩ k ⟨j.val % 1024, by omega⟩)

/-- The 1024 columns of group `q`. -/
def tile (f : Fin 128 → Fin 8192 → EReal) (q : Fin 8) : Vec Ideal S128x1024 .f32 :=
  fun i => f (i 0) ⟨1024 * q.val + (i 1).val, by have := q.isLt; have : (i 1).val < 1024 := (i 1).isLt; omega⟩

/-- One step of the recurrence on a complex state: `a h + v`, as real and imaginary part. -/
def next (a h v : EReal × EReal) : EReal × EReal :=
  (a.1 * h.1 - a.2 * h.2 + v.1, a.1 * h.2 + a.2 * h.1 + v.2)

section Spec

variable (a : Fin 8192 → EReal × EReal) (h : Fin 32 → Fin 8192 → EReal × EReal) (d : Fin 128 → Fin 8192 → EReal × EReal)
  (s : Fin 32) (j : Fin 8192)

/-- The state of sequence `s` after its first token. -/
def state0 : EReal × EReal := next (a j) (h s j) (d ⟨0 + s.val, by omega⟩ j)
/-- After its second token. -/
def state1 : EReal × EReal := next (a j) (state0 a h d s j) (d ⟨32 + s.val, by omega⟩ j)
/-- After its third token. -/
def state2 : EReal × EReal := next (a j) (state1 a h d s j) (d ⟨64 + s.val, by omega⟩ j)
/-- After its fourth token. -/
def state3 : EReal × EReal := next (a j) (state2 a h d s j) (d ⟨96 + s.val, by omega⟩ j)

end Spec

/-- The coefficients of the recurrence. -/
def coef (ar ai : Vec Ideal S1x1x8192 .f32) (j : Fin 8192) : EReal × EReal := (ar (ix3 0 0 j), ai (ix3 0 0 j))
/-- The states before the first token. -/
def init (hr hi : Vec Ideal S32x8192 .f32) (s : Fin 32) (j : Fin 8192) : EReal × EReal := (hr (ix2 s j), hi (ix2 s j))
/-- What the tokens add. -/
def drive (u : Vec Ideal S128x2048 .f32) (p : Vec Ideal S128x128 .bf16) (br bi : Vec Ideal S8x256x1024 .bf16) (r : Fin 128) (j : Fin 8192) :
    EReal × EReal := (driveAt (k0_pay2 u p) br r j, driveAt (k0_pay2 u p) bi r j)

/-- Real and imaginary parts, as the arrays the body stores. -/
def reals (st : Fin 32 → Fin 8192 → EReal × EReal) : Vec Ideal S32x8192 .f32 := fun i => (st (i 0) (i 1)).1
def imags (st : Fin 32 → Fin 8192 → EReal × EReal) : Vec Ideal S32x8192 .f32 := fun i => (st (i 0) (i 1)).2

theorem canon_of {S : Shape} {e : EltTy} {Val : EltTy → Type} [∀ e, Nonempty (Val e)] (G : S.Idx → Val e) (L : List (View.Piece Val S e))
    (h : View.PiecesOf G L) (y : S.Idx) (hc : ∃ p ∈ L, y ∈ p.1.set) : View.canon L y = G y := by
  have := View.canon_append_of_piecesOf G [] L h y hc
  rwa [List.append_nil] at this

/-- A group's columns `w`, stored and read back 32 rows and 512 columns at a time. -/
theorem group_read (v : View sig .tc .vmem S128x8192 .f32) {b o0 o1 : Nat} (inb : ∀ a, (![0, b] : Fin 2 → Nat) a + (![128, 1024] : Fin 2 → Nat) a ≤ S128x8192.size a)
    (inb' : ∀ a, (![o0, o1] : Fin 2 → Nat) a + (![32, 512] : Fin 2 → Nat) a ≤ S128x8192.size a)
    (w : Vec Ideal S128x1024 .f32) (rest : List (View.Piece (Elt Ideal) S128x8192 .f32)) (h : o0 + 32 ≤ 128 ∧ b ≤ o1 ∧ o1 + 512 ≤ b + 1024) :
    v.readCov (⟨Rect.unit ![0, b] ![128, 1024] inb, w⟩ :: rest) (Rect.unit ![o0, o1] ![32, 512] inb').toLoadRect
      = fun x : S32x512.Idx => w (ix2 ⟨o0 + (x 0).val, by have : (x 0).val < 32 := (x 0).isLt; omega⟩
          ⟨o1 - b + (x 1).val, by have : (x 1).val < 512 := (x 1).isLt; omega⟩) := by
  rw [View.readCov_eq_canon']
  funext x
  have h0 : (x 0).val < 32 := (x 0).isLt
  have h1 : (x 1).val < 512 := (x 1).isLt
  have e : (Rect.unit ![o0, o1] ![32, 512] inb').toLoadRect.idx x
      = (Rect.unit (s := S128x8192) ![0, b] ![128, 1024] inb).emb (ix2 ⟨o0 + (x 0).val, by omega⟩ ⟨o1 - b + (x 1).val, by omega⟩) := by
    funext a; apply Fin.ext
    match a with
    | ⟨0, _⟩ => show o0 + 1 * (x 0).val = 0 + 1 * (o0 + (x 0).val); omega
    | ⟨1, _⟩ => show o1 + 1 * (x 1).val = b + 1 * (o1 - b + (x 1).val); omega
  exact (congrArg (View.canon _) e).trans (View.canon_cons_emb (Val := Elt Ideal) (Rect.unit (s := S128x8192) ![0, b] ![128, 1024] inb) w rest _)

theorem tile_part (f : Fin 128 → Fin 8192 → EReal) (q : Fin 8) {b o0 o1 : Nat} (hb : b = 1024 * q.val) (h0 : o0 + 32 ≤ 128) (h1 : b ≤ o1)
    (h2 : o1 + 512 ≤ b + 1024) (s : Fin 32) (l : Fin 512) :
    tile f q (ix2 ⟨o0 + s.val, by omega⟩ ⟨o1 - b + l.val, by omega⟩) = f ⟨o0 + s.val, by omega⟩ ⟨o1 + l.val, by have := q.isLt; omega⟩ := by
  show f _ _ = f _ _
  congr 1
  apply Fin.ext
  show 1024 * q.val + (o1 - b + l.val) = o1 + l.val
  omega

theorem tile_read (v : View sig .tc .vmem S128x8192 .f32) {b o0 o1 : Nat} (inb : ∀ a, (![0, b] : Fin 2 → Nat) a + (![128, 1024] : Fin 2 → Nat) a ≤ S128x8192.size a)
    (inb' : ∀ a, (![o0, o1] : Fin 2 → Nat) a + (![32, 512] : Fin 2 → Nat) a ≤ S128x8192.size a)
    (f : Fin 128 → Fin 8192 → EReal) (q : Fin 8) (rest : List (View.Piece (Elt Ideal) S128x8192 .f32))
    (hb : b = 1024 * q.val) (h0 : o0 + 32 ≤ 128) (h1 : b ≤ o1) (h2 : o1 + 512 ≤ b + 1024) :
    v.readCov (⟨Rect.unit ![0, b] ![128, 1024] inb, tile f q⟩ :: rest) (Rect.unit ![o0, o1] ![32, 512] inb').toLoadRect
      = fun x : S32x512.Idx => f ⟨o0 + (x 0 : Fin 32).val, by have : (x 0 : Fin 32).val < 32 := (x 0).isLt; omega⟩
          ⟨o1 + (x 1 : Fin 512).val, by have := q.isLt; have : (x 1 : Fin 512).val < 512 := (x 1).isLt; omega⟩ := by
  refine (group_read v inb inb' (tile f q) rest ⟨h0, h1, h2⟩).trans ?_
  funext x
  exact tile_part f q hb h0 h1 h2 (x 0) (x 1)

/-- 512 of the coefficients. -/
theorem coef_read (x : Vec Ideal S1x1x8192 .f32) {o : Nat} (inb : ∀ a, (![0, 0, o] : Fin 3 → Nat) a + (![1, 1, 512] : Fin 3 → Nat) a ≤ S1x1x8192.size a)
    (h : o + 512 ≤ 8192) : View.ld x (Rect.unit ![0, 0, o] ![1, 1, 512] inb)
      = fun i : S1x1x512.Idx => x (ix3 0 0 ⟨o + (i 2).val, by have : (i 2).val < 512 := (i 2).isLt; omega⟩) := by
  funext i
  refine congrArg x ?_
  have e0 : (i 0).val < 1 := (i 0).isLt
  have e1 : (i 1).val < 1 := (i 1).isLt
  funext a; apply Fin.ext
  match a with
  | ⟨0, _⟩ => show 0 + 1 * (i 0).val = 0; omega
  | ⟨1, _⟩ => show 0 + 1 * (i 1).val = 0; omega
  | ⟨2, _⟩ => show o + 1 * (i 2).val = o + (i 2).val; omega

/-- 512 of the first states. -/
theorem init_read (x : Vec Ideal S32x8192 .f32) {o : Nat} (inb : ∀ a, (![0, o] : Fin 2 → Nat) a + (![32, 512] : Fin 2 → Nat) a ≤ S32x8192.size a)
    (h : o + 512 ≤ 8192) : View.ld x (Rect.unit ![0, o] ![32, 512] inb)
      = fun i : S32x512.Idx => x (ix2 (i 0) ⟨o + (i 1).val, by have : (i 1).val < 512 := (i 1).isLt; omega⟩) := by
  funext i
  refine congrArg x ?_
  funext a; apply Fin.ext
  match a with
  | ⟨0, _⟩ => show 0 + 1 * (i 0).val = (i 0).val; omega
  | ⟨1, _⟩ => show o + 1 * (i 1).val = o + (i 1).val; omega

/-- A stored part of 32 rows and 512 columns holds what the array is to hold there. -/
theorem part_of {n0 n1 o0 o1 : Nat} (inb : ∀ a, (![o0, o1] : Fin 2 → Nat) a + (![32, 512] : Fin 2 → Nat) a ≤ (⟨2, ![n0, n1]⟩ : Shape).size a)
    (w : Vec Ideal S32x512 .f32) (G : Vec Ideal ⟨2, ![n0, n1]⟩ .f32) (h0 : o0 + 32 ≤ n0) (h1 : o1 + 512 ≤ n1)
    (h : ∀ (s : Fin 32) (l : Fin 512), w (ix2 s l) = G (ix2 ⟨o0 + s.val, by omega⟩ ⟨o1 + l.val, by omega⟩)) :
    ∀ x : S32x512.Idx, w x = G ((Rect.unit (s := ⟨2, ![n0, n1]⟩) ![o0, o1] ![32, 512] inb).emb x) := by
  intro x
  rw [eq_ix2 x]
  refine (h _ _).trans (congrArg G ?_)
  funext a; apply Fin.ext
  match a with
  | ⟨0, _⟩ => show o0 + (x 0).val = o0 + 1 * (x 0).val; omega
  | ⟨1, _⟩ => show o1 + (x 1).val = o1 + 1 * (x 1).val; omega

section Tiles

variable (u : Vec Ideal S128x2048 .f32) (p : Vec Ideal S128x128 .bf16) (B : Vec Ideal S8x256x1024 .bf16)

theorem tile_of (x : Vec Ideal S128x2048 .bf16) (q : Fin 8) (inb : ∀ a, (![q.val, 0, 0] : Fin 3 → Nat) a + (![1, 256, 1024] : Fin 3 → Nat) a ≤ S8x256x1024.size a)
    (w : Vec Ideal S128x1024 .f32) (h : ∀ r c, w (ix2 r c) = driveOf x (View.ld B (Rect.unit ![q.val, 0, 0] ![1, 256, 1024] inb)) q r c) :
    w = tile (driveAt x B) q := by
  funext i
  rw [eq_ix2 i]
  refine (h _ _).trans ?_
  have hq := q.isLt
  have h1 : (i 1).val < 1024 := (i 1).isLt
  unfold driveOf
  show _ = driveAt x B (i 0) _
  unfold driveAt
  refine Finset.sum_congr rfl fun k _ => ?_
  refine congrArg₂ (fun a b : EReal => a * b) (congrArg x ?_) (congrArg B ?_)
  · refine congrArg (ix2 (i 0)) (Fin.ext ?_)
    show 256 * q.val + k.val = 256 * ((1024 * q.val + (i 1).val) / 1024) + k.val
    omega
  · funext a; apply Fin.ext
    match a with
    | ⟨0, _⟩ => show q.val + 1 * 0 = (1024 * q.val + (i 1).val) / 1024; omega
    | ⟨1, _⟩ => show 0 + 1 * k.val = k.val; omega
    | ⟨2, _⟩ => show 0 + 1 * (i 1).val = (1024 * q.val + (i 1).val) % 1024; omega

theorem tile_re0 (inb : ∀ a, (![0, 0, 0] : Fin 3 → Nat) a + (![1, 256, 1024] : Fin 3 → Nat) a ≤ S8x256x1024.size a) :
    k0_pay4 u p (View.ld B (Rect.unit ![0, 0, 0] ![1, 256, 1024] inb)) = tile (driveAt (k0_pay2 u p) B) 0 :=
  tile_of B _ 0 inb _ (drive_re0 u p _)
theorem tile_re1 (inb : ∀ a, (![1, 0, 0] : Fin 3 → Nat) a + (![1, 256, 1024] : Fin 3 → Nat) a ≤ S8x256x1024.size a) :
    k0_pay7 u p (View.ld B (Rect.unit ![1, 0, 0] ![1, 256, 1024] inb)) = tile (driveAt (k0_pay2 u p) B) 1 :=
  tile_of B _ 1 inb _ (drive_re1 u p _)
theorem tile_re2 (inb : ∀ a, (![2, 0, 0] : Fin 3 → Nat) a + (![1, 256, 1024] : Fin 3 → Nat) a ≤ S8x256x1024.size a) :
    k0_pay11 (k0_pay2 u p) (View.ld B (Rect.unit ![2, 0, 0] ![1, 256, 1024] inb)) = tile (driveAt (k0_pay2 u p) B) 2 :=
  tile_of B _ 2 inb _ (drive_re2 u p _)
theorem tile_re3 (inb : ∀ a, (![3, 0, 0] : Fin 3 → Nat) a + (![1, 256, 1024] : Fin 3 → Nat) a ≤ S8x256x1024.size a) :
    k0_pay14 (k0_pay2 u p) (View.ld B (Rect.unit ![3, 0, 0] ![1, 256, 1024] inb)) = tile (driveAt (k0_pay2 u p) B) 3 :=
  tile_of B _ 3 inb _ (drive_re3 u p _)
theorem tile_re4 (inb : ∀ a, (![4, 0, 0] : Fin 3 → Nat) a + (![1, 256, 1024] : Fin 3 → Nat) a ≤ S8x256x1024.size a) :
    k0_pay17 (k0_pay2 u p) (View.ld B (Rect.unit ![4, 0, 0] ![1, 256, 1024] inb)) = tile (driveAt (k0_pay2 u p) B) 4 :=
  tile_of B _ 4 inb _ (drive_re4 u p _)
theorem tile_re5 (inb : ∀ a, (![5, 0, 0] : Fin 3 → Nat) a + (![1, 256, 1024] : Fin 3 → Nat) a ≤ S8x256x1024.size a) :
    k0_pay20 (k0_pay2 u p) (View.ld B (Rect.unit ![5, 0, 0] ![1, 256, 1024] inb)) = tile (driveAt (k0_pay2 u p) B) 5 :=
  tile_of B _ 5 inb _ (drive_re5 u p _)
theorem tile_re6 (inb : ∀ a, (![6, 0, 0] : Fin 3 → Nat) a + (![1, 256, 1024] : Fin 3 → Nat) a ≤ S8x256x1024.size a) :
    k0_pay24 (k0_pay22 (k0_pay2 u p)) (k0_pay23 (View.ld B (Rect.unit ![6, 0, 0] ![1, 256, 1024] inb))) = tile (driveAt (k0_pay2 u p) B) 6 :=
  tile_of B _ 6 inb _ (drive_re6 u p _)
theorem tile_re7 (inb : ∀ a, (![7, 0, 0] : Fin 3 → Nat) a + (![1, 256, 1024] : Fin 3 → Nat) a ≤ S8x256x1024.size a) :
    k0_pay27 (k0_pay2 u p) (View.ld B (Rect.unit ![7, 0, 0] ![1, 256, 1024] inb)) = tile (driveAt (k0_pay2 u p) B) 7 :=
  tile_of B _ 7 inb _ (drive_re7 u p _)
theorem tile_im0 (inb : ∀ a, (![0, 0, 0] : Fin 3 → Nat) a + (![1, 256, 1024] : Fin 3 → Nat) a ≤ S8x256x1024.size a) :
    k0_pay5 u p (View.ld B (Rect.unit ![0, 0, 0] ![1, 256, 1024] inb)) = tile (driveAt (k0_pay2 u p) B) 0 :=
  tile_of B _ 0 inb _ (drive_im0 u p _)
theorem tile_im1 (inb : ∀ a, (![1, 0, 0] : Fin 3 → Nat) a + (![1, 256, 1024] : Fin 3 → Nat) a ≤ S8x256x1024.size a) :
    k0_pay9 (k0_pay8 u p (View.ld B (Rect.unit ![1, 0, 0] ![1, 256, 1024] inb))) = tile (driveAt (k0_pay2 u p) B) 1 :=
  tile_of B _ 1 inb _ (drive_im1 u p _)
theorem tile_im2 (inb : ∀ a, (![2, 0, 0] : Fin 3 → Nat) a + (![1, 256, 1024] : Fin 3 → Nat) a ≤ S8x256x1024.size a) :
    k0_pay12 (k0_pay2 u p) (View.ld B (Rect.unit ![2, 0, 0] ![1, 256, 1024] inb)) = tile (driveAt (k0_pay2 u p) B) 2 :=
  tile_of B _ 2 inb _ (drive_im2 u p _)
theorem tile_im3 (inb : ∀ a, (![3, 0, 0] : Fin 3 → Nat) a + (![1, 256, 1024] : Fin 3 → Nat) a ≤ S8x256x1024.size a) :
    k0_pay15 (k0_pay2 u p) (View.ld B (Rect.unit ![3, 0, 0] ![1, 256, 1024] inb)) = tile (driveAt (k0_pay2 u p) B) 3 :=
  tile_of B _ 3 inb _ (drive_im3 u p _)
theorem tile_im4 (inb : ∀ a, (![4, 0, 0] : Fin 3 → Nat) a + (![1, 256, 1024] : Fin 3 → Nat) a ≤ S8x256x1024.size a) :
    k0_pay18 (k0_pay2 u p) (View.ld B (Rect.unit ![4, 0, 0] ![1, 256, 1024] inb)) = tile (driveAt (k0_pay2 u p) B) 4 :=
  tile_of B _ 4 inb _ (drive_im4 u p _)
theorem tile_im5 (inb : ∀ a, (![5, 0, 0] : Fin 3 → Nat) a + (![1, 256, 1024] : Fin 3 → Nat) a ≤ S8x256x1024.size a) :
    k0_pay21 (k0_pay2 u p) (View.ld B (Rect.unit ![5, 0, 0] ![1, 256, 1024] inb)) = tile (driveAt (k0_pay2 u p) B) 5 :=
  tile_of B _ 5 inb _ (drive_im5 u p _)
theorem tile_im6 (inb : ∀ a, (![6, 0, 0] : Fin 3 → Nat) a + (![1, 256, 1024] : Fin 3 → Nat) a ≤ S8x256x1024.size a) :
    k0_pay25 (k0_pay22 (k0_pay2 u p)) (View.ld B (Rect.unit ![6, 0, 0] ![1, 256, 1024] inb)) = tile (driveAt (k0_pay2 u p) B) 6 :=
  tile_of B _ 6 inb _ (drive_im6 u p _)
theorem tile_im7 (inb : ∀ a, (![7, 0, 0] : Fin 3 → Nat) a + (![1, 256, 1024] : Fin 3 → Nat) a ≤ S8x256x1024.size a) :
    k0_pay28 (k0_pay2 u p) (View.ld B (Rect.unit ![7, 0, 0] ![1, 256, 1024] inb)) = tile (driveAt (k0_pay2 u p) B) 7 :=
  tile_of B _ 7 inb _ (drive_im7 u p _)

end Tiles

set_option maxHeartbeats 0

open kernelRun0_A.sl

section Final

variable (c : Dev nD) (i : grid0.Coords) (arg1 : Memref sig .tc .vmem S128x2048 .f32) (harg1 : arg1.IsWhole) (arg2 : Memref sig .tc .vmem S8x256x1024
    .bf16) (harg2 : arg2.IsWhole) (arg3 : Memref sig .tc .vmem S8x256x1024 .bf16) (harg3 : arg3.IsWhole) (arg4 : Memref sig .tc .vmem
    S8x1024x256 .bf16) (harg4 : arg4.IsWhole) (arg5 : Memref sig .tc .vmem S8x1024x256 .bf16) (harg5 : arg5.IsWhole) (arg6 : Memref sig .tc
    .vmem S1x1x8192 .f32) (harg6 : arg6.IsWhole) (arg7 : Memref sig .tc .vmem S1x1x8192 .f32) (harg7 : arg7.IsWhole) (arg8 : Memref sig .tc
    .vmem S1x1x2048 .f32) (harg8 : arg8.IsWhole) (arg9 : Memref sig .tc .vmem S128x128 .bf16) (harg9 : arg9.IsWhole) (arg10 : Memref sig .tc
    .vmem S128x128 .bf16) (harg10 : arg10.IsWhole) (arg11 : Memref sig .tc .vmem S32x8192 .f32) (harg11 : arg11.IsWhole) (arg12 : Memref sig .tc
    .vmem S32x8192 .f32) (harg12 : arg12.IsWhole) (arg13 : Memref sig .tc .vmem S128x2048 .f32) (harg13 : arg13.IsWhole) (arg14 : Memref sig .tc
    .vmem S32x8192 .f32) (harg14 : arg14.IsWhole) (arg15 : Memref sig .tc .vmem S32x8192 .f32) (harg15 : arg15.IsWhole) (arg16 : Memref sig .tc
    .vmem S128x8192 .f32) (harg16 : arg16.IsWhole) (arg17 : Memref sig .tc .vmem S128x8192 .f32) (harg17 : arg17.IsWhole) (arg18 : Memref sig
    .tc .vmem S128x2048 .f32) (harg18 : arg18.IsWhole)     (x0 : Vec Ideal S128x2048 .f32) (x1 : Vec Ideal S8x256x1024 .bf16) (x2 : Vec Ideal
    S8x256x1024 .bf16) (x3 : Vec Ideal S8x1024x256 .bf16) (x4 : Vec Ideal S8x1024x256 .bf16) (x5 : Vec Ideal S1x1x8192 .f32) (x6 : Vec Ideal
    S1x1x8192 .f32) (x7 : Vec Ideal S1x1x2048 .f32) (x8 : Vec Ideal S128x128 .bf16) (x9 : Vec Ideal S128x128 .bf16) (x10 : Vec Ideal S32x8192
    .f32) (x11 : Vec Ideal S32x8192 .f32)

/-- The block's final states, real part. -/
theorem final_re : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11
      = reals (state3 (coef x5 x6) (init x10 x11) (drive x0 x8 x1 x2)) := by
  unfold out0_A_13
  rw [View.read_writes_junk_eq_canon]
  funext y
  refine canon_of (S := S32x8192) (e := .f32) (Val := Elt Ideal) (reals (state3 (coef x5 x6) (init x10 x11) (drive x0 x8 x1 x2))) _ ?_ y ?_
  · unfold kernelRun0_A
    refine ⟨?_, ?_, ?_, ?_, ?_, ?_, ?_, ?_, ?_, ?_, ?_, ?_, ?_, ?_, ?_, ?_, trivial⟩
    all_goals
      refine part_of (by decide) _ _ (by decide) (by decide) ?_
      intro s l
      simp only [r_5, r_6, r_7, r_8, r_9, r_10, r_11, r_12, r_13, r_14, r_15, r_16, r_17, r_18, r_19, r_20, r_21, r_22, r_23, r_24, r_25, r_26, r_27, r_28, r_29, r_30,
        r_31, r_32, r_33, r_34, r_35, r_36, r_37, r_38, r_39, r_40, r_41, r_42, r_43, r_44, r_45, r_46, r_47, r_48, r_49, r_50, r_51, r_52, r_53,
        r_54, r_55, r_56, r_57, r_58, r_59, r_60, r_61, r_62, r_63, r_64, r_65, r_66, r_67, r_68, r_69, r_70, r_71, r_72, r_73, r_74, r_75, r_76,
        r_77, r_78, r_79, r_80, r_81, r_82, r_83, r_84, r_85, r_86, r_87, r_88, r_89, r_90, r_91, r_92, r_93, r_94, r_95, r_96, r_97, r_98, r_99,
        r_100, r_101, r_102, r_103, r_104, r_105, r_106, r_107, r_108, r_109, r_110, r_111, r_112, r_113, r_114, r_115, r_116, r_117, r_118, r_119,
        r_120, r_121, r_122]
      simp only [v123, v130, v143, v150, v163, v170, v183, v190, v213, v220, v233, v240, v253, v260, v273, v280, v303, v310, v323, v330, v343, v350, v363, v370, v393,
        v400, v413, v420, v433, v440, v453, v460, v483, v490, v503, v510, v523, v530, v543, v550, v573, v580, v593, v600, v613, v620, v633, v640,
        v663, v670, v683, v690, v703, v710, v723, v730, v753, v760, v773, v780, v793, v800, v813, v820, v843, v850, v863, v870, v883, v890, v903,
        v910, v933, v940, v953, v960, v973, v980, v993, v1000, v1023, v1030, v1043, v1050, v1063, v1070, v1083, v1090, v1113, v1120, v1133, v1140,
        v1153, v1160, v1173, v1180, v1203, v1210, v1223, v1230, v1243, v1250, v1263, v1270, v1293, v1300, v1313, v1320, v1333, v1340, v1353, v1360,
        v1383, v1390, v1403, v1410, v1423, v1430, v1443, v1450, v1473, v1480, v1493, v1500, v1513, v1520, v1533, v1540]
      delta HS0_8 HS0_9 HS0_10 HS0_11 HS0_12 HS0_13 HS0_14 HS0_15 HS0_16 HS0_17 HS0_18 HS0_19 HS0_20 HS0_21 HS0_22 HS0_23 HS0_24 HS0_25 HS0_26 HS0_27 HS0_28
        HS0_29 HS0_30 HS0_31 HS0_32 HS0_33 HS0_34 HS0_35 HS0_36 HS0_37 HS0_38 HS0_39 HS0_40 HS0_41 HS0_42 HS0_43 HS0_44 HS0_45 HS0_46 HS0_47 HS0_48
        HS0_49 HS0_50 HS0_51 HS0_52 HS0_53 HS0_54 HS0_55 HS0_56 HS0_57 HS0_58 HS0_59 HS0_60 HS0_61 HS0_62 HS0_63 HS0_64 HS0_65 HS0_66 HS0_67 HS0_68
        HS0_69 HS0_70 HS0_71 HS0_72 HS1_8 HS1_9 HS1_10 HS1_11 HS1_12 HS1_13 HS1_14 HS1_15 HS1_16 HS1_17 HS1_18 HS1_19 HS1_20 HS1_21 HS1_22 HS1_23
        HS1_24 HS1_25 HS1_26 HS1_27 HS1_28 HS1_29 HS1_30 HS1_31 HS1_32 HS1_33 HS1_34 HS1_35 HS1_36 HS1_37 HS1_38 HS1_39 HS1_40 HS1_41 HS1_42 HS1_43
        HS1_44 HS1_45 HS1_46 HS1_47 HS1_48 HS1_49 HS1_50 HS1_51 HS1_52 HS1_53 HS1_54 HS1_55 HS1_56 HS1_57 HS1_58 HS1_59 HS1_60 HS1_61 HS1_62 HS1_63
        HS1_64 HS1_65 HS1_66 HS1_67 HS1_68 HS1_69 HS1_70 HS1_71 HS1_72
      simp (disch := decide) only [↓ View.readCov_skip, View.ld_unit_lit', View.readAt_eq_ld, Memref.IsWhole.read_unread,
        tile_read, coef_read, init_read, r_1, r_2, r_3, r_4, tile_re0, tile_re1, tile_re2, tile_re3, tile_re4, tile_re5, tile_re6, tile_re7, tile_im0, tile_im1, tile_im2, tile_im3, tile_im4, tile_im5, tile_im6,
        tile_im7]
      simp only [reals, imags, state3, state2, state1, state0, next, coef, init, drive]
      generalize driveAt (k0_pay2 x0 x8) x1 = dr
      generalize driveAt (k0_pay2 x0 x8) x2 = di
      pointwise [k0_pay29, k0_pay30, k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136, k0_pay137, k0_pay138,
        k0_pay139, k0_pay140, k0_pay141, k0_pay142, k0_pay143, k0_pay144, k0_pay145, k0_pay146, k0_pay147, k0_pay148, k0_pay149, k0_pay150, k0_pay151,
        k0_pay152, k0_pay153, k0_pay154, k0_pay155, k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173, k0_pay174, k0_pay175, k0_pay176, k0_pay177,
        k0_pay178, k0_pay179, k0_pay180, k0_pay181, k0_pay182, k0_pay183, k0_pay184, k0_pay185, k0_pay186, k0_pay187, k0_pay188, k0_pay189, k0_pay190,
        k0_pay191, k0_pay192, k0_pay193, k0_pay194, k0_pay195, k0_pay196, k0_pay197, k0_pay198, k0_pay199, k0_pay200, k0_pay201, k0_pay202, k0_pay203,
        k0_pay204, k0_pay205, k0_pay206, k0_pay207, k0_pay208, k0_pay209, k0_pay210, k0_pay211, k0_pay212, k0_pay213, k0_pay214, k0_pay215, k0_pay216,
        k0_pay217, k0_pay218, k0_pay219, k0_pay220, k0_pay221, k0_pay222, k0_pay223, k0_pay224, k0_pay225, k0_pay226, k0_pay227, k0_pay228, k0_pay229,
        k0_pay230, k0_pay231, k0_pay232, k0_pay233, k0_pay234, k0_pay235, k0_pay236, k0_pay237, k0_pay238, k0_pay239, k0_pay240, k0_pay241, k0_pay242,
        k0_pay243, k0_pay244, k0_pay245, k0_pay246, k0_pay247, k0_pay248, k0_pay249, k0_pay250, k0_pay251, k0_pay252, k0_pay253, k0_pay254, k0_pay255,
        k0_pay256, k0_pay257, k0_pay258, k0_pay259, k0_pay260, k0_pay261, k0_pay262, k0_pay263, k0_pay264, k0_pay265, k0_pay266, k0_pay267, k0_pay268,
        k0_pay269, k0_pay270, k0_pay271, k0_pay272, k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290, k0_pay291, k0_pay292, k0_pay293, k0_pay294,
        k0_pay295, k0_pay296, k0_pay297, k0_pay298, k0_pay299, k0_pay300, k0_pay301, k0_pay302, k0_pay303, k0_pay304, k0_pay305, k0_pay306, k0_pay307,
        k0_pay308, k0_pay309, k0_pay310, k0_pay311, k0_pay312, k0_pay313, k0_pay314, k0_pay315, k0_pay316, k0_pay317, k0_pay318, k0_pay319, k0_pay320,
        k0_pay321, k0_pay322, k0_pay323, k0_pay324, k0_pay325, k0_pay326, k0_pay327, k0_pay328, k0_pay329, k0_pay330, k0_pay331, k0_pay332, k0_pay333,
        k0_pay334, k0_pay335, k0_pay336, k0_pay337, k0_pay338, k0_pay339, k0_pay340, k0_pay341, k0_pay342, k0_pay343, k0_pay344, k0_pay345, k0_pay346,
        k0_pay347, k0_pay348, k0_pay349, k0_pay350, k0_pay351, k0_pay352, k0_pay353, k0_pay354, k0_pay355, k0_pay356, k0_pay357, k0_pay358, k0_pay359,
        k0_pay360, k0_pay361, k0_pay362, k0_pay363, k0_pay364, k0_pay365, k0_pay366, k0_pay367, k0_pay368]
  · exact cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 y

/-- The block's final states, imaginary part. -/
theorem final_im : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11
      = imags (state3 (coef x5 x6) (init x10 x11) (drive x0 x8 x1 x2)) := by
  unfold out0_A_14
  rw [View.read_writes_junk_eq_canon]
  funext y
  refine canon_of (S := S32x8192) (e := .f32) (Val := Elt Ideal) (imags (state3 (coef x5 x6) (init x10 x11) (drive x0 x8 x1 x2))) _ ?_ y ?_
  · unfold kernelRun0_A
    refine ⟨?_, ?_, ?_, ?_, ?_, ?_, ?_, ?_, ?_, ?_, ?_, ?_, ?_, ?_, ?_, ?_, trivial⟩
    all_goals
      refine part_of (by decide) _ _ (by decide) (by decide) ?_
      intro s l
      simp only [r_5, r_6, r_7, r_8, r_9, r_10, r_11, r_12, r_13, r_14, r_15, r_16, r_17, r_18, r_19, r_20, r_21, r_22, r_23, r_24, r_25, r_26, r_27, r_28, r_29, r_30,
        r_31, r_32, r_33, r_34, r_35, r_36, r_37, r_38, r_39, r_40, r_41, r_42, r_43, r_44, r_45, r_46, r_47, r_48, r_49, r_50, r_51, r_52, r_53,
        r_54, r_55, r_56, r_57, r_58, r_59, r_60, r_61, r_62, r_63, r_64, r_65, r_66, r_67, r_68, r_69, r_70, r_71, r_72, r_73, r_74, r_75, r_76,
        r_77, r_78, r_79, r_80, r_81, r_82, r_83, r_84, r_85, r_86, r_87, r_88, r_89, r_90, r_91, r_92, r_93, r_94, r_95, r_96, r_97, r_98, r_99,
        r_100, r_101, r_102, r_103, r_104, r_105, r_106, r_107, r_108, r_109, r_110, r_111, r_112, r_113, r_114, r_115, r_116, r_117, r_118, r_119,
        r_120, r_121, r_122]
      simp only [v123, v130, v143, v150, v163, v170, v183, v190, v213, v220, v233, v240, v253, v260, v273, v280, v303, v310, v323, v330, v343, v350, v363, v370, v393,
        v400, v413, v420, v433, v440, v453, v460, v483, v490, v503, v510, v523, v530, v543, v550, v573, v580, v593, v600, v613, v620, v633, v640,
        v663, v670, v683, v690, v703, v710, v723, v730, v753, v760, v773, v780, v793, v800, v813, v820, v843, v850, v863, v870, v883, v890, v903,
        v910, v933, v940, v953, v960, v973, v980, v993, v1000, v1023, v1030, v1043, v1050, v1063, v1070, v1083, v1090, v1113, v1120, v1133, v1140,
        v1153, v1160, v1173, v1180, v1203, v1210, v1223, v1230, v1243, v1250, v1263, v1270, v1293, v1300, v1313, v1320, v1333, v1340, v1353, v1360,
        v1383, v1390, v1403, v1410, v1423, v1430, v1443, v1450, v1473, v1480, v1493, v1500, v1513, v1520, v1533, v1540]
      delta HS0_8 HS0_9 HS0_10 HS0_11 HS0_12 HS0_13 HS0_14 HS0_15 HS0_16 HS0_17 HS0_18 HS0_19 HS0_20 HS0_21 HS0_22 HS0_23 HS0_24 HS0_25 HS0_26 HS0_27 HS0_28
        HS0_29 HS0_30 HS0_31 HS0_32 HS0_33 HS0_34 HS0_35 HS0_36 HS0_37 HS0_38 HS0_39 HS0_40 HS0_41 HS0_42 HS0_43 HS0_44 HS0_45 HS0_46 HS0_47 HS0_48
        HS0_49 HS0_50 HS0_51 HS0_52 HS0_53 HS0_54 HS0_55 HS0_56 HS0_57 HS0_58 HS0_59 HS0_60 HS0_61 HS0_62 HS0_63 HS0_64 HS0_65 HS0_66 HS0_67 HS0_68
        HS0_69 HS0_70 HS0_71 HS0_72 HS1_8 HS1_9 HS1_10 HS1_11 HS1_12 HS1_13 HS1_14 HS1_15 HS1_16 HS1_17 HS1_18 HS1_19 HS1_20 HS1_21 HS1_22 HS1_23
        HS1_24 HS1_25 HS1_26 HS1_27 HS1_28 HS1_29 HS1_30 HS1_31 HS1_32 HS1_33 HS1_34 HS1_35 HS1_36 HS1_37 HS1_38 HS1_39 HS1_40 HS1_41 HS1_42 HS1_43
        HS1_44 HS1_45 HS1_46 HS1_47 HS1_48 HS1_49 HS1_50 HS1_51 HS1_52 HS1_53 HS1_54 HS1_55 HS1_56 HS1_57 HS1_58 HS1_59 HS1_60 HS1_61 HS1_62 HS1_63
        HS1_64 HS1_65 HS1_66 HS1_67 HS1_68 HS1_69 HS1_70 HS1_71 HS1_72
      simp (disch := decide) only [↓ View.readCov_skip, View.ld_unit_lit', View.readAt_eq_ld, Memref.IsWhole.read_unread,
        tile_read, coef_read, init_read, r_1, r_2, r_3, r_4, tile_re0, tile_re1, tile_re2, tile_re3, tile_re4, tile_re5, tile_re6, tile_re7, tile_im0, tile_im1, tile_im2, tile_im3, tile_im4, tile_im5, tile_im6,
        tile_im7]
      simp only [reals, imags, state3, state2, state1, state0, next, coef, init, drive]
      generalize driveAt (k0_pay2 x0 x8) x1 = dr
      generalize driveAt (k0_pay2 x0 x8) x2 = di
      pointwise [k0_pay29, k0_pay30, k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136, k0_pay137, k0_pay138,
        k0_pay139, k0_pay140, k0_pay141, k0_pay142, k0_pay143, k0_pay144, k0_pay145, k0_pay146, k0_pay147, k0_pay148, k0_pay149, k0_pay150, k0_pay151,
        k0_pay152, k0_pay153, k0_pay154, k0_pay155, k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173, k0_pay174, k0_pay175, k0_pay176, k0_pay177,
        k0_pay178, k0_pay179, k0_pay180, k0_pay181, k0_pay182, k0_pay183, k0_pay184, k0_pay185, k0_pay186, k0_pay187, k0_pay188, k0_pay189, k0_pay190,
        k0_pay191, k0_pay192, k0_pay193, k0_pay194, k0_pay195, k0_pay196, k0_pay197, k0_pay198, k0_pay199, k0_pay200, k0_pay201, k0_pay202, k0_pay203,
        k0_pay204, k0_pay205, k0_pay206, k0_pay207, k0_pay208, k0_pay209, k0_pay210, k0_pay211, k0_pay212, k0_pay213, k0_pay214, k0_pay215, k0_pay216,
        k0_pay217, k0_pay218, k0_pay219, k0_pay220, k0_pay221, k0_pay222, k0_pay223, k0_pay224, k0_pay225, k0_pay226, k0_pay227, k0_pay228, k0_pay229,
        k0_pay230, k0_pay231, k0_pay232, k0_pay233, k0_pay234, k0_pay235, k0_pay236, k0_pay237, k0_pay238, k0_pay239, k0_pay240, k0_pay241, k0_pay242,
        k0_pay243, k0_pay244, k0_pay245, k0_pay246, k0_pay247, k0_pay248, k0_pay249, k0_pay250, k0_pay251, k0_pay252, k0_pay253, k0_pay254, k0_pay255,
        k0_pay256, k0_pay257, k0_pay258, k0_pay259, k0_pay260, k0_pay261, k0_pay262, k0_pay263, k0_pay264, k0_pay265, k0_pay266, k0_pay267, k0_pay268,
        k0_pay269, k0_pay270, k0_pay271, k0_pay272, k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290, k0_pay291, k0_pay292, k0_pay293, k0_pay294,
        k0_pay295, k0_pay296, k0_pay297, k0_pay298, k0_pay299, k0_pay300, k0_pay301, k0_pay302, k0_pay303, k0_pay304, k0_pay305, k0_pay306, k0_pay307,
        k0_pay308, k0_pay309, k0_pay310, k0_pay311, k0_pay312, k0_pay313, k0_pay314, k0_pay315, k0_pay316, k0_pay317, k0_pay318, k0_pay319, k0_pay320,
        k0_pay321, k0_pay322, k0_pay323, k0_pay324, k0_pay325, k0_pay326, k0_pay327, k0_pay328, k0_pay329, k0_pay330, k0_pay331, k0_pay332, k0_pay333,
        k0_pay334, k0_pay335, k0_pay336, k0_pay337, k0_pay338, k0_pay339, k0_pay340, k0_pay341, k0_pay342, k0_pay343, k0_pay344, k0_pay345, k0_pay346,
        k0_pay347, k0_pay348, k0_pay349, k0_pay350, k0_pay351, k0_pay352, k0_pay353, k0_pay354, k0_pay355, k0_pay356, k0_pay357, k0_pay358, k0_pay359,
        k0_pay360, k0_pay361, k0_pay362, k0_pay363, k0_pay364, k0_pay365, k0_pay366, k0_pay367, k0_pay368]
  · exact cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 y

end Final

end Cert.KernelIdeal.Block

end
end
-- ==== Proof.DecodeSpec.lean ====
/-
  THE S5 DECODE CALL, what it computes: for each of 128 sequences the recurrence `h ↦ a h + b u` over its 4 tokens, with
  128 groups of 64 complex states fed from 16 channels each, and the real part of what the output matrices make of the
  states.  Also: when every argument is a real number, so is every value on the way.
-/
module

public import proofs.«01_k».proof.Proof.DecodeStates

@[expose] public section

set_option maxRecDepth 16384

noncomputable section

namespace Cert.KernelIdeal.Block

open Cert.KernelIdeal Idealize.ShloMosaic

/-- The states after each of the 4 tokens, from the first state `h` and what the tokens add, `d`. -/
def after (a h : EReal × EReal) (d : Fin 4 → EReal × EReal) : Fin 4 → EReal × EReal
  | ⟨0, _⟩ => next a h (d 0)
  | ⟨1, _⟩ => next a (next a h (d 0)) (d 1)
  | ⟨2, _⟩ => next a (next a (next a h (d 0)) (d 1)) (d 2)
  | ⟨3, _⟩ => next a (next a (next a (next a h (d 0)) (d 1)) (d 2)) (d 3)

/-- What token `t` of sequence `n` adds to state `j`, through one part `b` of the input matrices. -/
def fed (u : Vec Ideal S8704x10240 .f32) (b : Vec Ideal S256x64x16 .f32) (n : Fin 128) (t : Fin 4) (j : Fin 8192) : EReal :=
  ∑ k : Fin 16, (u (ix2 ⟨8192 + (4 * n.val + t.val), by omega⟩ ⟨16 * (j.val / 64) + k.val, by omega⟩) : EReal)
    * b (ix3 ⟨j.val / 64, by omega⟩ ⟨j.val % 64, by omega⟩ k)

section Spec

variable (u : Vec Ideal S8704x10240 .f32) (br bi : Vec Ideal S256x64x16 .f32) (cr ci : Vec Ideal S256x16x64 .f32) (ar ai : Vec Ideal S256x64 .f32)
  (d : Vec Ideal S2x2048 .f32) (hr hi : Vec Ideal S128x128x64 .f32)

/-- State `j` of sequence `n` after token `t`. -/
def stateAt (n : Fin 128) (t : Fin 4) (j : Fin 8192) : EReal × EReal :=
  after (ar (ix2 ⟨j.val / 64, by omega⟩ ⟨j.val % 64, by omega⟩), ai (ix2 ⟨j.val / 64, by omega⟩ ⟨j.val % 64, by omega⟩))
    (hr (ix3 n ⟨j.val / 64, by omega⟩ ⟨j.val % 64, by omega⟩), hi (ix3 n ⟨j.val / 64, by omega⟩ ⟨j.val % 64, by omega⟩))
    (fun t => (fed u br n t j, fed u bi n t j)) t

/-- What the states make of channel `c` at token `t`. -/
def outOf (n : Fin 128) (t : Fin 4) (c : Fin 2048) : EReal :=
  (∑ p : Fin 64, (stateAt u br bi ar ai hr hi n t ⟨64 * (c.val / 16) + p.val, by omega⟩).1 * cr (ix3 ⟨c.val / 16, by omega⟩ ⟨c.val % 16, by omega⟩ p))
    - ∑ p : Fin 64, (stateAt u br bi ar ai hr hi n t ⟨64 * (c.val / 16) + p.val, by omega⟩).2 * ci (ix3 ⟨c.val / 16, by omega⟩ ⟨c.val % 16, by omega⟩ p)

/-- The rows the call returns. -/
def outputs : Vec Ideal S512x2048 .f32 := fun i =>
  outOf u br bi cr ci ar ai hr hi ⟨(i 0).val / 4, by have : (i 0).val < 512 := (i 0).isLt; omega⟩ ⟨(i 0).val % 4, by omega⟩ (i 1)
    + d (ix2 0 (i 1)) * u (ix2 ⟨8192 + (i 0).val, by have : (i 0).val < 512 := (i 0).isLt; show _ < 8704; omega⟩
        ⟨(i 1).val, by have : (i 1).val < 2048 := (i 1).isLt; show _ < 10240; omega⟩)

/-- The last states' real parts. -/
def lastRe : Vec Ideal S128x8192 .f32 := fun i => (stateAt u br bi ar ai hr hi (i 0) 3 (i 1)).1
/-- Their imaginary parts. -/
def lastIm : Vec Ideal S128x8192 .f32 := fun i => (stateAt u br bi ar ai hr hi (i 0) 3 (i 1)).2

end Spec

/-! ## Real numbers stay real -/

/-- Not infinite. -/
def IsReal (x : EReal) : Prop := ∃ r : ℝ, x = (r : EReal)

theorem IsReal.mul {x y : EReal} (hx : IsReal x) (hy : IsReal y) : IsReal (x * y) := by
  obtain ⟨r, rfl⟩ := hx; obtain ⟨s, rfl⟩ := hy
  exact ⟨r * s, (EReal.coe_mul r s).symm⟩

theorem IsReal.add {x y : EReal} (hx : IsReal x) (hy : IsReal y) : IsReal (x + y) := by
  obtain ⟨r, rfl⟩ := hx; obtain ⟨s, rfl⟩ := hy
  exact ⟨r + s, (EReal.coe_add r s).symm⟩

theorem IsReal.sub {x y : EReal} (hx : IsReal x) (hy : IsReal y) : IsReal (x - y) := by
  obtain ⟨r, rfl⟩ := hx; obtain ⟨s, rfl⟩ := hy
  exact ⟨r - s, (EReal.coe_sub r s).symm⟩

theorem IsReal.sum {n : Nat} {f : Fin n → EReal} (h : ∀ k, IsReal (f k)) : IsReal (∑ k : Fin n, f k) := by
  choose g hg using h
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, ih, EReal.coe_add]

/-- A real number less itself is zero. -/
theorem IsReal.sub_self {x : EReal} (hx : IsReal x) : x - x = 0 := by
  obtain ⟨r, rfl⟩ := hx
  rw [← EReal.coe_sub, _root_.sub_self, EReal.coe_zero]

theorem next_real {a h v : EReal × EReal} (ha : IsReal a.1 ∧ IsReal a.2) (hh : IsReal h.1 ∧ IsReal h.2) (hv : IsReal v.1 ∧ IsReal v.2) :
    IsReal (next a h v).1 ∧ IsReal (next a h v).2 :=
  ⟨((ha.1.mul hh.1).sub (ha.2.mul hh.2)).add hv.1, ((ha.1.mul hh.2).add (ha.2.mul hh.1)).add hv.2⟩

theorem after_real {a h : EReal × EReal} {d : Fin 4 → EReal × EReal} (ha : IsReal a.1 ∧ IsReal a.2) (hh : IsReal h.1 ∧ IsReal h.2)
    (hd : ∀ t, IsReal (d t).1 ∧ IsReal (d t).2) (t : Fin 4) : IsReal (after a h d t).1 ∧ IsReal (after a h d t).2 := by
  have h0 := next_real ha hh (hd 0)
  have h1 := next_real ha h0 (hd 1)
  have h2 := next_real ha h1 (hd 2)
  have h3 := next_real ha h2 (hd 3)
  match t with
  | ⟨0, _⟩ => exact h0
  | ⟨1, _⟩ => exact h1
  | ⟨2, _⟩ => exact h2
  | ⟨3, _⟩ => exact h3

section Reals

variable {u : Vec Ideal S8704x10240 .f32} {br bi : Vec Ideal S256x64x16 .f32} {cr ci : Vec Ideal S256x16x64 .f32} {ar ai : Vec Ideal S256x64 .f32}
  {hr hi : Vec Ideal S128x128x64 .f32}

theorem fed_real {b : Vec Ideal S256x64x16 .f32} (hu : ∀ i, IsReal (u i)) (hb : ∀ i, IsReal (b i)) (n : Fin 128) (t : Fin 4) (j : Fin 8192) :
    IsReal (fed u b n t j) := IsReal.sum fun _ => (hu _).mul (hb _)

/-- With real arguments, what the states make of a channel is real. -/
theorem outOf_real (hu : ∀ i, IsReal (u i)) (hbr : ∀ i, IsReal (br i)) (hbi : ∀ i, IsReal (bi i)) (hcr : ∀ i, IsReal (cr i)) (hci : ∀ i, IsReal (ci i))
    (har : ∀ i, IsReal (ar i)) (hai : ∀ i, IsReal (ai i)) (hhr : ∀ i, IsReal (hr i)) (hhi : ∀ i, IsReal (hi i))
    (n : Fin 128) (t : Fin 4) (c : Fin 2048) : IsReal (outOf u br bi cr ci ar ai hr hi n t c) := by
  have hs : ∀ j, IsReal (stateAt u br bi ar ai hr hi n t j).1 ∧ IsReal (stateAt u br bi ar ai hr hi n t j).2 := fun j =>
    after_real ⟨har _, hai _⟩ ⟨hhr _, hhi _⟩ (fun t => ⟨fed_real hu hbr n t j, fed_real hu hbi n t j⟩) t
  exact (IsReal.sum fun p => (hs _).1.mul (hcr _)).sub (IsReal.sum fun p => (hs _).2.mul (hci _))

end Reals

end Cert.KernelIdeal.Block

end
end
-- ==== Proof.DecodeScratch.lean ====
/-
  THE S5 DECODE CALL, one block: the states of all 4 steps, as the two scratch arrays hold them before the output
  matrices read them: 32 rows for each step.
-/
module

public import proofs.«01_k».proof.Proof.DecodeStates

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem

section Rows

variable (a : Fin 8192 → EReal × EReal) (h : Fin 32 → Fin 8192 → EReal × EReal) (d : Fin 128 → Fin 8192 → EReal × EReal)

/-- The state in row `r`: sequence `r % 32` after step `r / 32`. -/
def rowState (r : Fin 128) (j : Fin 8192) : EReal × EReal :=
  if h0 : r.val < 32 then state0 a h d ⟨r.val, h0⟩ j
  else if h1 : r.val < 64 then state1 a h d ⟨r.val - 32, by omega⟩ j
  else if h2 : r.val < 96 then state2 a h d ⟨r.val - 64, by omega⟩ j
  else state3 a h d ⟨r.val - 96, by omega⟩ j

/-- The states of all steps, as the scratch arrays hold them. -/
def rowReals : Vec Ideal S128x8192 .f32 := fun i => (rowState a h d (i 0) (i 1)).1
def rowImags : Vec Ideal S128x8192 .f32 := fun i => (rowState a h d (i 0) (i 1)).2

variable (s : Fin 32) (j : Fin 8192)

theorem rowState0 : rowState a h d ⟨0 + s.val, by omega⟩ j = state0 a h d s j := by
  unfold rowState
  rw [dif_pos (show 0 + s.val < 32 by omega)]
  exact congrArg (fun s => state0 a h d s j) (Fin.ext (show 0 + s.val = s.val by omega))

theorem rowState1 : rowState a h d ⟨32 + s.val, by omega⟩ j = state1 a h d s j := by
  unfold rowState
  rw [dif_neg (show ¬ 32 + s.val < 32 by omega), dif_pos (show 32 + s.val < 64 by omega)]
  exact congrArg (fun s => state1 a h d s j) (Fin.ext (show 32 + s.val - 32 = s.val by omega))

theorem rowState2 : rowState a h d ⟨64 + s.val, by omega⟩ j = state2 a h d s j := by
  unfold rowState
  rw [dif_neg (show ¬ 64 + s.val < 32 by omega), dif_neg (show ¬ 64 + s.val < 64 by omega), dif_pos (show 64 + s.val < 96 by omega)]
  exact congrArg (fun s => state2 a h d s j) (Fin.ext (show 64 + s.val - 64 = s.val by omega))

theorem rowState3 : rowState a h d ⟨96 + s.val, by omega⟩ j = state3 a h d s j := by
  unfold rowState
  rw [dif_neg (show ¬ 96 + s.val < 32 by omega), dif_neg (show ¬ 96 + s.val < 64 by omega), dif_neg (show ¬ 96 + s.val < 96 by omega)]
  exact congrArg (fun s => state3 a h d s j) (Fin.ext (show 96 + s.val - 96 = s.val by omega))

theorem rowReals0 : rowReals a h d (ix2 ⟨0 + s.val, by omega⟩ j) = (state0 a h d s j).1 := congrArg (fun x => x.1) (rowState0 a h d s j)
theorem rowReals1 : rowReals a h d (ix2 ⟨32 + s.val, by omega⟩ j) = (state1 a h d s j).1 := congrArg (fun x => x.1) (rowState1 a h d s j)
theorem rowReals2 : rowReals a h d (ix2 ⟨64 + s.val, by omega⟩ j) = (state2 a h d s j).1 := congrArg (fun x => x.1) (rowState2 a h d s j)
theorem rowReals3 : rowReals a h d (ix2 ⟨96 + s.val, by omega⟩ j) = (state3 a h d s j).1 := congrArg (fun x => x.1) (rowState3 a h d s j)
theorem rowImags0 : rowImags a h d (ix2 ⟨0 + s.val, by omega⟩ j) = (state0 a h d s j).2 := congrArg (fun x => x.2) (rowState0 a h d s j)
theorem rowImags1 : rowImags a h d (ix2 ⟨32 + s.val, by omega⟩ j) = (state1 a h d s j).2 := congrArg (fun x => x.2) (rowState1 a h d s j)
theorem rowImags2 : rowImags a h d (ix2 ⟨64 + s.val, by omega⟩ j) = (state2 a h d s j).2 := congrArg (fun x => x.2) (rowState2 a h d s j)
theorem rowImags3 : rowImags a h d (ix2 ⟨96 + s.val, by omega⟩ j) = (state3 a h d s j).2 := congrArg (fun x => x.2) (rowState3 a h d s j)

end Rows

set_option maxHeartbeats 0

open kernelRun0_A.sl

section Final

variable (c : Dev nD) (i : grid0.Coords) (arg1 : Memref sig .tc .vmem S128x2048 .f32) (harg1 : arg1.IsWhole) (arg2 : Memref sig .tc .vmem S8x256x1024
    .bf16) (harg2 : arg2.IsWhole) (arg3 : Memref sig .tc .vmem S8x256x1024 .bf16) (harg3 : arg3.IsWhole) (arg4 : Memref sig .tc .vmem
    S8x1024x256 .bf16) (harg4 : arg4.IsWhole) (arg5 : Memref sig .tc .vmem S8x1024x256 .bf16) (harg5 : arg5.IsWhole) (arg6 : Memref sig .tc
    .vmem S1x1x8192 .f32) (harg6 : arg6.IsWhole) (arg7 : Memref sig .tc .vmem S1x1x8192 .f32) (harg7 : arg7.IsWhole) (arg8 : Memref sig .tc
    .vmem S1x1x2048 .f32) (harg8 : arg8.IsWhole) (arg9 : Memref sig .tc .vmem S128x128 .bf16) (harg9 : arg9.IsWhole) (arg10 : Memref sig .tc
    .vmem S128x128 .bf16) (harg10 : arg10.IsWhole) (arg11 : Memref sig .tc .vmem S32x8192 .f32) (harg11 : arg11.IsWhole) (arg12 : Memref sig .tc
    .vmem S32x8192 .f32) (harg12 : arg12.IsWhole) (arg13 : Memref sig .tc .vmem S128x2048 .f32) (harg13 : arg13.IsWhole) (arg14 : Memref sig .tc
    .vmem S32x8192 .f32) (harg14 : arg14.IsWhole) (arg15 : Memref sig .tc .vmem S32x8192 .f32) (harg15 : arg15.IsWhole) (arg16 : Memref sig .tc
    .vmem S128x8192 .f32) (harg16 : arg16.IsWhole) (arg17 : Memref sig .tc .vmem S128x8192 .f32) (harg17 : arg17.IsWhole) (arg18 : Memref sig
    .tc .vmem S128x2048 .f32) (harg18 : arg18.IsWhole)     (x0 : Vec Ideal S128x2048 .f32) (x1 : Vec Ideal S8x256x1024 .bf16) (x2 : Vec Ideal
    S8x256x1024 .bf16) (x3 : Vec Ideal S8x1024x256 .bf16) (x4 : Vec Ideal S8x1024x256 .bf16) (x5 : Vec Ideal S1x1x8192 .f32) (x6 : Vec Ideal
    S1x1x8192 .f32) (x7 : Vec Ideal S1x1x2048 .f32) (x8 : Vec Ideal S128x128 .bf16) (x9 : Vec Ideal S128x128 .bf16) (x10 : Vec Ideal S32x8192
    .f32) (x11 : Vec Ideal S32x8192 .f32)

/-- The scratch array of the real parts, all steps done. -/
theorem scratch_re : View.canon (HS0_72 c arg1 harg1 arg2 harg2 arg3 harg3 arg6 harg6 arg7 harg7 arg9 harg9 arg11 harg11 arg12 harg12 arg16 arg17 x0 x1 x2 x5 x6 x8 x10 x11) = rowReals (coef x5 x6) (init x10 x11) (drive x0 x8 x1 x2) := by
  funext y
  refine View.canon_append_of_piecesOf (rowReals (coef x5 x6) (init x10 x11) (drive x0 x8 x1 x2)) (HS0_8 c arg1 harg1 arg2 harg2 arg9 harg9 x0 x1 x8)
    [_, _, _, _, _, _, _, _, _, _, _, _, _, _, _, _, _, _, _, _, _, _, _, _, _, _, _, _, _, _, _, _, _, _, _, _, _, _, _, _, _, _, _, _, _, _, _, _, _, _,
      _, _, _, _, _, _, _, _, _, _, _, _, _, _] ?_ y ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_, ?_, trivial⟩
    all_goals
      refine part_of (by decide) _ _ (by decide) (by decide) ?_
      intro s l
      simp only [r_5, r_6, r_7, r_8, r_9, r_10, r_11, r_12, r_13, r_14, r_15, r_16, r_17, r_18, r_19, r_20, r_21, r_22, r_23, r_24, r_25, r_26, r_27, r_28, r_29, r_30,
        r_31, r_32, r_33, r_34, r_35, r_36, r_37, r_38, r_39, r_40, r_41, r_42, r_43, r_44, r_45, r_46, r_47, r_48, r_49, r_50, r_51, r_52, r_53,
        r_54, r_55, r_56, r_57, r_58, r_59, r_60, r_61, r_62, r_63, r_64, r_65, r_66, r_67, r_68, r_69, r_70, r_71, r_72, r_73, r_74, r_75, r_76,
        r_77, r_78, r_79, r_80, r_81, r_82, r_83, r_84, r_85, r_86, r_87, r_88, r_89, r_90, r_91, r_92, r_93, r_94, r_95, r_96, r_97, r_98, r_99,
        r_100, r_101, r_102, r_103, r_104, r_105, r_106, r_107, r_108, r_109, r_110, r_111, r_112, r_113, r_114, r_115, r_116, r_117, r_118, r_119,
        r_120, r_121, r_122]
      simp only [v123, v130, v143, v150, v163, v170, v183, v190, v213, v220, v233, v240, v253, v260, v273, v280, v303, v310, v323, v330, v343, v350, v363, v370, v393,
        v400, v413, v420, v433, v440, v453, v460, v483, v490, v503, v510, v523, v530, v543, v550, v573, v580, v593, v600, v613, v620, v633, v640,
        v663, v670, v683, v690, v703, v710, v723, v730, v753, v760, v773, v780, v793, v800, v813, v820, v843, v850, v863, v870, v883, v890, v903,
        v910, v933, v940, v953, v960, v973, v980, v993, v1000, v1023, v1030, v1043, v1050, v1063, v1070, v1083, v1090, v1113, v1120, v1133, v1140,
        v1153, v1160, v1173, v1180, v1203, v1210, v1223, v1230, v1243, v1250, v1263, v1270, v1293, v1300, v1313, v1320, v1333, v1340, v1353, v1360,
        v1383, v1390, v1403, v1410, v1423, v1430, v1443, v1450, v1473, v1480, v1493, v1500, v1513, v1520, v1533, v1540]
      delta HS0_8 HS0_9 HS0_10 HS0_11 HS0_12 HS0_13 HS0_14 HS0_15 HS0_16 HS0_17 HS0_18 HS0_19 HS0_20 HS0_21 HS0_22 HS0_23 HS0_24 HS0_25 HS0_26 HS0_27 HS0_28
        HS0_29 HS0_30 HS0_31 HS0_32 HS0_33 HS0_34 HS0_35 HS0_36 HS0_37 HS0_38 HS0_39 HS0_40 HS0_41 HS0_42 HS0_43 HS0_44 HS0_45 HS0_46 HS0_47 HS0_48
        HS0_49 HS0_50 HS0_51 HS0_52 HS0_53 HS0_54 HS0_55 HS0_56 HS0_57 HS0_58 HS0_59 HS0_60 HS0_61 HS0_62 HS0_63 HS0_64 HS0_65 HS0_66 HS0_67 HS0_68
        HS0_69 HS0_70 HS0_71 HS0_72 HS1_8 HS1_9 HS1_10 HS1_11 HS1_12 HS1_13 HS1_14 HS1_15 HS1_16 HS1_17 HS1_18 HS1_19 HS1_20 HS1_21 HS1_22 HS1_23
        HS1_24 HS1_25 HS1_26 HS1_27 HS1_28 HS1_29 HS1_30 HS1_31 HS1_32 HS1_33 HS1_34 HS1_35 HS1_36 HS1_37 HS1_38 HS1_39 HS1_40 HS1_41 HS1_42 HS1_43
        HS1_44 HS1_45 HS1_46 HS1_47 HS1_48 HS1_49 HS1_50 HS1_51 HS1_52 HS1_53 HS1_54 HS1_55 HS1_56 HS1_57 HS1_58 HS1_59 HS1_60 HS1_61 HS1_62 HS1_63
        HS1_64 HS1_65 HS1_66 HS1_67 HS1_68 HS1_69 HS1_70 HS1_71 HS1_72
      simp (disch := decide) only [↓ View.readCov_skip, View.ld_unit_lit', View.readAt_eq_ld, Memref.IsWhole.read_unread,
        tile_read, coef_read, init_read, r_1, r_2, r_3, r_4, tile_re0, tile_re1, tile_re2, tile_re3, tile_re4, tile_re5, tile_re6, tile_re7, tile_im0, tile_im1, tile_im2, tile_im3, tile_im4, tile_im5, tile_im6,
        tile_im7]
      simp only [rowReals0, rowReals1, rowReals2, rowReals3, rowImags0, rowImags1, rowImags2, rowImags3, state3, state2, state1, state0, next, coef, init, drive]
      generalize driveAt (k0_pay2 x0 x8) x1 = dr
      generalize driveAt (k0_pay2 x0 x8) x2 = di
      pointwise [k0_pay29, k0_pay30, k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136, k0_pay137, k0_pay138,
        k0_pay139, k0_pay140, k0_pay141, k0_pay142, k0_pay143, k0_pay144, k0_pay145, k0_pay146, k0_pay147, k0_pay148, k0_pay149, k0_pay150, k0_pay151,
        k0_pay152, k0_pay153, k0_pay154, k0_pay155, k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173, k0_pay174, k0_pay175, k0_pay176, k0_pay177,
        k0_pay178, k0_pay179, k0_pay180, k0_pay181, k0_pay182, k0_pay183, k0_pay184, k0_pay185, k0_pay186, k0_pay187, k0_pay188, k0_pay189, k0_pay190,
        k0_pay191, k0_pay192, k0_pay193, k0_pay194, k0_pay195, k0_pay196, k0_pay197, k0_pay198, k0_pay199, k0_pay200, k0_pay201, k0_pay202, k0_pay203,
        k0_pay204, k0_pay205, k0_pay206, k0_pay207, k0_pay208, k0_pay209, k0_pay210, k0_pay211, k0_pay212, k0_pay213, k0_pay214, k0_pay215, k0_pay216,
        k0_pay217, k0_pay218, k0_pay219, k0_pay220, k0_pay221, k0_pay222, k0_pay223, k0_pay224, k0_pay225, k0_pay226, k0_pay227, k0_pay228, k0_pay229,
        k0_pay230, k0_pay231, k0_pay232, k0_pay233, k0_pay234, k0_pay235, k0_pay236, k0_pay237, k0_pay238, k0_pay239, k0_pay240, k0_pay241, k0_pay242,
        k0_pay243, k0_pay244, k0_pay245, k0_pay246, k0_pay247, k0_pay248, k0_pay249, k0_pay250, k0_pay251, k0_pay252, k0_pay253, k0_pay254, k0_pay255,
        k0_pay256, k0_pay257, k0_pay258, k0_pay259, k0_pay260, k0_pay261, k0_pay262, k0_pay263, k0_pay264, k0_pay265, k0_pay266, k0_pay267, k0_pay268,
        k0_pay269, k0_pay270, k0_pay271, k0_pay272, k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290, k0_pay291, k0_pay292, k0_pay293, k0_pay294,
        k0_pay295, k0_pay296, k0_pay297, k0_pay298, k0_pay299, k0_pay300, k0_pay301, k0_pay302, k0_pay303, k0_pay304, k0_pay305, k0_pay306, k0_pay307,
        k0_pay308, k0_pay309, k0_pay310, k0_pay311, k0_pay312, k0_pay313, k0_pay314, k0_pay315, k0_pay316, k0_pay317, k0_pay318, k0_pay319, k0_pay320,
        k0_pay321, k0_pay322, k0_pay323, k0_pay324, k0_pay325, k0_pay326, k0_pay327, k0_pay328, k0_pay329, k0_pay330, k0_pay331, k0_pay332, k0_pay333,
        k0_pay334, k0_pay335, k0_pay336, k0_pay337, k0_pay338, k0_pay339, k0_pay340, k0_pay341, k0_pay342, k0_pay343, k0_pay344, k0_pay345, k0_pay346,
        k0_pay347, k0_pay348, k0_pay349, k0_pay350, k0_pay351, k0_pay352, k0_pay353, k0_pay354, k0_pay355, k0_pay356, k0_pay357, k0_pay358, k0_pay359,
        k0_pay360, k0_pay361, k0_pay362, k0_pay363, k0_pay364, k0_pay365, k0_pay366, k0_pay367, k0_pay368]
  · exact View.cover_of_tiledL (s := S128x8192) _ ![32, 512] (by sl_kernel_rfl) y

/-- The scratch array of the imaginary parts, all steps done. -/
theorem scratch_im : View.canon (HS1_72 c arg1 harg1 arg2 harg2 arg3 harg3 arg6 harg6 arg7 harg7 arg9 harg9 arg11 harg11 arg12 harg12 arg16 arg17 x0 x1 x2 x5 x6 x8 x10 x11) = rowImags (coef x5 x6) (init x10 x11) (drive x0 x8 x1 x2) := by
  funext y
  refine View.canon_append_of_piecesOf (rowImags (coef x5 x6) (init x10 x11) (drive x0 x8 x1 x2)) (HS1_8 c arg1 harg1 arg3 harg3 arg9 harg9 x0 x2 x8)
    [_, _, _, _, _, _, _, _, _, _, _, _, _, _, _, _, _, _, _, _, _, _, _, _, _, _, _, _, _, _, _, _, _, _, _, _, _, _, _, _, _, _, _, _, _, _, _, _, _, _,
      _, _, _, _, _, _, _, _, _, _, _, _, _, _] ?_ y ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_, ?_, ?_, ?_, ?_, ?_, ?_, ?_, ?_, ?_, ?_, ?_, ?_, ?_, ?_, trivial⟩
    all_goals
      refine part_of (by decide) _ _ (by decide) (by decide) ?_
      intro s l
      simp only [r_5, r_6, r_7, r_8, r_9, r_10, r_11, r_12, r_13, r_14, r_15, r_16, r_17, r_18, r_19, r_20, r_21, r_22, r_23, r_24, r_25, r_26, r_27, r_28, r_29, r_30,
        r_31, r_32, r_33, r_34, r_35, r_36, r_37, r_38, r_39, r_40, r_41, r_42, r_43, r_44, r_45, r_46, r_47, r_48, r_49, r_50, r_51, r_52, r_53,
        r_54, r_55, r_56, r_57, r_58, r_59, r_60, r_61, r_62, r_63, r_64, r_65, r_66, r_67, r_68, r_69, r_70, r_71, r_72, r_73, r_74, r_75, r_76,
        r_77, r_78, r_79, r_80, r_81, r_82, r_83, r_84, r_85, r_86, r_87, r_88, r_89, r_90, r_91, r_92, r_93, r_94, r_95, r_96, r_97, r_98, r_99,
        r_100, r_101, r_102, r_103, r_104, r_105, r_106, r_107, r_108, r_109, r_110, r_111, r_112, r_113, r_114, r_115, r_116, r_117, r_118, r_119,
        r_120, r_121, r_122]
      simp only [v123, v130, v143, v150, v163, v170, v183, v190, v213, v220, v233, v240, v253, v260, v273, v280, v303, v310, v323, v330, v343, v350, v363, v370, v393,
        v400, v413, v420, v433, v440, v453, v460, v483, v490, v503, v510, v523, v530, v543, v550, v573, v580, v593, v600, v613, v620, v633, v640,
        v663, v670, v683, v690, v703, v710, v723, v730, v753, v760, v773, v780, v793, v800, v813, v820, v843, v850, v863, v870, v883, v890, v903,
        v910, v933, v940, v953, v960, v973, v980, v993, v1000, v1023, v1030, v1043, v1050, v1063, v1070, v1083, v1090, v1113, v1120, v1133, v1140,
        v1153, v1160, v1173, v1180, v1203, v1210, v1223, v1230, v1243, v1250, v1263, v1270, v1293, v1300, v1313, v1320, v1333, v1340, v1353, v1360,
        v1383, v1390, v1403, v1410, v1423, v1430, v1443, v1450, v1473, v1480, v1493, v1500, v1513, v1520, v1533, v1540]
      delta HS0_8 HS0_9 HS0_10 HS0_11 HS0_12 HS0_13 HS0_14 HS0_15 HS0_16 HS0_17 HS0_18 HS0_19 HS0_20 HS0_21 HS0_22 HS0_23 HS0_24 HS0_25 HS0_26 HS0_27 HS0_28
        HS0_29 HS0_30 HS0_31 HS0_32 HS0_33 HS0_34 HS0_35 HS0_36 HS0_37 HS0_38 HS0_39 HS0_40 HS0_41 HS0_42 HS0_43 HS0_44 HS0_45 HS0_46 HS0_47 HS0_48
        HS0_49 HS0_50 HS0_51 HS0_52 HS0_53 HS0_54 HS0_55 HS0_56 HS0_57 HS0_58 HS0_59 HS0_60 HS0_61 HS0_62 HS0_63 HS0_64 HS0_65 HS0_66 HS0_67 HS0_68
        HS0_69 HS0_70 HS0_71 HS0_72 HS1_8 HS1_9 HS1_10 HS1_11 HS1_12 HS1_13 HS1_14 HS1_15 HS1_16 HS1_17 HS1_18 HS1_19 HS1_20 HS1_21 HS1_22 HS1_23
        HS1_24 HS1_25 HS1_26 HS1_27 HS1_28 HS1_29 HS1_30 HS1_31 HS1_32 HS1_33 HS1_34 HS1_35 HS1_36 HS1_37 HS1_38 HS1_39 HS1_40 HS1_41 HS1_42 HS1_43
        HS1_44 HS1_45 HS1_46 HS1_47 HS1_48 HS1_49 HS1_50 HS1_51 HS1_52 HS1_53 HS1_54 HS1_55 HS1_56 HS1_57 HS1_58 HS1_59 HS1_60 HS1_61 HS1_62 HS1_63
        HS1_64 HS1_65 HS1_66 HS1_67 HS1_68 HS1_69 HS1_70 HS1_71 HS1_72
      simp (disch := decide) only [↓ View.readCov_skip, View.ld_unit_lit', View.readAt_eq_ld, Memref.IsWhole.read_unread,
        tile_read, coef_read, init_read, r_1, r_2, r_3, r_4, tile_re0, tile_re1, tile_re2, tile_re3, tile_re4, tile_re5, tile_re6, tile_re7, tile_im0, tile_im1, tile_im2, tile_im3, tile_im4, tile_im5, tile_im6,
        tile_im7]
      simp only [rowReals0, rowReals1, rowReals2, rowReals3, rowImags0, rowImags1, rowImags2, rowImags3, state3, state2, state1, state0, next, coef, init, drive]
      generalize driveAt (k0_pay2 x0 x8) x1 = dr
      generalize driveAt (k0_pay2 x0 x8) x2 = di
      pointwise [k0_pay29, k0_pay30, k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56, k0_pay57,
        k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85,
        k0_pay86, k0_pay87, k0_pay88, k0_pay89, k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124, k0_pay125,
        k0_pay126, k0_pay127, k0_pay128, k0_pay129, k0_pay130, k0_pay131, k0_pay132, k0_pay133, k0_pay134, k0_pay135, k0_pay136, k0_pay137, k0_pay138,
        k0_pay139, k0_pay140, k0_pay141, k0_pay142, k0_pay143, k0_pay144, k0_pay145, k0_pay146, k0_pay147, k0_pay148, k0_pay149, k0_pay150, k0_pay151,
        k0_pay152, k0_pay153, k0_pay154, k0_pay155, k0_pay156, k0_pay157, k0_pay158, k0_pay159, k0_pay160, k0_pay161, k0_pay162, k0_pay163, k0_pay164,
        k0_pay165, k0_pay166, k0_pay167, k0_pay168, k0_pay169, k0_pay170, k0_pay171, k0_pay172, k0_pay173, k0_pay174, k0_pay175, k0_pay176, k0_pay177,
        k0_pay178, k0_pay179, k0_pay180, k0_pay181, k0_pay182, k0_pay183, k0_pay184, k0_pay185, k0_pay186, k0_pay187, k0_pay188, k0_pay189, k0_pay190,
        k0_pay191, k0_pay192, k0_pay193, k0_pay194, k0_pay195, k0_pay196, k0_pay197, k0_pay198, k0_pay199, k0_pay200, k0_pay201, k0_pay202, k0_pay203,
        k0_pay204, k0_pay205, k0_pay206, k0_pay207, k0_pay208, k0_pay209, k0_pay210, k0_pay211, k0_pay212, k0_pay213, k0_pay214, k0_pay215, k0_pay216,
        k0_pay217, k0_pay218, k0_pay219, k0_pay220, k0_pay221, k0_pay222, k0_pay223, k0_pay224, k0_pay225, k0_pay226, k0_pay227, k0_pay228, k0_pay229,
        k0_pay230, k0_pay231, k0_pay232, k0_pay233, k0_pay234, k0_pay235, k0_pay236, k0_pay237, k0_pay238, k0_pay239, k0_pay240, k0_pay241, k0_pay242,
        k0_pay243, k0_pay244, k0_pay245, k0_pay246, k0_pay247, k0_pay248, k0_pay249, k0_pay250, k0_pay251, k0_pay252, k0_pay253, k0_pay254, k0_pay255,
        k0_pay256, k0_pay257, k0_pay258, k0_pay259, k0_pay260, k0_pay261, k0_pay262, k0_pay263, k0_pay264, k0_pay265, k0_pay266, k0_pay267, k0_pay268,
        k0_pay269, k0_pay270, k0_pay271, k0_pay272, k0_pay273, k0_pay274, k0_pay275, k0_pay276, k0_pay277, k0_pay278, k0_pay279, k0_pay280, k0_pay281,
        k0_pay282, k0_pay283, k0_pay284, k0_pay285, k0_pay286, k0_pay287, k0_pay288, k0_pay289, k0_pay290, k0_pay291, k0_pay292, k0_pay293, k0_pay294,
        k0_pay295, k0_pay296, k0_pay297, k0_pay298, k0_pay299, k0_pay300, k0_pay301, k0_pay302, k0_pay303, k0_pay304, k0_pay305, k0_pay306, k0_pay307,
        k0_pay308, k0_pay309, k0_pay310, k0_pay311, k0_pay312, k0_pay313, k0_pay314, k0_pay315, k0_pay316, k0_pay317, k0_pay318, k0_pay319, k0_pay320,
        k0_pay321, k0_pay322, k0_pay323, k0_pay324, k0_pay325, k0_pay326, k0_pay327, k0_pay328, k0_pay329, k0_pay330, k0_pay331, k0_pay332, k0_pay333,
        k0_pay334, k0_pay335, k0_pay336, k0_pay337, k0_pay338, k0_pay339, k0_pay340, k0_pay341, k0_pay342, k0_pay343, k0_pay344, k0_pay345, k0_pay346,
        k0_pay347, k0_pay348, k0_pay349, k0_pay350, k0_pay351, k0_pay352, k0_pay353, k0_pay354, k0_pay355, k0_pay356, k0_pay357, k0_pay358, k0_pay359,
        k0_pay360, k0_pay361, k0_pay362, k0_pay363, k0_pay364, k0_pay365, k0_pay366, k0_pay367, k0_pay368]
  · exact View.cover_of_tiledL (s := S128x8192) _ ![32, 512] (by sl_kernel_rfl) y

end Final

end Cert.KernelIdeal.Block

end
end
-- ==== Proof.DecodeOut.lean ====
/-
  THE S5 DECODE CALL, one block: its output.  The output matrices multiply the states of all steps (8 groups of 1024 states
  into 256 channels), the rows go back to their places, and the channels get their share of the input.
-/
module

public import proofs.«01_k».proof.Proof.DecodeScratch

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem

/-- What the output matrices `C` (real part) and `D` (imaginary part) make of the states `X` and `Y` in row `r`, for channel `c`. -/
def outAt (X Y : Fin 128 → Fin 8192 → EReal) (C D : Vec Ideal S8x1024x256 .bf16) (r : Fin 128) (c : Fin 2048) : EReal :=
  (∑ k : Fin 1024, X r ⟨1024 * (c.val / 256) + k.val, by omega⟩ * C (ix3 ⟨c.val / 256, by omega⟩ k ⟨c.val % 256, by omega⟩))
    - ∑ k : Fin 1024, Y r ⟨1024 * (c.val / 256) + k.val, by omega⟩ * D (ix3 ⟨c.val / 256, by omega⟩ k ⟨c.val % 256, by omega⟩)

def outRows (X Y : Fin 128 → Fin 8192 → EReal) (C D : Vec Ideal S8x1024x256 .bf16) : Vec Ideal S128x2048 .f32 :=
  fun i => outAt X Y C D (i 0) (i 1)

/-- The rows `O` back at their places (`p` is the permutation, as a matrix; the body splits `O` into a rounded part and a
    rest, and permutes both), with the input's share `d u`. -/
def blockOut (p : Vec Ideal S128x128 .bf16) (O u : Vec Ideal S128x2048 .f32) (d : Vec Ideal S1x1x2048 .f32) : Vec Ideal S128x2048 .f32 :=
  fun i => ((∑ j : Fin 128, p (ix2 (i 0) j) * O (ix2 j (i 1)) : EReal) + ∑ j : Fin 128, p (ix2 (i 0) j) * (O (ix2 j (i 1)) - O (ix2 j (i 1))))
    + d (ix3 0 0 (i 1)) * u (ix2 (i 0) (i 1))

/-- A stored group of 256 channels holds what the rows are to hold there. -/
theorem out_part {o : Nat} (inb : ∀ a, (![0, o] : Fin 2 → Nat) a + (![128, 256] : Fin 2 → Nat) a ≤ S128x2048.size a)
    (w : Vec Ideal S128x256 .f32) (X Y : Fin 128 → Fin 8192 → EReal) (C D : Vec Ideal S8x1024x256 .bf16) (ho : o % 256 = 0) (h1 : o + 256 ≤ 2048)
    (h : ∀ (r : Fin 128) (l : Fin 256), w (ix2 r l)
      = ((∑ k : Fin 1024, X r ⟨4 * o + k.val, by omega⟩ * C (ix3 ⟨o / 256, by omega⟩ k l))
          - ∑ k : Fin 1024, Y r ⟨4 * o + k.val, by omega⟩ * D (ix3 ⟨o / 256, by omega⟩ k l) : EReal)) :
    ∀ x : S128x256.Idx, w x = outRows X Y C D ((Rect.unit (s := S128x2048) ![0, o] ![128, 256] inb).emb x) := by
  intro x
  have h2 : (x 1).val < 256 := (x 1).isLt
  have e : (Rect.unit (s := S128x2048) ![0, o] ![128, 256] inb).emb x = ix2 (x 0) ⟨o + (x 1).val, by omega⟩ := by
    funext a; apply Fin.ext
    match a with
    | ⟨0, _⟩ => show 0 + 1 * (x 0).val = (x 0).val; omega
    | ⟨1, _⟩ => show o + 1 * (x 1).val = o + (x 1).val; omega
  rw [e]
  refine (congrArg w (eq_ix2 x)).trans ((h (x 0) (x 1)).trans ?_)
  show _ = outAt X Y C D (x 0) ⟨o + (x 1).val, by omega⟩
  unfold outAt
  have eX : ∀ (Z : Fin 128 → Fin 8192 → EReal) (E : Vec Ideal S8x1024x256 .bf16),
      (∑ k : Fin 1024, Z (x 0) ⟨4 * o + k.val, by omega⟩ * E (ix3 ⟨o / 256, by omega⟩ k (x 1)) : EReal)
        = ∑ k : Fin 1024, Z (x 0) ⟨1024 * ((o + (x 1).val) / 256) + k.val, by omega⟩
            * E (ix3 ⟨(o + (x 1).val) / 256, by omega⟩ k ⟨(o + (x 1).val) % 256, by omega⟩) := by
    intro Z E
    refine Finset.sum_congr rfl fun k _ => ?_
    refine congrArg₂ (fun a b : EReal => a * b) (congrArg (Z (x 0)) (Fin.ext ?_)) (congrArg E ?_)
    · show 4 * o + k.val = 1024 * ((o + (x 1).val) / 256) + k.val
      omega
    · funext a; apply Fin.ext
      match a with
      | ⟨0, _⟩ => show o / 256 = (o + (x 1).val) / 256; omega
      | ⟨1, _⟩ => rfl
      | ⟨2, _⟩ => show (x 1).val = (o + (x 1).val) % 256; omega
  exact congrArg₂ (fun a b : EReal => a - b) (eX X C) (eX Y D)

/-- A group's output matrix. -/
theorem mat_read (x : Vec Ideal S8x1024x256 .bf16) {q : Nat} (inb : ∀ a, (![q, 0, 0] : Fin 3 → Nat) a + (![1, 1024, 256] : Fin 3 → Nat) a ≤ S8x1024x256.size a)
    (h : q < 8) : View.ld x (Rect.unit ![q, 0, 0] ![1, 1024, 256] inb)
      = fun i : S1x1024x256.Idx => x (ix3 ⟨q, h⟩ (i 1) (i 2)) := by
  funext i
  refine congrArg x ?_
  have e0 : (i 0).val < 1 := (i 0).isLt
  funext a; apply Fin.ext
  match a with
  | ⟨0, _⟩ => show q + 1 * (i 0).val = q; omega
  | ⟨1, _⟩ => show 0 + 1 * (i 1).val = (i 1).val; omega
  | ⟨2, _⟩ => show 0 + 1 * (i 2).val = (i 2).val; omega

/-- A group's 1024 states in the scratch array. -/
theorem state_part (f : Vec Ideal S128x8192 .f32) (L : List (View.Piece (Elt Ideal) S128x8192 .f32)) (hL : View.canon L = f) (v : View sig .tc .vmem S128x8192 .f32)
    {o : Nat} (inb : ∀ a, (![0, o] : Fin 2 → Nat) a + (![128, 1024] : Fin 2 → Nat) a ≤ S128x8192.size a) (h : o + 1024 ≤ 8192) :
    v.readCov L (Rect.unit ![0, o] ![128, 1024] inb).toLoadRect
      = fun i : S128x1024.Idx => f (ix2 (i 0) ⟨o + (i 1).val, by have : (i 1).val < 1024 := (i 1).isLt; omega⟩) := by
  rw [View.readCov_eq_canon', hL]
  funext i
  refine congrArg f ?_
  funext a; apply Fin.ext
  match a with
  | ⟨0, _⟩ => show 0 + 1 * (i 0).val = (i 0).val; omega
  | ⟨1, _⟩ => show o + 1 * (i 1).val = o + (i 1).val; omega

open kernelRun0_A.sl

section Out

variable (c : Dev nD) (i : grid0.Coords) (arg1 : Memref sig .tc .vmem S128x2048 .f32) (harg1 : arg1.IsWhole) (arg2 : Memref sig .tc .vmem S8x256x1024
    .bf16) (harg2 : arg2.IsWhole) (arg3 : Memref sig .tc .vmem S8x256x1024 .bf16) (harg3 : arg3.IsWhole) (arg4 : Memref sig .tc .vmem
    S8x1024x256 .bf16) (harg4 : arg4.IsWhole) (arg5 : Memref sig .tc .vmem S8x1024x256 .bf16) (harg5 : arg5.IsWhole) (arg6 : Memref sig .tc
    .vmem S1x1x8192 .f32) (harg6 : arg6.IsWhole) (arg7 : Memref sig .tc .vmem S1x1x8192 .f32) (harg7 : arg7.IsWhole) (arg8 : Memref sig .tc
    .vmem S1x1x2048 .f32) (harg8 : arg8.IsWhole) (arg9 : Memref sig .tc .vmem S128x128 .bf16) (harg9 : arg9.IsWhole) (arg10 : Memref sig .tc
    .vmem S128x128 .bf16) (harg10 : arg10.IsWhole) (arg11 : Memref sig .tc .vmem S32x8192 .f32) (harg11 : arg11.IsWhole) (arg12 : Memref sig .tc
    .vmem S32x8192 .f32) (harg12 : arg12.IsWhole) (arg13 : Memref sig .tc .vmem S128x2048 .f32) (harg13 : arg13.IsWhole) (arg14 : Memref sig .tc
    .vmem S32x8192 .f32) (harg14 : arg14.IsWhole) (arg15 : Memref sig .tc .vmem S32x8192 .f32) (harg15 : arg15.IsWhole) (arg16 : Memref sig .tc
    .vmem S128x8192 .f32) (harg16 : arg16.IsWhole) (arg17 : Memref sig .tc .vmem S128x8192 .f32) (harg17 : arg17.IsWhole) (arg18 : Memref sig
    .tc .vmem S128x2048 .f32) (harg18 : arg18.IsWhole)     (x0 : Vec Ideal S128x2048 .f32) (x1 : Vec Ideal S8x256x1024 .bf16) (x2 : Vec Ideal
    S8x256x1024 .bf16) (x3 : Vec Ideal S8x1024x256 .bf16) (x4 : Vec Ideal S8x1024x256 .bf16) (x5 : Vec Ideal S1x1x8192 .f32) (x6 : Vec Ideal
    S1x1x8192 .f32) (x7 : Vec Ideal S1x1x2048 .f32) (x8 : Vec Ideal S128x128 .bf16) (x9 : Vec Ideal S128x128 .bf16) (x10 : Vec Ideal S32x8192
    .f32) (x11 : Vec Ideal S32x8192 .f32)

theorem states_re {o : Nat} (inb : ∀ a, (![0, o] : Fin 2 → Nat) a + (![128, 1024] : Fin 2 → Nat) a ≤ S128x8192.size a) (h : o + 1024 ≤ 8192) :
    arg16.view.readCov (HS0_72 c arg1 harg1 arg2 harg2 arg3 harg3 arg6 harg6 arg7 harg7 arg9 harg9 arg11 harg11 arg12 harg12 arg16 arg17 x0 x1 x2 x5 x6 x8 x10 x11) (Rect.unit ![0, o] ![128, 1024] inb).toLoadRect
      = fun i : S128x1024.Idx => (rowState (coef x5 x6) (init x10 x11) (drive x0 x8 x1 x2) (i 0) ⟨o + (i 1).val, by have : (i 1).val < 1024 := (i 1).isLt; omega⟩).1 :=
  state_part _ _ (scratch_re c arg1 harg1 arg2 harg2 arg3 harg3 arg6 harg6 arg7 harg7 arg9 harg9 arg11 harg11 arg12 harg12 arg16 arg17 x0 x1 x2 x5 x6 x8 x10 x11) _ inb h

theorem states_im {o : Nat} (inb : ∀ a, (![0, o] : Fin 2 → Nat) a + (![128, 1024] : Fin 2 → Nat) a ≤ S128x8192.size a) (h : o + 1024 ≤ 8192) :
    arg17.view.readCov (HS1_72 c arg1 harg1 arg2 harg2 arg3 harg3 arg6 harg6 arg7 harg7 arg9 harg9 arg11 harg11 arg12 harg12 arg16 arg17 x0 x1 x2 x5 x6 x8 x10 x11) (Rect.unit ![0, o] ![128, 1024] inb).toLoadRect
      = fun i : S128x1024.Idx => (rowState (coef x5 x6) (init x10 x11) (drive x0 x8 x1 x2) (i 0) ⟨o + (i 1).val, by have : (i 1).val < 1024 := (i 1).isLt; omega⟩).2 :=
  state_part _ _ (scratch_im c arg1 harg1 arg2 harg2 arg3 harg3 arg6 harg6 arg7 harg7 arg9 harg9 arg11 harg11 arg12 harg12 arg16 arg17 x0 x1 x2 x5 x6 x8 x10 x11) _ inb h

/-- The scratch array of the output rows, all groups done. -/
theorem scratch_out : View.canon (HS2_8 c arg1 harg1 arg2 harg2 arg3 harg3 arg4 harg4 arg5 harg5 arg6 harg6 arg7 harg7 arg9 harg9 arg11 harg11 arg12 harg12 arg16 arg17 x0 x1 x2 x3 x4 x5 x6 x8 x10 x11)
    = outRows (fun r j => (rowState (coef x5 x6) (init x10 x11) (drive x0 x8 x1 x2) r j).1) (fun r j => (rowState (coef x5 x6) (init x10 x11) (drive x0 x8 x1 x2) r j).2) x3 x4 := by
  funext y
  refine canon_of (S := S128x2048) (e := .f32) (Val := Elt Ideal) (outRows (fun r j => (rowState (coef x5 x6) (init x10 x11) (drive x0 x8 x1 x2) r j).1)
    (fun r j => (rowState (coef x5 x6) (init x10 x11) (drive x0 x8 x1 x2) r j).2) x3 x4) _ ?_ y ?_
  · unfold HS2_8
    refine ⟨?_, ?_, ?_, ?_, ?_, ?_, ?_, ?_, trivial⟩
    all_goals
      refine out_part (by decide) _ _ _ _ _ (by decide) (by decide) ?_
      intro r l
      simp only [r_123, r_124, r_125, r_126, r_127, r_128, r_129, r_130, r_131]
      simp only [v1550, v1555, v1564, v1569, v1578, v1583, v1592, v1597, v1606, v1611, v1620, v1625, v1634, v1639, v1648, v1653]
      simp (disch := decide) only [View.ld_unit_lit', View.readAt_eq_ld, Memref.IsWhole.read_unread, states_re, states_im, mat_read]
      generalize rowState (coef x5 x6) (init x10 x11) (drive x0 x8 x1 x2) = st
      pointwise [k0_pay369, k0_pay370, k0_pay371, k0_pay372, k0_pay373, k0_pay374, k0_pay375, k0_pay376, k0_pay377, k0_pay378, k0_pay379, k0_pay380, k0_pay381,
        k0_pay382, k0_pay383, k0_pay384, k0_pay385]
  · exact View.cover_of_tiledL (s := S128x2048) _ ![128, 256] (by sl_kernel_rfl) y

/-- The rows, read back. -/
theorem rows_eq : v1662 c arg1 harg1 arg2 harg2 arg3 harg3 arg4 harg4 arg5 harg5 arg6 harg6 arg7 harg7 arg9 harg9 arg11 harg11 arg12 harg12 arg16 arg17 arg18 x0 x1 x2 x3 x4 x5 x6 x8 x10 x11 = outRows (fun r j => (rowState (coef x5 x6) (init x10 x11) (drive x0 x8 x1 x2) r j).1) (fun r j => (rowState (coef x5 x6) (init x10 x11) (drive x0 x8 x1 x2) r j).2) x3 x4 := by
  unfold v1662
  rw [View.readCov_eq_canon', scratch_out]
  generalize outRows (fun r j => (rowState (coef x5 x6) (init x10 x11) (drive x0 x8 x1 x2) r j).1) (fun r j => (rowState (coef x5 x6) (init x10 x11) (drive x0 x8 x1 x2) r j).2) x3 x4 = O
  funext y
  refine congrArg O ?_
  funext a; apply Fin.ext
  match a with
  | ⟨0, _⟩ => show 0 + 1 * (y 0).val = (y 0).val; omega
  | ⟨1, _⟩ => show 0 + 1 * (y 1).val = (y 1).val; omega

theorem last_eq (O : Vec Ideal S128x2048 .f32) : k0_pay1 x0 (k0_pay386 O x9 x9) x7 = blockOut x9 O x0 x7 := by
  suffices h : ∀ (i : Fin 128) (l : Fin 2048), k0_pay1 x0 (k0_pay386 O x9 x9) x7 (ix2 i l) = blockOut x9 O x0 x7 (ix2 i l) by
    funext i
    rw [eq_ix2 i]
    exact h _ _
  intro i l
  unfold blockOut
  pointwise [k0_pay1, k0_pay386]

/-- The block's output. -/
theorem out_eq : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11
    = blockOut x9 (outRows (fun r j => (rowState (coef x5 x6) (init x10 x11) (drive x0 x8 x1 x2) r j).1) (fun r j => (rowState (coef x5 x6) (init x10 x11) (drive x0 x8 x1 x2) r j).2) x3 x4) x0 x7 := by
  unfold out0_A_12
  rw [View.read_writes_junk_eq_canon]
  unfold kernelRun0_A
  dsimp only
  refine (View.canon_cons_unit_lit' (S := S128x2048) _ _ _ (by decide)).trans ?_
  unfold kernelRun0_A.sl.r r_132 r_133
  rw [rows_eq]
  simp (disch := decide) only [View.ld_unit_lit', View.readAt_eq_ld, Memref.IsWhole.read_unread]
  generalize outRows (fun r j => (rowState (coef x5 x6) (init x10 x11) (drive x0 x8 x1 x2) r j).1) (fun r j => (rowState (coef x5 x6) (init x10 x11) (drive x0 x8 x1 x2) r j).2) x3 x4 = O
  exact last_eq x0 x7 x9 O

end Out

end Cert.KernelIdeal.Block

end
end
-- ==== Proof.DecodeHost.lean ====
/-
  THE S5 DECODE CALL, what the host prepares: the matrices of 16 groups of the recurrence as the diagonal blocks of one
  matrix each, the permutation that brings the rows of one step together and its inverse, and the coefficients and first
  states with group and state on one axis.  Each array is read entry by entry from the arguments.
-/
module

public import proofs.«01_k».proof.Proof.Gen.KernelIdeal.Value
public import Idealize.ShloMosaic.Lib.Pointwise

@[expose] public section

set_option maxRecDepth 16384

noncomputable section

namespace Cert.KernelIdeal.Host

open Cert.KernelIdeal Cert.KernelIdeal.Gen Cert.KernelIdeal.Value Cert.KernelIdeal.Facts Idealize.ShloMosaic Idealize.ShloMosaic.TcCoe Idealize.SL.Sem

/-! ## The arrays the host computes -/

/-- Where the diagonal blocks lie: 16 rows and 64 columns each. -/
def onDiagonal : IVec S256x1024 1 :=
  cmpi .eq (Host.divsi (iotaInDim S256x1024 32 0) (broadcastInDim S256x1024 ![] bcast_S_S256x1024 (constantI S_ 32 16#32)))
    (Host.divsi (iotaInDim S256x1024 32 1) (broadcastInDim S256x1024 ![] bcast_S_S256x1024 (constantI S_ 32 64#32)))

/-- The input matrices `b` of 16 groups, as diagonal blocks. -/
def inMatrix (b : Vec Ideal S256x64x16 .f32) : Vec Ideal S16x256x1024 .f32 :=
  select (broadcastInDim S16x256x1024 ![1, 2] bcast_S256x1024_S16x256x1024_1_2 onDiagonal)
    (shapeCast S16x256x1024 (broadcastInDim S1x16x1x256x16x64 ![0, 1, 2, 3, 4, 5] bcast_S1x16x1x256x1x64_S1x16x1x256x16x64_0_1_2_3_4_5
      (shapeCast S1x16x1x256x1x64 (shapeCast S16x256x64 (transpose S16x16x16x64 [0, 1, 3, 2] (shapeCast S16x16x64x16 b shapeCasts_S256x64x16_S16x16x64x16)
        transposes_S16x16x64x16_S16x16x16x64_0_1_3_2) shapeCasts_S16x16x16x64_S16x256x64) shapeCasts_S16x256x64_S1x16x1x256x1x64))
      shapeCasts_S1x16x1x256x16x64_S16x256x1024)
    (broadcastInDim S16x256x1024 ![] bcast_S_S16x256x1024 (constant (F := Ideal) S_ .f32 0x00000000#32))

/-- The output matrices `b` of 16 groups, as diagonal blocks of the transposed shape. -/
def outMatrix (b : Vec Ideal S256x16x64 .f32) : Vec Ideal S16x1024x256 .f32 :=
  select (broadcastInDim S16x1024x256 ![1, 2] bcast_S1024x256_S16x1024x256_1_2 (transpose S1024x256 [1, 0] onDiagonal transposes_S256x1024_S1024x256_1_0))
    (shapeCast S16x1024x256 (broadcastInDim S1x16x16x64x1x256 ![0, 1, 2, 3, 4, 5] bcast_S1x16x1x64x1x256_S1x16x16x64x1x256_0_1_2_3_4_5
      (shapeCast S1x16x1x64x1x256 (shapeCast S16x64x256 (transpose S16x64x16x16 [0, 3, 1, 2] (shapeCast S16x16x16x64 b shapeCasts_S256x16x64_S16x16x16x64)
        transposes_S16x16x16x64_S16x64x16x16_0_3_1_2) shapeCasts_S16x64x16x16_S16x64x256) shapeCasts_S16x64x256_S1x16x1x64x1x256))
      shapeCasts_S1x16x16x64x1x256_S16x1024x256)
    (broadcastInDim S16x1024x256 ![] bcast_S_S16x1024x256 (constant (F := Ideal) S_ .f32 0x00000000#32))

/-- The permutation: a one in row `j` at column `4 (j mod 32) + j / 32`. -/
def permutation : Vec Ideal S128x128 .f32 :=
  select (cmpi .eq (iotaInDim S128x128 32 1)
      (addi (muli (Host.remsi (iotaInDim S128x128 32 0) (broadcastInDim S128x128 ![] bcast_S_S128x128 (constantI S_ 32 32#32)))
          (broadcastInDim S128x128 ![] bcast_S_S128x128 (constantI S_ 32 4#32)))
        (Host.divsi (iotaInDim S128x128 32 0) (broadcastInDim S128x128 ![] bcast_S_S128x128 (constantI S_ 32 32#32)))))
    (broadcastInDim S128x128 ![] bcast_S_S128x128 (constant (F := Ideal) S_ .f32 0x3F800000#32))
    (broadcastInDim S128x128 ![] bcast_S_S128x128 (constant (F := Ideal) S_ .f32 0x00000000#32))

/-! ## Their entries -/

theorem sixteenth : ∀ r : Fin 256, IntOp.divsi .host (BitVec.ofNat 32 r.val) 16#32 = BitVec.ofNat 32 (r.val / 16) := by decide +kernel
theorem sixtyfourth : ∀ l : Fin 1024, IntOp.divsi .host (BitVec.ofNat 32 l.val) 64#32 = BitVec.ofNat 32 (l.val / 64) := by decide +kernel
theorem sameBlock : ∀ a b : Fin 16, IntOp.cmpi .eq (BitVec.ofNat 32 a.val) (BitVec.ofNat 32 b.val) = if a.val = b.val then 1#1 else 0#1 := by decide +kernel
theorem place : ∀ j i : Fin 128, IntOp.cmpi .eq (BitVec.ofNat 32 i.val)
    (IntOp.addi (IntOp.muli (IntOp.remsi .host (BitVec.ofNat 32 j.val) 32#32) 4#32) (IntOp.divsi .host (BitVec.ofNat 32 j.val) 32#32))
      = if i.val = 4 * (j.val % 32) + j.val / 32 then 1#1 else 0#1 := by decide +kernel

theorem onDiagonal_apply (r : Fin 256) (l : Fin 1024) : onDiagonal (ix2 r l) = if r.val / 16 = l.val / 64 then 1#1 else 0#1 := by
  pointwise [onDiagonal]
  rw [sixteenth, sixtyfourth]
  exact sameBlock ⟨r.val / 16, by omega⟩ ⟨l.val / 64, by omega⟩

theorem select_if (p : Prop) [Decidable p] (x y : EReal) : Scalar.select (if p then 1#1 else 0#1) x y = if p then x else y := by
  by_cases h : p
  · rw [if_pos h, if_pos h]; rfl
  · rw [if_neg h, if_neg h]; rfl

theorem inMatrix_apply (b : Vec Ideal S256x64x16 .f32) (q : Fin 16) (r : Fin 256) (l : Fin 1024) :
    inMatrix b (ix3 q r l) = if r.val / 16 = l.val / 64 then b (ix3 ⟨q.val * 16 + r.val / 16, by omega⟩ ⟨l.val % 64, by omega⟩ ⟨r.val % 16, by omega⟩) else 0 := by
  rw [← select_if, ← onDiagonal_apply]
  unfold inMatrix
  generalize onDiagonal = y
  pointwise

theorem outMatrix_apply (b : Vec Ideal S256x16x64 .f32) (q : Fin 16) (l : Fin 1024) (r : Fin 256) :
    outMatrix b (ix3 q l r) = if r.val / 16 = l.val / 64 then b (ix3 ⟨q.val * 16 + r.val / 16, by omega⟩ ⟨r.val % 16, by omega⟩ ⟨l.val % 64, by omega⟩) else 0 := by
  rw [← select_if, ← onDiagonal_apply]
  unfold outMatrix
  generalize onDiagonal = y
  pointwise

theorem permutation_apply (j i : Fin 128) : permutation (ix2 j i) = if i.val = 4 * (j.val % 32) + j.val / 32 then 1 else 0 := by
  rw [← select_if, ← place j i]
  pointwise [permutation]

/-! ## The arrays as the region finds them -/

variable (m : (ℓ : Loc nD τ sig) → Buf (Elt Ideal) ℓ) (c : Dev nD)

/-- The input matrices' real parts. -/
theorem in_re : V m c main_v14 = truncf (F := Ideal) (s := S16x256x1024) (φ := .f32) .bf16 (inMatrix (m ((c : Thread nD τ).loc main_arg1))) bitsLt_bf16_f32 := by
  unfold_abbrev_sides
  simp only [List.flatten_cons, List.flatten_nil, List.append_nil, List.cons_append, List.nil_append]
  after_results
  rfl

/-- Their imaginary parts. -/
theorem in_im : V m c main_v29 = truncf (F := Ideal) (s := S16x256x1024) (φ := .f32) .bf16 (inMatrix (m ((c : Thread nD τ).loc main_arg2))) bitsLt_bf16_f32 := by
  unfold_abbrev_sides
  simp only [List.flatten_cons, List.flatten_nil, List.append_nil, List.cons_append, List.nil_append]
  after_results
  rfl

/-- The output matrices' real parts. -/
theorem out_re : V m c main_v45 = truncf (F := Ideal) (s := S16x1024x256) (φ := .f32) .bf16 (outMatrix (m ((c : Thread nD τ).loc main_arg3))) bitsLt_bf16_f32 := by
  unfold_abbrev_sides
  simp only [List.flatten_cons, List.flatten_nil, List.append_nil, List.cons_append, List.nil_append]
  after_results
  rfl

/-- Their imaginary parts. -/
theorem out_im : V m c main_v61 = truncf (F := Ideal) (s := S16x1024x256) (φ := .f32) .bf16 (outMatrix (m ((c : Thread nD τ).loc main_arg4))) bitsLt_bf16_f32 := by
  unfold_abbrev_sides
  simp only [List.flatten_cons, List.flatten_nil, List.append_nil, List.cons_append, List.nil_append]
  after_results
  rfl

/-- The coefficients' real parts. -/
theorem coef_re : V m c main_v62 = shapeCast S2x1x8192 (m ((c : Thread nD τ).loc main_arg5)) shapeCasts_S256x64_S2x1x8192 := by
  unfold_abbrev_sides
  simp only [List.flatten_cons, List.flatten_nil, List.append_nil, List.cons_append, List.nil_append]
  after_results
  rfl

/-- Their imaginary parts. -/
theorem coef_im : V m c main_v63 = shapeCast S2x1x8192 (m ((c : Thread nD τ).loc main_arg6)) shapeCasts_S256x64_S2x1x8192 := by
  unfold_abbrev_sides
  simp only [List.flatten_cons, List.flatten_nil, List.append_nil, List.cons_append, List.nil_append]
  after_results
  rfl

/-- The input's direct share. -/
theorem direct : V m c main_v64 = shapeCast S2x1x2048 (m ((c : Thread nD τ).loc main_arg7)) shapeCasts_S2x2048_S2x1x2048 := by
  unfold_abbrev_sides
  simp only [List.flatten_cons, List.flatten_nil, List.append_nil, List.cons_append, List.nil_append]
  after_results
  rfl

/-- The permutation. -/
theorem perm : V m c main_v78 = truncf (F := Ideal) (s := S128x128) (φ := .f32) .bf16 (permutation) bitsLt_bf16_f32 := by
  unfold_abbrev_sides
  simp only [List.flatten_cons, List.flatten_nil, List.append_nil, List.cons_append, List.nil_append]
  after_results
  rfl

/-- Its inverse. -/
theorem perm_inv : V m c main_v80 = truncf (F := Ideal) (s := S128x128) (φ := .f32) .bf16 (transpose S128x128 [1, 0] permutation transposes_S128x128_S128x128_1_0) bitsLt_bf16_f32 := by
  unfold_abbrev_sides
  simp only [List.flatten_cons, List.flatten_nil, List.append_nil, List.cons_append, List.nil_append]
  after_results
  rfl

/-- The first states' real parts. -/
theorem first_re : V m c main_v65 = shapeCast S128x8192 (m ((c : Thread nD τ).loc main_arg8)) shapeCasts_S128x128x64_S128x8192 := by
  unfold_abbrev_sides
  simp only [List.flatten_cons, List.flatten_nil, List.append_nil, List.cons_append, List.nil_append]
  after_results
  rfl

/-- Their imaginary parts. -/
theorem first_im : V m c main_v66 = shapeCast S128x8192 (m ((c : Thread nD τ).loc main_arg9)) shapeCasts_S128x128x64_S128x8192 := by
  unfold_abbrev_sides
  simp only [List.flatten_cons, List.flatten_nil, List.append_nil, List.cons_append, List.nil_append]
  after_results
  rfl

end Cert.KernelIdeal.Host

end
end
-- ==== Proof.DecodeReads.lean ====
/-
  THE S5 DECODE CALL, the blocks a grid point reads: point `t` takes the 128 rows of 32 sequences, their first states,
  and the same matrices, coefficients and permutations as every point.  Each is read entry by entry from the arguments.
-/
module

public import proofs.«01_k».proof.Proof.DecodeHost

@[expose] public section

set_option maxRecDepth 16384

noncomputable section

namespace Cert.KernelIdeal.Host

open Cert.KernelIdeal Cert.KernelIdeal.Gen Cert.KernelIdeal.Value Cert.KernelIdeal.Facts Idealize.ShloMosaic Idealize.ShloMosaic.TcCoe Idealize.SL.Sem

/-- Group and state from one axis. -/
theorem coef_at (y : Vec Ideal S256x64 .f32) (j : Fin 8192) :
    shapeCast S2x1x8192 y shapeCasts_S256x64_S2x1x8192 (ix3 0 0 j) = y (ix2 ⟨j.val / 64, by omega⟩ ⟨j.val % 64, by omega⟩) := by
  pointwise

theorem direct_at (y : Vec Ideal S2x2048 .f32) (l : Fin 2048) : shapeCast S2x1x2048 y shapeCasts_S2x2048_S2x1x2048 (ix3 0 0 l) = y (ix2 0 l) := by
  pointwise

variable (m : (ℓ : Loc nD τ sig) → Buf (Elt Ideal) ℓ) (c : Dev nD) (t : Fin cfg0.N)

/-- The blocks of a point. -/
theorem index_eq : ∀ t : Fin cfg0.N, (win0_0.index t (0 : Fin 2) = 64 + t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The rows of a point: those of its 32 sequences, after the prompt's. -/
theorem rows (r : Fin 128) (l : Fin 2048) :
    (iblk m c 0 t : Vec Ideal S128x2048 .f32) (ix2 r l) = (m ((c : Thread nD τ).loc main_arg0) : Vec Ideal S8704x10240 .f32) (ix2 ⟨8192 + (128 * t.val + r.val), by have : t.val < 4 := t.isLt; omega⟩ ⟨l.val, by omega⟩) := by
  have hN : t.val < 4 := t.isLt
  obtain ⟨⟨e0, e1⟩, -⟩ := index_eq t
  have e : (iblk m c 0 t : Vec Ideal S128x2048 .f32) (ix2 r l) = (V m c main_arg0 : Vec Ideal S8704x10240 .f32) (ix2 ⟨8192 + (128 * t.val + r.val), by have : t.val < 4 := t.isLt; omega⟩ ⟨l.val, by omega⟩) := by
    unfold iblk
    rw [View.read_apply]
    show V m c main_arg0 _ = V m c main_arg0 _
    congr 1
    funext a
    apply Fin.ext
    match a with
    | ⟨0, _⟩ => show win0_0.index t 0 * 128 + 1 * r.val = 8192 + (128 * t.val + r.val); rw [e0]; omega
    | ⟨1, _⟩ => show win0_0.index t 1 * 2048 + 1 * l.val = l.val; rw [e1]; omega
  rw [e, V_main_arg0]

/-- The input matrices of the first 8 group blocks, real parts. -/
theorem b_re (q : Fin 8) (r : Fin 256) (l : Fin 1024) :
    (iblk m c 1 t : Vec Ideal S8x256x1024 .bf16) (ix3 q r l) = (if r.val / 16 = l.val / 64 then (m ((c : Thread nD τ).loc main_arg1) : Vec Ideal S256x64x16 .f32)
      (ix3 ⟨q.val * 16 + r.val / 16, by omega⟩ ⟨l.val % 64, by omega⟩ ⟨r.val % 16, by omega⟩) else 0 : EReal) := by
  have hN : t.val < 4 := t.isLt
  obtain ⟨-, ⟨e0, e1, e2⟩, -⟩ := index_eq t
  have e : (iblk m c 1 t : Vec Ideal S8x256x1024 .bf16) (ix3 q r l) = (V m c main_v14 : Vec Ideal S16x256x1024 .bf16) (ix3 ⟨q.val, by omega⟩ r l) := by
    unfold iblk
    rw [View.read_apply]
    show V m c main_v14 _ = V m c main_v14 _
    congr 1
    funext a
    apply Fin.ext
    match a with
    | ⟨0, _⟩ => show win0_1.index t 0 * 8 + 1 * q.val = q.val; rw [e0]; omega
    | ⟨1, _⟩ => show win0_1.index t 1 * 256 + 1 * r.val = r.val; rw [e1]; omega
    | ⟨2, _⟩ => show win0_1.index t 2 * 1024 + 1 * l.val = l.val; rw [e2]; omega
  rw [e, in_re]
  exact inMatrix_apply _ ⟨q.val, by omega⟩ r l

/-- Imaginary parts. -/
theorem b_im (q : Fin 8) (r : Fin 256) (l : Fin 1024) :
    (iblk m c 2 t : Vec Ideal S8x256x1024 .bf16) (ix3 q r l) = (if r.val / 16 = l.val / 64 then (m ((c : Thread nD τ).loc main_arg2) : Vec Ideal S256x64x16 .f32)
      (ix3 ⟨q.val * 16 + r.val / 16, by omega⟩ ⟨l.val % 64, by omega⟩ ⟨r.val % 16, by omega⟩) else 0 : EReal) := by
  have hN : t.val < 4 := t.isLt
  obtain ⟨-, -, ⟨e0, e1, e2⟩, -⟩ := index_eq t
  have e : (iblk m c 2 t : Vec Ideal S8x256x1024 .bf16) (ix3 q r l) = (V m c main_v29 : Vec Ideal S16x256x1024 .bf16) (ix3 ⟨q.val, by omega⟩ r l) := by
    unfold iblk
    rw [View.read_apply]
    show V m c main_v29 _ = V m c main_v29 _
    congr 1
    funext a
    apply Fin.ext
    match a with
    | ⟨0, _⟩ => show win0_2.index t 0 * 8 + 1 * q.val = q.val; rw [e0]; omega
    | ⟨1, _⟩ => show win0_2.index t 1 * 256 + 1 * r.val = r.val; rw [e1]; omega
    | ⟨2, _⟩ => show win0_2.index t 2 * 1024 + 1 * l.val = l.val; rw [e2]; omega
  rw [e, in_im]
  exact inMatrix_apply _ ⟨q.val, by omega⟩ r l

/-- The output matrices of the first 8 group blocks, real parts. -/
theorem c_re (q : Fin 8) (l : Fin 1024) (r : Fin 256) :
    (iblk m c 3 t : Vec Ideal S8x1024x256 .bf16) (ix3 q l r) = (if r.val / 16 = l.val / 64 then (m ((c : Thread nD τ).loc main_arg3) : Vec Ideal S256x16x64 .f32)
      (ix3 ⟨q.val * 16 + r.val / 16, by omega⟩ ⟨r.val % 16, by omega⟩ ⟨l.val % 64, by omega⟩) else 0 : EReal) := by
  have hN : t.val < 4 := t.isLt
  obtain ⟨-, -, -, ⟨e0, e1, e2⟩, -⟩ := index_eq t
  have e : (iblk m c 3 t : Vec Ideal S8x1024x256 .bf16) (ix3 q l r) = (V m c main_v45 : Vec Ideal S16x1024x256 .bf16) (ix3 ⟨q.val, by omega⟩ l r) := by
    unfold iblk
    rw [View.read_apply]
    show V m c main_v45 _ = V m c main_v45 _
    congr 1
    funext a
    apply Fin.ext
    match a with
    | ⟨0, _⟩ => show win0_3.index t 0 * 8 + 1 * q.val = q.val; rw [e0]; omega
    | ⟨1, _⟩ => show win0_3.index t 1 * 1024 + 1 * l.val = l.val; rw [e1]; omega
    | ⟨2, _⟩ => show win0_3.index t 2 * 256 + 1 * r.val = r.val; rw [e2]; omega
  rw [e, out_re]
  exact outMatrix_apply _ ⟨q.val, by omega⟩ l r

/-- Imaginary parts. -/
theorem c_im (q : Fin 8) (l : Fin 1024) (r : Fin 256) :
    (iblk m c 4 t : Vec Ideal S8x1024x256 .bf16) (ix3 q l r) = (if r.val / 16 = l.val / 64 then (m ((c : Thread nD τ).loc main_arg4) : Vec Ideal S256x16x64 .f32)
      (ix3 ⟨q.val * 16 + r.val / 16, by omega⟩ ⟨r.val % 16, by omega⟩ ⟨l.val % 64, by omega⟩) else 0 : EReal) := by
  have hN : t.val < 4 := t.isLt
  obtain ⟨-, -, -, -, ⟨e0, e1, e2⟩, -⟩ := index_eq t
  have e : (iblk m c 4 t : Vec Ideal S8x1024x256 .bf16) (ix3 q l r) = (V m c main_v61 : Vec Ideal S16x1024x256 .bf16) (ix3 ⟨q.val, by omega⟩ l r) := by
    unfold iblk
    rw [View.read_apply]
    show V m c main_v61 _ = V m c main_v61 _
    congr 1
    funext a
    apply Fin.ext
    match a with
    | ⟨0, _⟩ => show win0_4.index t 0 * 8 + 1 * q.val = q.val; rw [e0]; omega
    | ⟨1, _⟩ => show win0_4.index t 1 * 1024 + 1 * l.val = l.val; rw [e1]; omega
    | ⟨2, _⟩ => show win0_4.index t 2 * 256 + 1 * r.val = r.val; rw [e2]; omega
  rw [e, out_im]
  exact outMatrix_apply _ ⟨q.val, by omega⟩ l r

/-- The coefficients of the first layer, real parts. -/
theorem a_re (j : Fin 8192) :
    (iblk m c 5 t : Vec Ideal S1x1x8192 .f32) (ix3 0 0 j) = (m ((c : Thread nD τ).loc main_arg5) : Vec Ideal S256x64 .f32) (ix2 ⟨j.val / 64, by omega⟩ ⟨j.val % 64, by omega⟩) := by
  have hN : t.val < 4 := t.isLt
  obtain ⟨-, -, -, -, -, ⟨e0, e1, e2⟩, -⟩ := index_eq t
  have e : (iblk m c 5 t : Vec Ideal S1x1x8192 .f32) (ix3 0 0 j) = (V m c main_v62 : Vec Ideal S2x1x8192 .f32) (ix3 0 0 j) := by
    unfold iblk
    rw [View.read_apply]
    show V m c main_v62 _ = V m c main_v62 _
    congr 1
    funext a
    apply Fin.ext
    match a with
    | ⟨0, _⟩ => show win0_5.index t 0 * 1 + 1 * 0 = 0; rw [e0]
    | ⟨1, _⟩ => show win0_5.index t 1 * 1 + 1 * 0 = 0; rw [e1]
    | ⟨2, _⟩ => show win0_5.index t 2 * 8192 + 1 * j.val = j.val; rw [e2]; omega
  rw [e, coef_re]
  exact coef_at _ j

/-- Imaginary parts. -/
theorem a_im (j : Fin 8192) :
    (iblk m c 6 t : Vec Ideal S1x1x8192 .f32) (ix3 0 0 j) = (m ((c : Thread nD τ).loc main_arg6) : Vec Ideal S256x64 .f32) (ix2 ⟨j.val / 64, by omega⟩ ⟨j.val % 64, by omega⟩) := by
  have hN : t.val < 4 := t.isLt
  obtain ⟨-, -, -, -, -, -, ⟨e0, e1, e2⟩, -⟩ := index_eq t
  have e : (iblk m c 6 t : Vec Ideal S1x1x8192 .f32) (ix3 0 0 j) = (V m c main_v63 : Vec Ideal S2x1x8192 .f32) (ix3 0 0 j) := by
    unfold iblk
    rw [View.read_apply]
    show V m c main_v63 _ = V m c main_v63 _
    congr 1
    funext a
    apply Fin.ext
    match a with
    | ⟨0, _⟩ => show win0_6.index t 0 * 1 + 1 * 0 = 0; rw [e0]
    | ⟨1, _⟩ => show win0_6.index t 1 * 1 + 1 * 0 = 0; rw [e1]
    | ⟨2, _⟩ => show win0_6.index t 2 * 8192 + 1 * j.val = j.val; rw [e2]; omega
  rw [e, coef_im]
  exact coef_at _ j

/-- The direct share of the first layer. -/
theorem d_eq (l : Fin 2048) :
    (iblk m c 7 t : Vec Ideal S1x1x2048 .f32) (ix3 0 0 l) = (m ((c : Thread nD τ).loc main_arg7) : Vec Ideal S2x2048 .f32) (ix2 0 l) := by
  have hN : t.val < 4 := t.isLt
  obtain ⟨-, -, -, -, -, -, -, ⟨e0, e1, e2⟩, -⟩ := index_eq t
  have e : (iblk m c 7 t : Vec Ideal S1x1x2048 .f32) (ix3 0 0 l) = (V m c main_v64 : Vec Ideal S2x1x2048 .f32) (ix3 0 0 l) := by
    unfold iblk
    rw [View.read_apply]
    show V m c main_v64 _ = V m c main_v64 _
    congr 1
    funext a
    apply Fin.ext
    match a with
    | ⟨0, _⟩ => show win0_7.index t 0 * 1 + 1 * 0 = 0; rw [e0]
    | ⟨1, _⟩ => show win0_7.index t 1 * 1 + 1 * 0 = 0; rw [e1]
    | ⟨2, _⟩ => show win0_7.index t 2 * 2048 + 1 * l.val = l.val; rw [e2]; omega
  rw [e, direct]
  exact direct_at _ l

/-- The permutation. -/
theorem p_eq (j i : Fin 128) :
    (iblk m c 8 t : Vec Ideal S128x128 .bf16) (ix2 j i) = (if i.val = 4 * (j.val % 32) + j.val / 32 then 1 else 0 : EReal) := by
  have hN : t.val < 4 := t.isLt
  obtain ⟨-, -, -, -, -, -, -, -, ⟨e0, e1⟩, -⟩ := index_eq t
  have e : (iblk m c 8 t : Vec Ideal S128x128 .bf16) (ix2 j i) = (V m c main_v78 : Vec Ideal S128x128 .bf16) (ix2 j i) := by
    unfold iblk
    rw [View.read_apply]
    show V m c main_v78 _ = V m c main_v78 _
    congr 1
    funext a
    apply Fin.ext
    match a with
    | ⟨0, _⟩ => show win0_8.index t 0 * 128 + 1 * j.val = j.val; rw [e0]; omega
    | ⟨1, _⟩ => show win0_8.index t 1 * 128 + 1 * i.val = i.val; rw [e1]; omega
  rw [e, perm]
  exact permutation_apply j i

/-- Its inverse. -/
theorem q_eq (i j : Fin 128) :
    (iblk m c 9 t : Vec Ideal S128x128 .bf16) (ix2 i j) = (if i.val = 4 * (j.val % 32) + j.val / 32 then 1 else 0 : EReal) := by
  have hN : t.val < 4 := t.isLt
  obtain ⟨-, -, -, -, -, -, -, -, -, ⟨e0, e1⟩, -⟩ := index_eq t
  have e : (iblk m c 9 t : Vec Ideal S128x128 .bf16) (ix2 i j) = (V m c main_v80 : Vec Ideal S128x128 .bf16) (ix2 i j) := by
    unfold iblk
    rw [View.read_apply]
    show V m c main_v80 _ = V m c main_v80 _
    congr 1
    funext a
    apply Fin.ext
    match a with
    | ⟨0, _⟩ => show win0_9.index t 0 * 128 + 1 * i.val = i.val; rw [e0]; omega
    | ⟨1, _⟩ => show win0_9.index t 1 * 128 + 1 * j.val = j.val; rw [e1]; omega
  rw [e, perm_inv]
  refine Eq.trans ?_ (permutation_apply j i)
  generalize permutation = y
  pointwise

/-- The first states of a point's sequences, real parts. -/
theorem h_re (s : Fin 32) (j : Fin 8192) :
    (iblk m c 10 t : Vec Ideal S32x8192 .f32) (ix2 s j) = (m ((c : Thread nD τ).loc main_arg8) : Vec Ideal S128x128x64 .f32)
      (ix3 ⟨32 * t.val + s.val, by have : t.val < 4 := t.isLt; omega⟩ ⟨j.val / 64, by omega⟩ ⟨j.val % 64, by omega⟩) := by
  have hN : t.val < 4 := t.isLt
  obtain ⟨-, -, -, -, -, -, -, -, -, -, ⟨e0, e1⟩, -⟩ := index_eq t
  have e : (iblk m c 10 t : Vec Ideal S32x8192 .f32) (ix2 s j) = (V m c main_v65 : Vec Ideal S128x8192 .f32) (ix2 ⟨32 * t.val + s.val, by have : t.val < 4 := t.isLt; omega⟩ j) := by
    unfold iblk
    rw [View.read_apply]
    show V m c main_v65 _ = V m c main_v65 _
    congr 1
    funext a
    apply Fin.ext
    match a with
    | ⟨0, _⟩ => show win0_10.index t 0 * 32 + 1 * s.val = 32 * t.val + s.val; rw [e0]; omega
    | ⟨1, _⟩ => show win0_10.index t 1 * 8192 + 1 * j.val = j.val; rw [e1]; omega
  rw [e, first_re]
  pointwise

/-- Imaginary parts. -/
theorem h_im (s : Fin 32) (j : Fin 8192) :
    (iblk m c 11 t : Vec Ideal S32x8192 .f32) (ix2 s j) = (m ((c : Thread nD τ).loc main_arg9) : Vec Ideal S128x128x64 .f32)
      (ix3 ⟨32 * t.val + s.val, by have : t.val < 4 := t.isLt; omega⟩ ⟨j.val / 64, by omega⟩ ⟨j.val % 64, by omega⟩) := by
  have hN : t.val < 4 := t.isLt
  obtain ⟨-, -, -, -, -, -, -, -, -, -, -, e0, e1⟩ := index_eq t
  have e : (iblk m c 11 t : Vec Ideal S32x8192 .f32) (ix2 s j) = (V m c main_v66 : Vec Ideal S128x8192 .f32) (ix2 ⟨32 * t.val + s.val, by have : t.val < 4 := t.isLt; omega⟩ j) := by
    unfold iblk
    rw [View.read_apply]
    show V m c main_v66 _ = V m c main_v66 _
    congr 1
    funext a
    apply Fin.ext
    match a with
    | ⟨0, _⟩ => show win0_11.index t 0 * 32 + 1 * s.val = 32 * t.val + s.val; rw [e0]; omega
    | ⟨1, _⟩ => show win0_11.index t 1 * 8192 + 1 * j.val = j.val; rw [e1]; omega
  rw [e, first_im]
  pointwise

end Cert.KernelIdeal.Host

end
end
-- ==== Proof.DecodePoint.lean ====
/-
  THE S5 DECODE CALL, one grid point against the arguments: the zeros outside the diagonal blocks drop out of the sums,
  the permutations move rows, and a point's three blocks are rows of the arrays of DecodeSpec.
-/
module

public import proofs.«01_k».proof.Proof.DecodeSpec
public import proofs.«01_k».proof.Proof.DecodeOut
public import proofs.«01_k».proof.Proof.DecodeReads

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem

/-! ## Sums with zeros in them -/

/-- A sum whose terms vanish outside the `a`-th run of `w` indices. -/
theorem sum_run {N w : Nat} (a : Nat) (h : w * a + w ≤ N) (h0 : 0 < w) (g : Fin N → EReal) :
    (∑ k : Fin N, if k.val / w = a then g k else 0) = ∑ k : Fin w, g ⟨w * a + k.val, by omega⟩ := by
  rw [← Finset.sum_filter]
  symm
  refine Finset.sum_bij (fun k _ => ⟨w * a + k.val, by omega⟩) ?_ ?_ ?_ ?_
  · intro k _
    refine Finset.mem_filter.mpr ⟨Finset.mem_univ _, ?_⟩
    show (w * a + k.val) / w = a
    rw [Nat.mul_add_div h0, Nat.div_eq_of_lt k.isLt, Nat.add_zero]
  · intro k _ l _ e
    have := congrArg Fin.val e
    exact Fin.ext (by dsimp only at this; omega)
  · intro b hb
    have e : b.val / w = a := (Finset.mem_filter.mp hb).2
    refine ⟨⟨b.val % w, Nat.mod_lt _ h0⟩, Finset.mem_univ _, Fin.ext ?_⟩
    show w * a + b.val % w = b.val
    rw [← e]
    exact Nat.div_add_mod _ _
  · intro k _
    rfl

/-- A sum over a row of a permutation. -/
theorem sum_pick {N : Nat} (a : Fin N) (p x : Fin N → EReal) (h1 : p a = 1) (h0 : ∀ k, k ≠ a → p k = 0) : (∑ k : Fin N, p k * x k) = x a := by
  rw [Finset.sum_eq_single a]
  · rw [h1, one_mul]
  · intro b _ hb
    rw [h0 b hb, zero_mul]
  · intro h
    exact absurd (Finset.mem_univ a) h

/-! ## What a point's blocks are, in terms of the arguments -/

section Point

variable (u : Vec Ideal S8704x10240 .f32) (br bi : Vec Ideal S256x64x16 .f32) (cr ci : Vec Ideal S256x16x64 .f32) (ar ai : Vec Ideal S256x64 .f32)
  (d : Vec Ideal S2x2048 .f32) (hr hi : Vec Ideal S128x128x64 .f32) (T : Fin 4)
  (x0 : Vec Ideal S128x2048 .f32) (x1 x2 : Vec Ideal S8x256x1024 .bf16) (x3 x4 : Vec Ideal S8x1024x256 .bf16) (x5 x6 : Vec Ideal S1x1x8192 .f32)
  (x7 : Vec Ideal S1x1x2048 .f32) (x8 x9 : Vec Ideal S128x128 .bf16) (x10 x11 : Vec Ideal S32x8192 .f32)

/-- The rows, brought into the order of the tokens. -/
theorem permuted_rows (e0 : ∀ r l, x0 (ix2 r l) = u (ix2 ⟨8192 + (128 * T.val + r.val), by omega⟩ ⟨l.val, by omega⟩))
    (e8 : ∀ j i, (x8 (ix2 j i) : EReal) = if i.val = 4 * (j.val % 32) + j.val / 32 then 1 else 0) (r : Fin 128) (l : Fin 2048) :
    k0_pay2 x0 x8 (ix2 r l) = u (ix2 ⟨8192 + (4 * (32 * T.val + r.val % 32) + r.val / 32), by omega⟩ ⟨l.val, by omega⟩) := by
  rw [permuted_eq]
  show (∑ j : Fin 128, (x8 (ix2 r j) : EReal) * x0 (ix2 j l)) = _
  rw [sum_pick ⟨4 * (r.val % 32) + r.val / 32, by omega⟩ (fun j => x8 (ix2 r j)) (fun j => x0 (ix2 j l))
    ((e8 _ _).trans (if_pos rfl)) (fun k hk => (e8 _ _).trans (if_neg fun h => hk (Fin.ext h)))]
  rw [e0]
  refine congrArg u ?_
  funext a; apply Fin.ext
  match a with
  | ⟨0, _⟩ => show 8192 + (128 * T.val + (4 * (r.val % 32) + r.val / 32)) = 8192 + (4 * (32 * T.val + r.val % 32) + r.val / 32); omega
  | ⟨1, _⟩ => rfl

/-- What a row adds to a state. -/
theorem drive_fed (b : Vec Ideal S256x64x16 .f32) (x : Vec Ideal S8x256x1024 .bf16) (y : Vec Ideal S128x2048 .bf16)
    (ey : ∀ r l, (y (ix2 r l) : EReal) = u (ix2 ⟨8192 + (4 * (32 * T.val + r.val % 32) + r.val / 32), by omega⟩ ⟨l.val, by omega⟩))
    (e : ∀ q r l, (x (ix3 q r l) : EReal) = if r.val / 16 = l.val / 64 then b (ix3 ⟨q.val * 16 + r.val / 16, by omega⟩ ⟨l.val % 64, by omega⟩ ⟨r.val % 16, by omega⟩) else 0)
    (r : Fin 128) (j : Fin 8192) : driveAt y x r j = fed u b ⟨32 * T.val + r.val % 32, by omega⟩ ⟨r.val / 32, by omega⟩ j := by
  unfold driveAt
  have h : ∀ k : Fin 256, ((y (ix2 r ⟨256 * (j.val / 1024) + k.val, by omega⟩) : EReal) * x (ix3 ⟨j.val / 1024, by omega⟩ k ⟨j.val % 1024, by omega⟩))
      = if k.val / 16 = j.val % 1024 / 64 then
          (u (ix2 ⟨8192 + (4 * (32 * T.val + r.val % 32) + r.val / 32), by omega⟩ ⟨256 * (j.val / 1024) + k.val, by omega⟩) : EReal)
            * b (ix3 ⟨j.val / 1024 * 16 + k.val / 16, by omega⟩ ⟨j.val % 1024 % 64, by omega⟩ ⟨k.val % 16, by omega⟩) else 0 := by
    intro k
    rw [ey, e, mul_ite, mul_zero]
  rw [Finset.sum_congr rfl fun k _ => h k, sum_run (j.val % 1024 / 64) (by omega) (by decide)]
  refine Finset.sum_congr rfl fun k _ => ?_
  refine congrArg₂ (fun a b : EReal => a * b) (congrArg u ?_) (congrArg b ?_)
  · funext a; apply Fin.ext
    match a with
    | ⟨0, _⟩ => rfl
    | ⟨1, _⟩ => show 256 * (j.val / 1024) + (16 * (j.val % 1024 / 64) + k.val) = 16 * (j.val / 64) + k.val; omega
  · funext a; apply Fin.ext
    match a with
    | ⟨0, _⟩ => show j.val / 1024 * 16 + (16 * (j.val % 1024 / 64) + k.val) / 16 = j.val / 64; omega
    | ⟨1, _⟩ => show j.val % 1024 % 64 = j.val % 64; omega
    | ⟨2, _⟩ => show (16 * (j.val % 1024 / 64) + k.val) % 16 = k.val; omega

/-- The block's states, row by row: row `32 t + s` holds sequence `s` after token `t`. -/
theorem rowState_eq (e0 : ∀ r l, x0 (ix2 r l) = u (ix2 ⟨8192 + (128 * T.val + r.val), by omega⟩ ⟨l.val, by omega⟩))
    (e1 : ∀ q r l, (x1 (ix3 q r l) : EReal) = if r.val / 16 = l.val / 64 then br (ix3 ⟨q.val * 16 + r.val / 16, by omega⟩ ⟨l.val % 64, by omega⟩ ⟨r.val % 16, by omega⟩) else 0)
    (e2 : ∀ q r l, (x2 (ix3 q r l) : EReal) = if r.val / 16 = l.val / 64 then bi (ix3 ⟨q.val * 16 + r.val / 16, by omega⟩ ⟨l.val % 64, by omega⟩ ⟨r.val % 16, by omega⟩) else 0)
    (e5 : ∀ j, x5 (ix3 0 0 j) = ar (ix2 ⟨j.val / 64, by omega⟩ ⟨j.val % 64, by omega⟩))
    (e6 : ∀ j, x6 (ix3 0 0 j) = ai (ix2 ⟨j.val / 64, by omega⟩ ⟨j.val % 64, by omega⟩))
    (e8 : ∀ j i, (x8 (ix2 j i) : EReal) = if i.val = 4 * (j.val % 32) + j.val / 32 then 1 else 0)
    (e10 : ∀ s j, x10 (ix2 s j) = hr (ix3 ⟨32 * T.val + s.val, by omega⟩ ⟨j.val / 64, by omega⟩ ⟨j.val % 64, by omega⟩))
    (e11 : ∀ s j, x11 (ix2 s j) = hi (ix3 ⟨32 * T.val + s.val, by omega⟩ ⟨j.val / 64, by omega⟩ ⟨j.val % 64, by omega⟩))
    (s : Fin 32) (t : Fin 4) (j : Fin 8192) :
    rowState (coef x5 x6) (init x10 x11) (drive x0 x8 x1 x2) ⟨32 * t.val + s.val, by omega⟩ j = stateAt u br bi ar ai hr hi ⟨32 * T.val + s.val, by omega⟩ t j := by
  have ea : coef x5 x6 j = (ar (ix2 ⟨j.val / 64, by omega⟩ ⟨j.val % 64, by omega⟩), ai (ix2 ⟨j.val / 64, by omega⟩ ⟨j.val % 64, by omega⟩)) :=
    Prod.ext (e5 j) (e6 j)
  have eh : init x10 x11 s j = (hr (ix3 ⟨32 * T.val + s.val, by omega⟩ ⟨j.val / 64, by omega⟩ ⟨j.val % 64, by omega⟩),
      hi (ix3 ⟨32 * T.val + s.val, by omega⟩ ⟨j.val / 64, by omega⟩ ⟨j.val % 64, by omega⟩)) := Prod.ext (e10 s j) (e11 s j)
  have ed : ∀ (o : Nat) (t : Fin 4) (h : o + s.val < 128) (ho : o = 32 * t.val), drive x0 x8 x1 x2 ⟨o + s.val, h⟩ j
      = (fed u br ⟨32 * T.val + s.val, by omega⟩ t j, fed u bi ⟨32 * T.val + s.val, by omega⟩ t j) := by
    intro o t h ho
    have ey := permuted_rows u T x0 x8 e0 e8
    have q0 : (o + s.val) % 32 = s.val := by omega
    have q1 : (o + s.val) / 32 = t.val := by omega
    refine Prod.ext ((drive_fed u T br x1 _ ey e1 ⟨o + s.val, h⟩ j).trans ?_) ((drive_fed u T bi x2 _ ey e2 ⟨o + s.val, h⟩ j).trans ?_)
    · exact congrArg₂ (fun n t => fed u br n t j) (Fin.ext (by show 32 * T.val + (o + s.val) % 32 = 32 * T.val + s.val; rw [q0])) (Fin.ext q1)
    · exact congrArg₂ (fun n t => fed u bi n t j) (Fin.ext (by show 32 * T.val + (o + s.val) % 32 = 32 * T.val + s.val; rw [q0])) (Fin.ext q1)
  unfold stateAt
  match t with
  | ⟨0, _⟩ =>
    refine (rowState0 _ _ _ s j).trans ?_
    unfold state0 after
    rw [ea, eh, ed 0 0 _ rfl]
  | ⟨1, _⟩ =>
    refine (rowState1 _ _ _ s j).trans ?_
    unfold state1 state0 after
    rw [ea, eh, ed 0 0 _ rfl, ed 32 1 _ rfl]
  | ⟨2, _⟩ =>
    refine (rowState2 _ _ _ s j).trans ?_
    unfold state2 state1 state0 after
    rw [ea, eh, ed 0 0 _ rfl, ed 32 1 _ rfl, ed 64 2 _ rfl]
  | ⟨3, _⟩ =>
    refine (rowState3 _ _ _ s j).trans ?_
    unfold state3 state2 state1 state0 after
    rw [ea, eh, ed 0 0 _ rfl, ed 32 1 _ rfl, ed 64 2 _ rfl, ed 96 3 _ rfl]

/-- One part of what the states of a row make of a channel. -/
theorem sum_out (c : Vec Ideal S256x16x64 .f32) (x : Vec Ideal S8x1024x256 .bf16) (f : Fin 8192 → EReal)
    (e : ∀ q l r, (x (ix3 q l r) : EReal) = if r.val / 16 = l.val / 64 then c (ix3 ⟨q.val * 16 + r.val / 16, by omega⟩ ⟨r.val % 16, by omega⟩ ⟨l.val % 64, by omega⟩) else 0)
    (l : Fin 2048) :
    (∑ k : Fin 1024, f ⟨1024 * (l.val / 256) + k.val, by omega⟩ * (x (ix3 ⟨l.val / 256, by omega⟩ k ⟨l.val % 256, by omega⟩) : EReal))
      = ∑ p : Fin 64, f ⟨64 * (l.val / 16) + p.val, by omega⟩ * c (ix3 ⟨l.val / 16, by omega⟩ ⟨l.val % 16, by omega⟩ p) := by
  have h : ∀ k : Fin 1024, (f ⟨1024 * (l.val / 256) + k.val, by omega⟩ * (x (ix3 ⟨l.val / 256, by omega⟩ k ⟨l.val % 256, by omega⟩) : EReal))
      = if k.val / 64 = l.val % 256 / 16 then f ⟨1024 * (l.val / 256) + k.val, by omega⟩
            * c (ix3 ⟨l.val / 256 * 16 + l.val % 256 / 16, by omega⟩ ⟨l.val % 256 % 16, by omega⟩ ⟨k.val % 64, by omega⟩) else 0 := by
    intro k
    rw [e, mul_ite, mul_zero]
    exact if_congr eq_comm rfl rfl
  rw [Finset.sum_congr rfl fun k _ => h k, sum_run (l.val % 256 / 16) (by omega) (by decide)]
  refine Finset.sum_congr rfl fun p _ => ?_
  refine congrArg₂ (fun a b : EReal => a * b) (congrArg f (Fin.ext ?_)) (congrArg c ?_)
  · show 1024 * (l.val / 256) + (64 * (l.val % 256 / 16) + p.val) = 64 * (l.val / 16) + p.val
    omega
  · funext a; apply Fin.ext
    match a with
    | ⟨0, _⟩ => show l.val / 256 * 16 + l.val % 256 / 16 = l.val / 16; omega
    | ⟨1, _⟩ => show l.val % 256 % 16 = l.val % 16; omega
    | ⟨2, _⟩ => show (64 * (l.val % 256 / 16) + p.val) % 64 = p.val; omega

/-- The block's output rows before they go back to their places. -/
theorem outAt_eq (st : Fin 128 → Fin 8192 → EReal × EReal)
    (es : ∀ (s : Fin 32) (t : Fin 4) (j : Fin 8192), st ⟨32 * t.val + s.val, by omega⟩ j = stateAt u br bi ar ai hr hi ⟨32 * T.val + s.val, by omega⟩ t j)
    (e3 : ∀ q l r, (x3 (ix3 q l r) : EReal) = if r.val / 16 = l.val / 64 then cr (ix3 ⟨q.val * 16 + r.val / 16, by omega⟩ ⟨r.val % 16, by omega⟩ ⟨l.val % 64, by omega⟩) else 0)
    (e4 : ∀ q l r, (x4 (ix3 q l r) : EReal) = if r.val / 16 = l.val / 64 then ci (ix3 ⟨q.val * 16 + r.val / 16, by omega⟩ ⟨r.val % 16, by omega⟩ ⟨l.val % 64, by omega⟩) else 0)
    (s : Fin 32) (t : Fin 4) (l : Fin 2048) :
    outAt (fun r j => (st r j).1) (fun r j => (st r j).2) x3 x4 ⟨32 * t.val + s.val, by omega⟩ l = outOf u br bi cr ci ar ai hr hi ⟨32 * T.val + s.val, by omega⟩ t l := by
  unfold outAt outOf
  rw [← sum_out cr x3 (fun j => (stateAt u br bi ar ai hr hi ⟨32 * T.val + s.val, by omega⟩ t j).1) e3 l,
    ← sum_out ci x4 (fun j => (stateAt u br bi ar ai hr hi ⟨32 * T.val + s.val, by omega⟩ t j).2) e4 l]
  simp only [es]

/-- The block's output rows at their places, when they are real. -/
theorem blockOut_eq (O : Vec Ideal S128x2048 .f32)
    (eO : ∀ (s : Fin 32) (t : Fin 4) (l : Fin 2048), O (ix2 ⟨32 * t.val + s.val, by omega⟩ l) = outOf u br bi cr ci ar ai hr hi ⟨32 * T.val + s.val, by omega⟩ t l)
    (hreal : ∀ n t l, IsReal (outOf u br bi cr ci ar ai hr hi n t l))
    (e0 : ∀ r l, x0 (ix2 r l) = u (ix2 ⟨8192 + (128 * T.val + r.val), by omega⟩ ⟨l.val, by omega⟩))
    (e7 : ∀ l, x7 (ix3 0 0 l) = d (ix2 0 l))
    (e9 : ∀ i j, (x9 (ix2 i j) : EReal) = if i.val = 4 * (j.val % 32) + j.val / 32 then 1 else 0)
    (r : Fin 128) (l : Fin 2048) :
    blockOut x9 O x0 x7 (ix2 r l) = outputs u br bi cr ci ar ai d hr hi (ix2 ⟨128 * T.val + r.val, by omega⟩ l) := by
  have hO : ∀ j : Fin 128, IsReal (O (ix2 j l)) := by
    intro j
    have e := eO ⟨j.val % 32, by omega⟩ ⟨j.val / 32, by omega⟩ l
    have ej : (⟨32 * (j.val / 32) + j.val % 32, by omega⟩ : Fin 128) = j := Fin.ext (by dsimp only; omega)
    dsimp only at e
    rw [ej] at e
    rw [e]
    exact hreal _ _ _
  show ((∑ j : Fin 128, x9 (ix2 r j) * O (ix2 j l) : EReal) + ∑ j : Fin 128, x9 (ix2 r j) * (O (ix2 j l) - O (ix2 j l))) + x7 (ix3 0 0 l) * x0 (ix2 r l) = _
  have z : (∑ j : Fin 128, (x9 (ix2 r j) : EReal) * (O (ix2 j l) - O (ix2 j l))) = 0 :=
    Finset.sum_eq_zero fun j _ => by rw [(hO j).sub_self, mul_zero]
  have k : (∑ j : Fin 128, (x9 (ix2 r j) : EReal) * O (ix2 j l)) = O (ix2 ⟨32 * (r.val % 4) + r.val / 4, by omega⟩ l) := by
    refine sum_pick ⟨32 * (r.val % 4) + r.val / 4, by omega⟩ (fun j => x9 (ix2 r j)) (fun j => O (ix2 j l)) ((e9 _ _).trans (if_pos ?_))
      (fun j hj => (e9 _ _).trans (if_neg fun h => hj (Fin.ext ?_)))
    · show r.val = 4 * ((32 * (r.val % 4) + r.val / 4) % 32) + (32 * (r.val % 4) + r.val / 4) / 32
      omega
    · show j.val = 32 * (r.val % 4) + r.val / 4
      omega
  rw [z, k, add_zero, e0, e7]
  have e := eO ⟨r.val / 4, by omega⟩ ⟨r.val % 4, by omega⟩ l
  dsimp only at e
  rw [e]
  show _ = outOf u br bi cr ci ar ai hr hi ⟨(128 * T.val + r.val) / 4, _⟩ ⟨(128 * T.val + r.val) % 4, _⟩ l
    + d (ix2 0 l) * u (ix2 ⟨8192 + (128 * T.val + r.val), _⟩ ⟨l.val, _⟩)
  refine congrArg₂ (fun a b : EReal => a + b) ?_ rfl
  exact congrArg₂ (fun n t => outOf u br bi cr ci ar ai hr hi n t l) (Fin.ext (by show 32 * T.val + r.val / 4 = (128 * T.val + r.val) / 4; omega))
    (Fin.ext (by show r.val % 4 = (128 * T.val + r.val) % 4; omega))

end Point

end Cert.KernelIdeal.Block

end
end
-- ==== Proof.DecodeArrays.lean ====
/-
  THE S5 DECODE CALL, its arrays: point `t` writes the rows and the last states of sequences `32 t … 32 t + 31`, and the
  four points together write every row.
-/
module

public import proofs.«01_k».proof.Proof.DecodePoint

@[expose] public section

set_option maxRecDepth 16384

noncomputable section

namespace Cert.KernelIdeal.Block

open Cert.KernelIdeal Cert.KernelIdeal.Gen Cert.KernelIdeal.Value Idealize.ShloMosaic Idealize.ShloMosaic.TcCoe Idealize.SL.Sem
open Idealize.ShloMosaic.Pipeline (Dat)
open Cert.KernelIdeal.Host

variable (m : (ℓ : Loc nD τ sig) → Buf (Elt Ideal) ℓ) (ρ : Dev nD → PrngReg)

/-- The arguments whose values have to be real: all but the direct share's factor. -/
def RealArgs (c : Dev nD) : Prop :=
  (∀ i, IsReal ((m ((c : Thread nD τ).loc main_arg0) : Vec Ideal S8704x10240 .f32) i))
    ∧ (∀ i, IsReal ((m ((c : Thread nD τ).loc main_arg1) : Vec Ideal S256x64x16 .f32) i))
    ∧ (∀ i, IsReal ((m ((c : Thread nD τ).loc main_arg2) : Vec Ideal S256x64x16 .f32) i))
    ∧ (∀ i, IsReal ((m ((c : Thread nD τ).loc main_arg3) : Vec Ideal S256x16x64 .f32) i))
    ∧ (∀ i, IsReal ((m ((c : Thread nD τ).loc main_arg4) : Vec Ideal S256x16x64 .f32) i))
    ∧ (∀ i, IsReal ((m ((c : Thread nD τ).loc main_arg5) : Vec Ideal S256x64 .f32) i))
    ∧ (∀ i, IsReal ((m ((c : Thread nD τ).loc main_arg6) : Vec Ideal S256x64 .f32) i))
    ∧ (∀ i, IsReal ((m ((c : Thread nD τ).loc main_arg8) : Vec Ideal S128x128x64 .f32) i))
    ∧ (∀ i, IsReal ((m ((c : Thread nD τ).loc main_arg9) : Vec Ideal S128x128x64 .f32) i))

/-- The outputs' blocks. -/
theorem out_index_eq : ∀ t : Fin cfg0.N, (win0_12.index t (0 : Fin 2) = t.val ∧ win0_12.index t (1 : Fin 2) = 0 ∧ (cfg0.win 12).flush t = true)
    ∧ (win0_13.index t (0 : Fin 2) = t.val ∧ win0_13.index t (1 : Fin 2) = 0 ∧ (cfg0.win 13).flush t = true)
    ∧ (win0_14.index t (0 : Fin 2) = t.val ∧ win0_14.index t (1 : Fin 2) = 0 ∧ (cfg0.win 14).flush t = true) :=
  (by decide +kernel : ∀ t : Fin grid0.N, _)

/-- The states of a point. -/
theorem point_states (c : Dev nD) (t : Fin cfg0.N) (s : Fin 32) (k : Fin 4) (j : Fin 8192) :
    rowState (coef (iblk m c 5 t) (iblk m c 6 t)) (init (iblk m c 10 t) (iblk m c 11 t)) (drive (iblk m c 0 t) (iblk m c 8 t) (iblk m c 1 t) (iblk m c 2 t))
        ⟨32 * k.val + s.val, by omega⟩ j
      = stateAt (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) ⟨32 * t.val + s.val, by have : t.val < 4 := t.isLt; omega⟩ k j :=
  rowState_eq _ _ _ _ _ _ _ ⟨t.val, t.isLt⟩ _ _ _ _ _ _ _ _ (rows m c t) (b_re m c t) (b_im m c t) (a_re m c t) (a_im m c t) (p_eq m c t) (h_re m c t) (h_im m c t) s k j

/-- Its last states. -/
theorem point_last (c : Dev nD) (t : Fin cfg0.N) (s : Fin 32) (j : Fin 8192) :
    state3 (coef (iblk m c 5 t) (iblk m c 6 t)) (init (iblk m c 10 t) (iblk m c 11 t)) (drive (iblk m c 0 t) (iblk m c 8 t) (iblk m c 1 t) (iblk m c 2 t)) s j
      = stateAt (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) ⟨32 * t.val + s.val, by have : t.val < 4 := t.isLt; omega⟩ 3 j :=
  (rowState3 _ _ _ s j).symm.trans (point_states m c t s 3 j)

/-- Its rows. -/
theorem point_rows (c : Dev nD) (hre : RealArgs m c) (t : Fin cfg0.N) (r : Fin 128) (l : Fin 2048) :
    blockOut (iblk m c 9 t) (outRows
        (fun r j => (rowState (coef (iblk m c 5 t) (iblk m c 6 t)) (init (iblk m c 10 t) (iblk m c 11 t)) (drive (iblk m c 0 t) (iblk m c 8 t) (iblk m c 1 t) (iblk m c 2 t)) r j).1)
        (fun r j => (rowState (coef (iblk m c 5 t) (iblk m c 6 t)) (init (iblk m c 10 t) (iblk m c 11 t)) (drive (iblk m c 0 t) (iblk m c 8 t) (iblk m c 1 t) (iblk m c 2 t)) r j).2)
        (iblk m c 3 t) (iblk m c 4 t)) (iblk m c 0 t) (iblk m c 7 t) (ix2 r l)
      = outputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 ⟨128 * t.val + r.val, by have : t.val < 4 := t.isLt; omega⟩ l) := by
  obtain ⟨r0, r1, r2, r3, r4, r5, r6, r8, r9⟩ := hre
  exact blockOut_eq _ _ _ _ _ _ _ _ _ _ ⟨t.val, t.isLt⟩ _ _ _ _
    (fun s k l => outAt_eq _ _ _ _ _ _ _ _ _ ⟨t.val, t.isLt⟩ _ _ _ (fun s k j => point_states m c t s k j) (c_re m c t) (c_im m c t) s k l)
    (outOf_real r0 r1 r2 r3 r4 r5 r6 r8 r9) (rows m c t) (d_eq m c t) (q_eq m c t) r l

/-- The rows a point writes out are a block of their array. -/
theorem written12_eq (c : Dev nD) (hre : RealArgs m c) (t : Fin cfg0.N) :
    (dats m 0 c).flushed 12 t = ((cfg0.win 12).blk t).view.read (Elt Ideal)
      (outputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) : Buf (Elt Ideal) ((c : Thread nD τ).loc main_v81_0)) := by
  have hN : t.val < 4 := t.isLt
  obtain ⟨⟨e0, e1, -⟩, -⟩ := out_index_eq t
  rw [flushed12_A, out_eq]
  funext y
  rw [View.read_apply]
  have hy0 : (y 0).val < 128 := (y 0).isLt
  have hy1 : (y 1).val < 2048 := (y 1).isLt
  have hx : (cfg0.win 12).xinj (grid0.coords t) y = ix2 ⟨(y 0).val, hy0⟩ ⟨(y 1).val, hy1⟩ := by
    funext a; apply Fin.ext
    match a with
    | ⟨0, _⟩ => rfl
    | ⟨1, _⟩ => rfl
  show blockOut _ _ _ _ ((cfg0.win 12).xinj (grid0.coords t) y) = outputs _ _ _ _ _ _ _ _ _ _ (((cfg0.win 12).blk t).view.emb y)
  rw [hx, point_rows m c hre t ⟨(y 0).val, hy0⟩ ⟨(y 1).val, hy1⟩]
  congr 1
  funext a; apply Fin.ext
  match a with
  | ⟨0, _⟩ => show 128 * t.val + (y 0).val = win0_12.index t 0 * 128 + 1 * (y 0).val; rw [e0]; omega
  | ⟨1, _⟩ => show (y 1).val = win0_12.index t 1 * 2048 + 1 * (y 1).val; rw [e1]; omega

theorem covered12 (i : S512x2048.Idx) : ∃ t : Fin cfg0.N, (cfg0.win 12).flush t = true ∧ i ∈ ((cfg0.win 12).blk t).view.set := by
  have h0 : (i 0).val < 512 := (i 0).isLt
  have h1 : (i 1).val < 2048 := (i 1).isLt
  have ht : (i 0).val / 128 < grid0.N := by show (i 0).val / 128 < 4; omega
  obtain ⟨⟨e0, e1, hf⟩, -⟩ := out_index_eq ⟨(i 0).val / 128, ht⟩
  refine ⟨⟨(i 0).val / 128, ht⟩, hf, ?_⟩
  show i ∈ ((View.whole main_v81_0).slice (win0_12.rect ⟨(i 0).val / 128, ht⟩)).set
  rw [View.set_slice_whole, Rect.mem_set_unit]
  intro a
  match a with
  | ⟨0, _⟩ => show win0_12.index _ (0 : Fin 2) * 128 ≤ (i 0).val ∧ (i 0).val < win0_12.index _ (0 : Fin 2) * 128 + 128; rw [e0]; dsimp only; omega
  | ⟨1, _⟩ => show win0_12.index _ (1 : Fin 2) * 2048 ≤ (i 1).val ∧ (i 1).val < win0_12.index _ (1 : Fin 2) * 2048 + 2048; rw [e1]; omega

/-- The last states' real parts a point writes out are a block of their array. -/
theorem written13_eq (c : Dev nD) (t : Fin cfg0.N) :
    (dats m 0 c).flushed 13 t = ((cfg0.win 13).blk t).view.read (Elt Ideal)
      (lastRe (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) : Buf (Elt Ideal) ((c : Thread nD τ).loc main_v81_1)) := by
  have hN : t.val < 4 := t.isLt
  obtain ⟨-, ⟨e0, e1, -⟩, -⟩ := out_index_eq t
  rw [flushed13_A, final_re]
  funext y
  rw [View.read_apply]
  have hy0 : (y 0).val < 32 := (y 0).isLt
  have hy1 : (y 1).val < 8192 := (y 1).isLt
  have hx : (cfg0.win 13).xinj (grid0.coords t) y = ix2 ⟨(y 0).val, hy0⟩ ⟨(y 1).val, hy1⟩ := by
    funext a; apply Fin.ext
    match a with
    | ⟨0, _⟩ => rfl
    | ⟨1, _⟩ => rfl
  show reals _ ((cfg0.win 13).xinj (grid0.coords t) y) = lastRe _ _ _ _ _ _ _ (((cfg0.win 13).blk t).view.emb y)
  rw [hx]
  refine (congrArg (fun x => x.1) (point_last m c t ⟨(y 0).val, hy0⟩ ⟨(y 1).val, hy1⟩)).trans ?_
  show lastRe (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) (ix2 ⟨32 * t.val + (y 0).val, by omega⟩ ⟨(y 1).val, hy1⟩) = _
  congr 1
  funext a; apply Fin.ext
  match a with
  | ⟨0, _⟩ => show 32 * t.val + (y 0).val = win0_13.index t 0 * 32 + 1 * (y 0).val; rw [e0]; omega
  | ⟨1, _⟩ => show (y 1).val = win0_13.index t 1 * 8192 + 1 * (y 1).val; rw [e1]; omega

theorem covered13 (i : S128x8192.Idx) : ∃ t : Fin cfg0.N, (cfg0.win 13).flush t = true ∧ i ∈ ((cfg0.win 13).blk t).view.set := by
  have h0 : (i 0).val < 128 := (i 0).isLt
  have h1 : (i 1).val < 8192 := (i 1).isLt
  have ht : (i 0).val / 32 < grid0.N := by show (i 0).val / 32 < 4; omega
  obtain ⟨-, ⟨e0, e1, hf⟩, -⟩ := out_index_eq ⟨(i 0).val / 32, ht⟩
  refine ⟨⟨(i 0).val / 32, ht⟩, hf, ?_⟩
  show i ∈ ((View.whole main_v81_1).slice (win0_13.rect ⟨(i 0).val / 32, ht⟩)).set
  rw [View.set_slice_whole, Rect.mem_set_unit]
  intro a
  match a with
  | ⟨0, _⟩ => show win0_13.index _ (0 : Fin 2) * 32 ≤ (i 0).val ∧ (i 0).val < win0_13.index _ (0 : Fin 2) * 32 + 32; rw [e0]; dsimp only; omega
  | ⟨1, _⟩ => show win0_13.index _ (1 : Fin 2) * 8192 ≤ (i 1).val ∧ (i 1).val < win0_13.index _ (1 : Fin 2) * 8192 + 8192; rw [e1]; omega

/-- The last states' imaginary parts a point writes out are a block of their array. -/
theorem written14_eq (c : Dev nD) (t : Fin cfg0.N) :
    (dats m 0 c).flushed 14 t = ((cfg0.win 14).blk t).view.read (Elt Ideal)
      (lastIm (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) : Buf (Elt Ideal) ((c : Thread nD τ).loc main_v81_2)) := by
  have hN : t.val < 4 := t.isLt
  obtain ⟨-, -, e0, e1, -⟩ := out_index_eq t
  rw [flushed14_A, final_im]
  funext y
  rw [View.read_apply]
  have hy0 : (y 0).val < 32 := (y 0).isLt
  have hy1 : (y 1).val < 8192 := (y 1).isLt
  have hx : (cfg0.win 14).xinj (grid0.coords t) y = ix2 ⟨(y 0).val, hy0⟩ ⟨(y 1).val, hy1⟩ := by
    funext a; apply Fin.ext
    match a with
    | ⟨0, _⟩ => rfl
    | ⟨1, _⟩ => rfl
  show imags _ ((cfg0.win 14).xinj (grid0.coords t) y) = lastIm _ _ _ _ _ _ _ (((cfg0.win 14).blk t).view.emb y)
  rw [hx]
  refine (congrArg (fun x => x.2) (point_last m c t ⟨(y 0).val, hy0⟩ ⟨(y 1).val, hy1⟩)).trans ?_
  show lastIm (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9)) (ix2 ⟨32 * t.val + (y 0).val, by omega⟩ ⟨(y 1).val, hy1⟩) = _
  congr 1
  funext a; apply Fin.ext
  match a with
  | ⟨0, _⟩ => show 32 * t.val + (y 0).val = win0_14.index t 0 * 32 + 1 * (y 0).val; rw [e0]; omega
  | ⟨1, _⟩ => show (y 1).val = win0_14.index t 1 * 8192 + 1 * (y 1).val; rw [e1]; omega

theorem covered14 (i : S128x8192.Idx) : ∃ t : Fin cfg0.N, (cfg0.win 14).flush t = true ∧ i ∈ ((cfg0.win 14).blk t).view.set := by
  have h0 : (i 0).val < 128 := (i 0).isLt
  have h1 : (i 1).val < 8192 := (i 1).isLt
  have ht : (i 0).val / 32 < grid0.N := by show (i 0).val / 32 < 4; omega
  obtain ⟨-, -, e0, e1, hf⟩ := out_index_eq ⟨(i 0).val / 32, ht⟩
  refine ⟨⟨(i 0).val / 32, ht⟩, hf, ?_⟩
  show i ∈ ((View.whole main_v81_2).slice (win0_14.rect ⟨(i 0).val / 32, ht⟩)).set
  rw [View.set_slice_whole, Rect.mem_set_unit]
  intro a
  match a with
  | ⟨0, _⟩ => show win0_14.index _ (0 : Fin 2) * 32 ≤ (i 0).val ∧ (i 0).val < win0_14.index _ (0 : Fin 2) * 32 + 32; rw [e0]; dsimp only; omega
  | ⟨1, _⟩ => show win0_14.index _ (1 : Fin 2) * 8192 ≤ (i 1).val ∧ (i 1).val < win0_14.index _ (1 : Fin 2) * 8192 + 8192; rw [e1]; omega

/-- The run of the kernel: the three results, the arguments unchanged. -/
theorem run_decode (hre : ∀ c, RealArgs m c) : θ_run defs (onTc (τ := τ) (main (F := Ideal))) ⟨m, fun _ => 0, ρ⟩ fun r => ∀ c : Dev nD,
      r.2.mem ((c : Thread nD τ).loc main_v81_0) = outputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v81_1) = lastRe (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9))
      ∧ r.2.mem ((c : Thread nD τ).loc main_v81_2) = lastIm (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c =>
      ⟨(h c).1.trans ((dats m 0 c).arrAt_eq_of_cover 12 _ (fun t _ => written12_eq m c (hre c) t) covered12),
        (h c).2.1.trans ((dats m 0 c).arrAt_eq_of_cover 13 _ (fun t _ => written13_eq m c t) covered13),
        (h c).2.2.1.trans ((dats m 0 c).arrAt_eq_of_cover 14 _ (fun t _ => written14_eq m c t) covered14), (h c).2.2.2⟩)
    (run_blocks m ρ)

end Cert.KernelIdeal.Block

end
end
-- ==== Proof.DecodeRef.lean ====
/-
  THE S5 DECODE CALL, the reference: its 4 steps over all 128 sequences at once, read entry by entry, are the recurrence
  of DecodeSpec.  The reference adds a token's share before the product of the states, the kernel after it; it multiplies
  matrix entries with channels and states in the other order.
-/
module

public import proofs.«01_k».proof.Proof.DecodeSpec
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Block

open Cert.ReferenceIdeal Cert.ReferenceIdeal.Gen Cert.ReferenceIdeal.Read Cert.ReferenceIdeal.Facts Idealize.ShloMosaic Idealize.ShloMosaic.TcCoe Idealize.SL.Sem
open Cert.KernelIdeal.Block (next after fed stateAt outOf outputs lastRe lastIm)

/-! ## One step, as the reference writes it -/

/-- What the channels `x` add, through the matrices `b`. -/
def shareOf (b : Vec Ideal S128x64x16 .f32) (x : Vec Ideal S128x128x16 .f32) : Vec Ideal S128x128x64 .f32 :=
  Host.reduceAdd (mulf (broadcastInDim S128x128x64x16 ![0, 1, 2, 3] bcast_S1x128x64x16_S128x128x64x16_0_1_2_3 (broadcastInDim S1x128x64x16 ![1, 2, 3] bcast_S128x64x16_S1x128x64x16_1_2_3 b))
      (broadcastInDim S128x128x64x16 ![0, 1, 2, 3] bcast_S128x128x1x16_S128x128x64x16_0_1_2_3 (broadcastInDim S128x128x1x16 ![0, 1, 3] bcast_S128x128x16_S128x128x1x16_0_1_3 x)))
    (constant (F := Ideal) S_ .f32 0x00000000#32) reducesTo_S128x128x64x16_S128x128x64_d3 h_S_

/-- A coefficient for every sequence. -/
def spread (a : FVec Ideal S128x64 .f32) : FVec Ideal S128x128x64 .f32 :=
  broadcastInDim S128x128x64 ![0, 1, 2] bcast_S1x128x64_S128x128x64_0_1_2 (broadcastInDim S1x128x64 ![1, 2] bcast_S128x64_S1x128x64_1_2 a)

/-- The next states' real parts. -/
def realStep (a a' : Vec Ideal S128x64 .f32) (s h h' : FVec Ideal S128x128x64 .f32) : FVec Ideal S128x128x64 .f32 :=
  addf s (subf (mulf (spread a) h) (mulf (spread a') h'))

/-- Their imaginary parts. -/
def imagStep (a a' : Vec Ideal S128x64 .f32) (s h h' : FVec Ideal S128x128x64 .f32) : FVec Ideal S128x128x64 .f32 :=
  addf s (addf (mulf (spread a) h') (mulf (spread a') h))

/-- What the output matrices make of the states. -/
def outStep (c c' : FVec Ideal S128x16x64 .f32) (h h' : FVec Ideal S128x128x64 .f32) : FVec Ideal S128x128x16 .f32 :=
  subf (transpose S128x128x16 [2, 0, 1] (Host.dotGeneral dot_S128x16x64_S128x128x64_S128x16x128_2_2_1_0_0_1 none c h) transposes_S128x16x128_S128x128x16_2_0_1)
    (transpose S128x128x16 [2, 0, 1] (Host.dotGeneral dot_S128x16x64_S128x128x64_S128x16x128_2_2_1_0_0_1 none c' h') transposes_S128x16x128_S128x128x16_2_0_1)

theorem shareOf_apply (b : Vec Ideal S128x64x16 .f32) (x : Vec Ideal S128x128x16 .f32) (n g : Fin 128) (p : Fin 64) :
    shareOf b x (ix3 n g p) = ∑ k : Fin 16, (b (ix3 g p k) : EReal) * x (ix3 n g k) := by
  pointwise [shareOf]

theorem realStep_apply (a a' : Vec Ideal S128x64 .f32) (s h h' : Vec Ideal S128x128x64 .f32) (n g : Fin 128) (p : Fin 64) :
    realStep a a' s h h' (ix3 n g p) = s (ix3 n g p) + (a (ix2 g p) * h (ix3 n g p) - a' (ix2 g p) * h' (ix3 n g p)) := by
  pointwise [realStep, spread]

theorem imagStep_apply (a a' : Vec Ideal S128x64 .f32) (s h h' : Vec Ideal S128x128x64 .f32) (n g : Fin 128) (p : Fin 64) :
    imagStep a a' s h h' (ix3 n g p) = s (ix3 n g p) + (a (ix2 g p) * h' (ix3 n g p) + a' (ix2 g p) * h (ix3 n g p)) := by
  pointwise [imagStep, spread]

theorem outStep_apply (c c' : Vec Ideal S128x16x64 .f32) (h h' : Vec Ideal S128x128x64 .f32) (n g : Fin 128) (l : Fin 16) :
    outStep c c' h h' (ix3 n g l) = (∑ p : Fin 64, (c (ix3 g l p) : EReal) * h (ix3 n g p)) - ∑ p : Fin 64, (c' (ix3 g l p) : EReal) * h' (ix3 n g p) := by
  pointwise [outStep]

/-- One step on a pair of parts is one step of the recurrence. -/
theorem step_next {a a' : Vec Ideal S128x64 .f32} {s s' h h' : Vec Ideal S128x128x64 .f32} {n g : Fin 128} {p : Fin 64} {A H D : EReal × EReal}
    (ea : (a (ix2 g p), a' (ix2 g p)) = A) (es : (s (ix3 n g p), s' (ix3 n g p)) = D) (eh : (h (ix3 n g p), h' (ix3 n g p)) = H) :
    (realStep a a' s h h' (ix3 n g p), imagStep a a' s' h h' (ix3 n g p)) = next A H D := by
  rw [← ea, ← es, ← eh, realStep_apply, imagStep_apply]
  exact Prod.ext (add_comm _ _) (add_comm _ _)

/-! ## The arguments, as the steps take them -/

section Arguments

variable (u : Vec Ideal S8704x10240 .f32) (br bi : Vec Ideal S256x64x16 .f32) (cr ci : Vec Ideal S256x16x64 .f32) (ar ai : Vec Ideal S256x64 .f32)
  (d : Vec Ideal S2x2048 .f32) (hr hi : Vec Ideal S128x128x64 .f32)

/-- The rows by token, sequence, group and channel. -/
theorem rows_apply (t : Fin 4) (n : Fin 128) (g : Fin 128) (k : Fin 16) :
    val_main_v21 (F := Ideal) u (ix4 t n g k) = u (ix2 ⟨8192 + (n.val * 4 + t.val), by omega⟩ ⟨g.val * 16 + k.val, by omega⟩) := by
  pointwise [val_main_v21, val_main_v20, val_main_v19, val_main_v18]

/-- The first layer's input matrices. -/
theorem b_apply (b : Vec Ideal S256x64x16 .f32) (g : Fin 128) (p : Fin 64) (k : Fin 16) :
    val_main_v2 (F := Ideal) b (ix3 g p k) = b (ix3 ⟨g.val, by omega⟩ p k) := by
  pointwise [val_main_v2, val_main_v1, val_main_v0]

/-- Its output matrices. -/
theorem c_apply (c : Vec Ideal S256x16x64 .f32) (g : Fin 128) (l : Fin 16) (p : Fin 64) :
    val_main_v8 (F := Ideal) c (ix3 g l p) = c (ix3 ⟨g.val, by omega⟩ l p) := by
  pointwise [val_main_v8, val_main_v7, val_main_v6]

/-- Its coefficients. -/
theorem a_apply (a : Vec Ideal S256x64 .f32) (g : Fin 128) (p : Fin 64) : val_main_v14 (F := Ideal) a (ix2 g p) = a (ix2 ⟨g.val, by omega⟩ p) := by
  pointwise [val_main_v14, val_main_v13, val_main_v12]

/-- The channels of token 0. -/
theorem token0 (n g : Fin 128) (k : Fin 16) : val_main_v23 (F := Ideal) u (ix3 n g k) = val_main_v21 (F := Ideal) u (ix4 0 n g k) := by
  unfold val_main_v23 val_main_v22
  generalize val_main_v21 (F := Ideal) u = x
  pointwise

/-- The channels of token 1. -/
theorem token1 (n g : Fin 128) (k : Fin 16) : val_main_v60 (F := Ideal) u (ix3 n g k) = val_main_v21 (F := Ideal) u (ix4 1 n g k) := by
  unfold val_main_v60 val_main_v59
  generalize val_main_v21 (F := Ideal) u = x
  pointwise

/-- The channels of token 2. -/
theorem token2 (n g : Fin 128) (k : Fin 16) : val_main_v97 (F := Ideal) u (ix3 n g k) = val_main_v21 (F := Ideal) u (ix4 2 n g k) := by
  unfold val_main_v97 val_main_v96
  generalize val_main_v21 (F := Ideal) u = x
  pointwise

/-- The channels of token 3. -/
theorem token3 (n g : Fin 128) (k : Fin 16) : val_main_v134 (F := Ideal) u (ix3 n g k) = val_main_v21 (F := Ideal) u (ix4 3 n g k) := by
  unfold val_main_v134 val_main_v133
  generalize val_main_v21 (F := Ideal) u = x
  pointwise

/-- Real and imaginary parts are cut out of the arguments in the same way. -/
theorem b_same (b : Vec Ideal S256x64x16 .f32) : val_main_v5 (F := Ideal) b = val_main_v2 (F := Ideal) b := by
  unfold val_main_v5 val_main_v4 val_main_v3 val_main_v2 val_main_v1 val_main_v0
  rfl
theorem c_same (c : Vec Ideal S256x16x64 .f32) : val_main_v11 (F := Ideal) c = val_main_v8 (F := Ideal) c := by
  unfold val_main_v11 val_main_v10 val_main_v9 val_main_v8 val_main_v7 val_main_v6
  rfl
theorem a_same (a : Vec Ideal S256x64 .f32) : val_main_v17 (F := Ideal) a = val_main_v14 (F := Ideal) a := by
  unfold val_main_v17 val_main_v16 val_main_v15 val_main_v14 val_main_v13 val_main_v12
  rfl

/-- Where group `g`'s state `p` lies among the 8192. -/
def at_ (g : Fin 128) (p : Fin 64) : Fin 8192 := ⟨64 * g.val + p.val, by omega⟩

theorem share_eq (b : Vec Ideal S256x64x16 .f32) (x : Vec Ideal S128x128x16 .f32) (t : Fin 4)
    (e : ∀ n g k, x (ix3 n g k) = val_main_v21 (F := Ideal) u (ix4 t n g k)) (n g : Fin 128) (p : Fin 64) :
    shareOf (val_main_v2 (F := Ideal) b) x (ix3 n g p) = fed u b n t (at_ g p) := by
  rw [shareOf_apply]
  unfold fed
  refine Finset.sum_congr rfl fun k _ => ?_
  rw [e, rows_apply, b_apply]
  refine (mul_comm _ _).trans (congrArg₂ (fun a b : EReal => a * b) (congrArg u ?_) (congrArg b ?_))
  · funext a; apply Fin.ext
    match a with
    | ⟨0, _⟩ => show 8192 + (n.val * 4 + t.val) = 8192 + (4 * n.val + t.val); omega
    | ⟨1, _⟩ => show g.val * 16 + k.val = 16 * ((64 * g.val + p.val) / 64) + k.val; omega
  · funext a; apply Fin.ext
    match a with
    | ⟨0, _⟩ => show g.val = (64 * g.val + p.val) / 64; omega
    | ⟨1, _⟩ => show p.val = (64 * g.val + p.val) % 64; omega
    | ⟨2, _⟩ => rfl

theorem coef_eq (g : Fin 128) (p : Fin 64) : (val_main_v14 (F := Ideal) ar (ix2 g p), val_main_v14 (F := Ideal) ai (ix2 g p))
    = (ar (ix2 ⟨(at_ g p).val / 64, by omega⟩ ⟨(at_ g p).val % 64, by omega⟩), ai (ix2 ⟨(at_ g p).val / 64, by omega⟩ ⟨(at_ g p).val % 64, by omega⟩)) := by
  rw [a_apply, a_apply]
  have e : (ix2 ⟨g.val, by omega⟩ p : S256x64.Idx) = ix2 ⟨(at_ g p).val / 64, by omega⟩ ⟨(at_ g p).val % 64, by omega⟩ := by
    funext a; apply Fin.ext
    match a with
    | ⟨0, _⟩ => show g.val = (64 * g.val + p.val) / 64; omega
    | ⟨1, _⟩ => show p.val = (64 * g.val + p.val) % 64; omega
  rw [e]

theorem first_eq (n g : Fin 128) (p : Fin 64) : (hr (ix3 n g p), hi (ix3 n g p))
    = (hr (ix3 n ⟨(at_ g p).val / 64, by omega⟩ ⟨(at_ g p).val % 64, by omega⟩), hi (ix3 n ⟨(at_ g p).val / 64, by omega⟩ ⟨(at_ g p).val % 64, by omega⟩)) := by
  have e : (ix3 n g p : S128x128x64.Idx) = ix3 n ⟨(at_ g p).val / 64, by omega⟩ ⟨(at_ g p).val % 64, by omega⟩ := by
    funext a; apply Fin.ext
    match a with
    | ⟨0, _⟩ => rfl
    | ⟨1, _⟩ => show g.val = (64 * g.val + p.val) / 64; omega
    | ⟨2, _⟩ => show p.val = (64 * g.val + p.val) % 64; omega
  rw [e]

/-! ## The states -/

theorem re0_eq : val_main_v45 (F := Ideal) u br ar ai hr hi = realStep (val_main_v14 (F := Ideal) ar) (val_main_v14 (F := Ideal) ai) (shareOf (val_main_v2 (F := Ideal) br) (val_main_v23 (F := Ideal) u)) hr hi := by
  unfold val_main_v45 val_main_v44 val_main_v43 val_main_v42 val_main_v41 val_main_v40 val_main_v39 val_main_v38 val_main_v29 val_main_v28 val_main_v27 val_main_v26 val_main_v25 val_main_v24 val_main_cst realStep shareOf spread
  rw [a_same]

theorem im0_eq : val_main_v53 (F := Ideal) u bi ar ai hr hi = imagStep (val_main_v14 (F := Ideal) ar) (val_main_v14 (F := Ideal) ai) (shareOf (val_main_v2 (F := Ideal) bi) (val_main_v23 (F := Ideal) u)) hr hi := by
  have e : val_main_v31 (F := Ideal) u = val_main_v23 (F := Ideal) u := by
    unfold val_main_v31 val_main_v30 val_main_v23 val_main_v22
    rfl
  unfold val_main_v53 val_main_v52 val_main_v51 val_main_v50 val_main_v49 val_main_v48 val_main_v47 val_main_v46 val_main_v37 val_main_v36 val_main_v35 val_main_v34 val_main_v33 val_main_v32 val_main_cst_0 imagStep shareOf spread
  rw [a_same, b_same, e]

/-- The states after token 0. -/
theorem state0 (n g : Fin 128) (p : Fin 64) : (val_main_v45 (F := Ideal) u br ar ai hr hi (ix3 n g p), val_main_v53 (F := Ideal) u bi ar ai hr hi (ix3 n g p))
    = stateAt u br bi ar ai hr hi n 0 (at_ g p) := by
  rw [re0_eq, im0_eq]
  exact step_next (D := (fed u br n 0 (at_ g p), fed u bi n 0 (at_ g p))) (coef_eq ar ai g p)
    (Prod.ext (share_eq u br _ 0 (token0 u) n g p) (share_eq u bi _ 0 (token0 u) n g p)) (first_eq hr hi n g p)

theorem re1_eq : val_main_v82 (F := Ideal) u br bi ar ai hr hi = realStep (val_main_v14 (F := Ideal) ar) (val_main_v14 (F := Ideal) ai) (shareOf (val_main_v2 (F := Ideal) br) (val_main_v60 (F := Ideal) u)) (val_main_v45 (F := Ideal) u br ar ai hr hi) (val_main_v53 (F := Ideal) u bi ar ai hr hi) := by
  unfold val_main_v82 val_main_v81 val_main_v80 val_main_v79 val_main_v78 val_main_v77 val_main_v76 val_main_v75 val_main_v66 val_main_v65 val_main_v64 val_main_v63 val_main_v62 val_main_v61 val_main_cst_1 realStep shareOf spread
  rw [a_same]

theorem im1_eq : val_main_v90 (F := Ideal) u br bi ar ai hr hi = imagStep (val_main_v14 (F := Ideal) ar) (val_main_v14 (F := Ideal) ai) (shareOf (val_main_v2 (F := Ideal) bi) (val_main_v60 (F := Ideal) u)) (val_main_v45 (F := Ideal) u br ar ai hr hi) (val_main_v53 (F := Ideal) u bi ar ai hr hi) := by
  have e : val_main_v68 (F := Ideal) u = val_main_v60 (F := Ideal) u := by
    unfold val_main_v68 val_main_v67 val_main_v60 val_main_v59
    rfl
  unfold val_main_v90 val_main_v89 val_main_v88 val_main_v87 val_main_v86 val_main_v85 val_main_v84 val_main_v83 val_main_v74 val_main_v73 val_main_v72 val_main_v71 val_main_v70 val_main_v69 val_main_cst_2 imagStep shareOf spread
  rw [a_same, b_same, e]

/-- The states after token 1. -/
theorem state1 (n g : Fin 128) (p : Fin 64) : (val_main_v82 (F := Ideal) u br bi ar ai hr hi (ix3 n g p), val_main_v90 (F := Ideal) u br bi ar ai hr hi (ix3 n g p))
    = stateAt u br bi ar ai hr hi n 1 (at_ g p) := by
  rw [re1_eq, im1_eq]
  exact step_next (D := (fed u br n 1 (at_ g p), fed u bi n 1 (at_ g p))) (coef_eq ar ai g p)
    (Prod.ext (share_eq u br _ 1 (token1 u) n g p) (share_eq u bi _ 1 (token1 u) n g p)) (state0 u br bi ar ai hr hi n g p)

theorem re2_eq : val_main_v119 (F := Ideal) u br bi ar ai hr hi = realStep (val_main_v14 (F := Ideal) ar) (val_main_v14 (F := Ideal) ai) (shareOf (val_main_v2 (F := Ideal) br) (val_main_v97 (F := Ideal) u)) (val_main_v82 (F := Ideal) u br bi ar ai hr hi) (val_main_v90 (F := Ideal) u br bi ar ai hr hi) := by
  unfold val_main_v119 val_main_v118 val_main_v117 val_main_v116 val_main_v115 val_main_v114 val_main_v113 val_main_v112 val_main_v103 val_main_v102 val_main_v101 val_main_v100 val_main_v99 val_main_v98 val_main_cst_3 realStep shareOf spread
  rw [a_same]

theorem im2_eq : val_main_v127 (F := Ideal) u br bi ar ai hr hi = imagStep (val_main_v14 (F := Ideal) ar) (val_main_v14 (F := Ideal) ai) (shareOf (val_main_v2 (F := Ideal) bi) (val_main_v97 (F := Ideal) u)) (val_main_v82 (F := Ideal) u br bi ar ai hr hi) (val_main_v90 (F := Ideal) u br bi ar ai hr hi) := by
  have e : val_main_v105 (F := Ideal) u = val_main_v97 (F := Ideal) u := by
    unfold val_main_v105 val_main_v104 val_main_v97 val_main_v96
    rfl
  unfold val_main_v127 val_main_v126 val_main_v125 val_main_v124 val_main_v123 val_main_v122 val_main_v121 val_main_v120 val_main_v111 val_main_v110 val_main_v109 val_main_v108 val_main_v107 val_main_v106 val_main_cst_4 imagStep shareOf spread
  rw [a_same, b_same, e]

/-- The states after token 2. -/
theorem state2 (n g : Fin 128) (p : Fin 64) : (val_main_v119 (F := Ideal) u br bi ar ai hr hi (ix3 n g p), val_main_v127 (F := Ideal) u br bi ar ai hr hi (ix3 n g p))
    = stateAt u br bi ar ai hr hi n 2 (at_ g p) := by
  rw [re2_eq, im2_eq]
  exact step_next (D := (fed u br n 2 (at_ g p), fed u bi n 2 (at_ g p))) (coef_eq ar ai g p)
    (Prod.ext (share_eq u br _ 2 (token2 u) n g p) (share_eq u bi _ 2 (token2 u) n g p)) (state1 u br bi ar ai hr hi n g p)

theorem re3_eq : val_main_v156 (F := Ideal) u br bi ar ai hr hi = realStep (val_main_v14 (F := Ideal) ar) (val_main_v14 (F := Ideal) ai) (shareOf (val_main_v2 (F := Ideal) br) (val_main_v134 (F := Ideal) u)) (val_main_v119 (F := Ideal) u br bi ar ai hr hi) (val_main_v127 (F := Ideal) u br bi ar ai hr hi) := by
  unfold val_main_v156 val_main_v155 val_main_v154 val_main_v153 val_main_v152 val_main_v151 val_main_v150 val_main_v149 val_main_v140 val_main_v139 val_main_v138 val_main_v137 val_main_v136 val_main_v135 val_main_cst_5 realStep shareOf spread
  rw [a_same]

theorem im3_eq : val_main_v164 (F := Ideal) u br bi ar ai hr hi = imagStep (val_main_v14 (F := Ideal) ar) (val_main_v14 (F := Ideal) ai) (shareOf (val_main_v2 (F := Ideal) bi) (val_main_v134 (F := Ideal) u)) (val_main_v119 (F := Ideal) u br bi ar ai hr hi) (val_main_v127 (F := Ideal) u br bi ar ai hr hi) := by
  have e : val_main_v142 (F := Ideal) u = val_main_v134 (F := Ideal) u := by
    unfold val_main_v142 val_main_v141 val_main_v134 val_main_v133
    rfl
  unfold val_main_v164 val_main_v163 val_main_v162 val_main_v161 val_main_v160 val_main_v159 val_main_v158 val_main_v157 val_main_v148 val_main_v147 val_main_v146 val_main_v145 val_main_v144 val_main_v143 val_main_cst_6 imagStep shareOf spread
  rw [a_same, b_same, e]

/-- The states after token 3. -/
theorem state3 (n g : Fin 128) (p : Fin 64) : (val_main_v156 (F := Ideal) u br bi ar ai hr hi (ix3 n g p), val_main_v164 (F := Ideal) u br bi ar ai hr hi (ix3 n g p))
    = stateAt u br bi ar ai hr hi n 3 (at_ g p) := by
  rw [re3_eq, im3_eq]
  exact step_next (D := (fed u br n 3 (at_ g p), fed u bi n 3 (at_ g p))) (coef_eq ar ai g p)
    (Prod.ext (share_eq u br _ 3 (token3 u) n g p) (share_eq u bi _ 3 (token3 u) n g p)) (state2 u br bi ar ai hr hi n g p)

/-! ## The outputs -/

/-- What the output matrices make of states that are the recurrence's. -/
theorem out_of (h h' : Vec Ideal S128x128x64 .f32) (t : Fin 4) (e : ∀ n g p, (h (ix3 n g p), h' (ix3 n g p)) = stateAt u br bi ar ai hr hi n t (at_ g p))
    (n g : Fin 128) (l : Fin 16) : outStep (val_main_v8 (F := Ideal) cr) (val_main_v8 (F := Ideal) ci) h h' (ix3 n g l)
      = outOf u br bi cr ci ar ai hr hi n t ⟨16 * g.val + l.val, by omega⟩ := by
  rw [outStep_apply]
  unfold outOf
  have ej : ∀ p : Fin 64, (⟨64 * ((16 * g.val + l.val) / 16) + p.val, by omega⟩ : Fin 8192) = at_ g p := fun p =>
    Fin.ext (by show 64 * ((16 * g.val + l.val) / 16) + p.val = 64 * g.val + p.val; omega)
  have ei : ∀ p : Fin 64, (ix3 ⟨g.val, by omega⟩ l p : S256x16x64.Idx) = ix3 ⟨(16 * g.val + l.val) / 16, by omega⟩ ⟨(16 * g.val + l.val) % 16, by omega⟩ p := by
    intro p
    funext a; apply Fin.ext
    match a with
    | ⟨0, _⟩ => show g.val = (16 * g.val + l.val) / 16; omega
    | ⟨1, _⟩ => show l.val = (16 * g.val + l.val) % 16; omega
    | ⟨2, _⟩ => rfl
  refine congrArg₂ (fun a b : EReal => a - b) (Finset.sum_congr rfl fun p _ => ?_) (Finset.sum_congr rfl fun p _ => ?_)
  · rw [c_apply, ei p, ej p, ← e n g p]
    exact mul_comm _ _
  · rw [c_apply, ei p, ej p, ← e n g p]
    exact mul_comm _ _

theorem out0 (n g : Fin 128) (l : Fin 16) : val_main_v58 (F := Ideal) u br bi cr ci ar ai hr hi (ix3 n g l) = outOf u br bi cr ci ar ai hr hi n 0 ⟨16 * g.val + l.val, by omega⟩ := by
  have e : val_main_v58 (F := Ideal) u br bi cr ci ar ai hr hi = outStep (val_main_v8 (F := Ideal) cr) (val_main_v8 (F := Ideal) ci) (val_main_v45 (F := Ideal) u br ar ai hr hi) (val_main_v53 (F := Ideal) u bi ar ai hr hi) := by
    unfold val_main_v58 val_main_v57 val_main_v56 val_main_v55 val_main_v54 outStep
    rw [c_same]
  rw [e]
  exact out_of u br bi cr ci ar ai hr hi _ _ 0 (state0 u br bi ar ai hr hi) n g l

theorem out1 (n g : Fin 128) (l : Fin 16) : val_main_v95 (F := Ideal) u br bi cr ci ar ai hr hi (ix3 n g l) = outOf u br bi cr ci ar ai hr hi n 1 ⟨16 * g.val + l.val, by omega⟩ := by
  have e : val_main_v95 (F := Ideal) u br bi cr ci ar ai hr hi = outStep (val_main_v8 (F := Ideal) cr) (val_main_v8 (F := Ideal) ci) (val_main_v82 (F := Ideal) u br bi ar ai hr hi) (val_main_v90 (F := Ideal) u br bi ar ai hr hi) := by
    unfold val_main_v95 val_main_v94 val_main_v93 val_main_v92 val_main_v91 outStep
    rw [c_same]
  rw [e]
  exact out_of u br bi cr ci ar ai hr hi _ _ 1 (state1 u br bi ar ai hr hi) n g l

theorem out2 (n g : Fin 128) (l : Fin 16) : val_main_v132 (F := Ideal) u br bi cr ci ar ai hr hi (ix3 n g l) = outOf u br bi cr ci ar ai hr hi n 2 ⟨16 * g.val + l.val, by omega⟩ := by
  have e : val_main_v132 (F := Ideal) u br bi cr ci ar ai hr hi = outStep (val_main_v8 (F := Ideal) cr) (val_main_v8 (F := Ideal) ci) (val_main_v119 (F := Ideal) u br bi ar ai hr hi) (val_main_v127 (F := Ideal) u br bi ar ai hr hi) := by
    unfold val_main_v132 val_main_v131 val_main_v130 val_main_v129 val_main_v128 outStep
    rw [c_same]
  rw [e]
  exact out_of u br bi cr ci ar ai hr hi _ _ 2 (state2 u br bi ar ai hr hi) n g l

theorem out3 (n g : Fin 128) (l : Fin 16) : val_main_v169 (F := Ideal) u br bi cr ci ar ai hr hi (ix3 n g l) = outOf u br bi cr ci ar ai hr hi n 3 ⟨16 * g.val + l.val, by omega⟩ := by
  have e : val_main_v169 (F := Ideal) u br bi cr ci ar ai hr hi = outStep (val_main_v8 (F := Ideal) cr) (val_main_v8 (F := Ideal) ci) (val_main_v156 (F := Ideal) u br bi ar ai hr hi) (val_main_v164 (F := Ideal) u br bi ar ai hr hi) := by
    unfold val_main_v169 val_main_v168 val_main_v167 val_main_v166 val_main_v165 outStep
    rw [c_same]
  rw [e]
  exact out_of u br bi cr ci ar ai hr hi _ _ 3 (state3 u br bi ar ai hr hi) n g l

/-- The stack of the 4 tokens' outputs. -/
theorem stack_apply (n : Fin 128) (t : Fin 4) (g : Fin 128) (l : Fin 16) :
    val_main_v174 (F := Ideal) u br bi cr ci ar ai hr hi (ix4 n t g l) = outOf u br bi cr ci ar ai hr hi n t ⟨16 * g.val + l.val, by omega⟩ := by
  match t with
  | ⟨0, _⟩ =>
    refine Eq.trans ?_ (out0 u br bi cr ci ar ai hr hi n g l)
    unfold val_main_v174 val_main_v170 val_main_v171 val_main_v172 val_main_v173
    generalize val_main_v58 (F := Ideal) u br bi cr ci ar ai hr hi = y0
    generalize val_main_v95 (F := Ideal) u br bi cr ci ar ai hr hi = y1
    generalize val_main_v132 (F := Ideal) u br bi cr ci ar ai hr hi = y2
    generalize val_main_v169 (F := Ideal) u br bi cr ci ar ai hr hi = y3
    pointwise
  | ⟨1, _⟩ =>
    refine Eq.trans ?_ (out1 u br bi cr ci ar ai hr hi n g l)
    unfold val_main_v174 val_main_v170 val_main_v171 val_main_v172 val_main_v173
    generalize val_main_v58 (F := Ideal) u br bi cr ci ar ai hr hi = y0
    generalize val_main_v95 (F := Ideal) u br bi cr ci ar ai hr hi = y1
    generalize val_main_v132 (F := Ideal) u br bi cr ci ar ai hr hi = y2
    generalize val_main_v169 (F := Ideal) u br bi cr ci ar ai hr hi = y3
    pointwise
  | ⟨2, _⟩ =>
    refine Eq.trans ?_ (out2 u br bi cr ci ar ai hr hi n g l)
    unfold val_main_v174 val_main_v170 val_main_v171 val_main_v172 val_main_v173
    generalize val_main_v58 (F := Ideal) u br bi cr ci ar ai hr hi = y0
    generalize val_main_v95 (F := Ideal) u br bi cr ci ar ai hr hi = y1
    generalize val_main_v132 (F := Ideal) u br bi cr ci ar ai hr hi = y2
    generalize val_main_v169 (F := Ideal) u br bi cr ci ar ai hr hi = y3
    pointwise
  | ⟨3, _⟩ =>
    refine Eq.trans ?_ (out3 u br bi cr ci ar ai hr hi n g l)
    unfold val_main_v174 val_main_v170 val_main_v171 val_main_v172 val_main_v173
    generalize val_main_v58 (F := Ideal) u br bi cr ci ar ai hr hi = y0
    generalize val_main_v95 (F := Ideal) u br bi cr ci ar ai hr hi = y1
    generalize val_main_v132 (F := Ideal) u br bi cr ci ar ai hr hi = y2
    generalize val_main_v169 (F := Ideal) u br bi cr ci ar ai hr hi = y3
    pointwise

/-- The returned rows. -/
theorem outputs_eq : val_main_v182 (F := Ideal) u br bi cr ci ar ai d hr hi = outputs u br bi cr ci ar ai d hr hi := by
  suffices h : ∀ (i : Fin 512) (l : Fin 2048), val_main_v182 (F := Ideal) u br bi cr ci ar ai d hr hi (ix2 i l) = outputs u br bi cr ci ar ai d hr hi (ix2 i l) by
    funext i
    rw [eq_ix2 i]
    exact h _ _
  intro i l
  have e : val_main_v182 (F := Ideal) u br bi cr ci ar ai d hr hi (ix2 i l)
      = val_main_v174 (F := Ideal) u br bi cr ci ar ai hr hi (ix4 ⟨i.val / 4, by omega⟩ ⟨i.val % 4, by omega⟩ ⟨l.val / 16, by omega⟩ ⟨l.val % 16, by omega⟩)
        + d (ix2 0 l) * u (ix2 ⟨8192 + i.val, by omega⟩ ⟨l.val, by omega⟩) := by
    unfold val_main_v182 val_main_v181 val_main_v175 val_main_v180 val_main_v179 val_main_v178 val_main_v177 val_main_v176 val_main_v19 val_main_v18
    generalize val_main_v174 (F := Ideal) u br bi cr ci ar ai hr hi = y
    pointwise
  rw [e, stack_apply]
  show _ = outOf u br bi cr ci ar ai hr hi ⟨i.val / 4, _⟩ ⟨i.val % 4, _⟩ l + d (ix2 0 l) * u (ix2 ⟨8192 + i.val, _⟩ ⟨l.val, _⟩)
  refine congrArg₂ (fun a b : EReal => a + b) ?_ rfl
  exact congrArg (fun l => outOf u br bi cr ci ar ai hr hi _ _ l) (Fin.ext (by show 16 * (l.val / 16) + l.val % 16 = l.val; omega))

/-- Index `j` among the 8192 states, from its group and state. -/
theorem at_split (j : Fin 8192) : at_ ⟨j.val / 64, by omega⟩ ⟨j.val % 64, by omega⟩ = j :=
  Fin.ext (by show 64 * (j.val / 64) + j.val % 64 = j.val; omega)

/-- The last states' real parts. -/
theorem lastRe_eq : val_main_v183 (F := Ideal) u br bi ar ai hr hi = lastRe u br bi ar ai hr hi := by
  suffices h : ∀ (n : Fin 128) (j : Fin 8192), val_main_v183 (F := Ideal) u br bi ar ai hr hi (ix2 n j) = lastRe u br bi ar ai hr hi (ix2 n j) by
    funext i
    rw [eq_ix2 i]
    exact h _ _
  intro n j
  have e : val_main_v183 (F := Ideal) u br bi ar ai hr hi (ix2 n j) = val_main_v156 (F := Ideal) u br bi ar ai hr hi (ix3 n ⟨j.val / 64, by omega⟩ ⟨j.val % 64, by omega⟩) := by
    unfold val_main_v183
    generalize val_main_v156 (F := Ideal) u br bi ar ai hr hi = y
    pointwise
  refine e.trans ((congrArg (fun x => x.1) (state3 u br bi ar ai hr hi n ⟨j.val / 64, by omega⟩ ⟨j.val % 64, by omega⟩)).trans ?_)
  rw [at_split]
  rfl

/-- Their imaginary parts. -/
theorem lastIm_eq : val_main_v184 (F := Ideal) u br bi ar ai hr hi = lastIm u br bi ar ai hr hi := by
  suffices h : ∀ (n : Fin 128) (j : Fin 8192), val_main_v184 (F := Ideal) u br bi ar ai hr hi (ix2 n j) = lastIm u br bi ar ai hr hi (ix2 n j) by
    funext i
    rw [eq_ix2 i]
    exact h _ _
  intro n j
  have e : val_main_v184 (F := Ideal) u br bi ar ai hr hi (ix2 n j) = val_main_v164 (F := Ideal) u br bi ar ai hr hi (ix3 n ⟨j.val / 64, by omega⟩ ⟨j.val % 64, by omega⟩) := by
    unfold val_main_v184
    generalize val_main_v164 (F := Ideal) u br bi ar ai hr hi = y
    pointwise
  refine e.trans ((congrArg (fun x => x.2) (state3 u br bi ar ai hr hi n ⟨j.val / 64, by omega⟩ ⟨j.val % 64, by omega⟩)).trans ?_)
  rw [at_split]
  rfl

end Arguments

end Cert.ReferenceIdeal.Block

end
end
-- ==== Proof.DecodeValue.lean ====
/-
  THE S5 DECODE CALL.  A grid point holds 32 sequences: it steps their 8192 complex states over 4 tokens, the matrices of
  16 groups at a time as the diagonal blocks of one, and returns the output rows and the last states.  The reference
  steps all 128 sequences at once, group by group.  The kernel splits its output rows into a rounded part and a rest
  before it permutes them; over the extended reals the rest is zero as long as the rows are real, which real arguments
  give: that is what the precondition is for.
-/
module

public import proofs.«01_k».proof.Defs
public import proofs.«01_k».proof.Proof.DecodeArrays
public import proofs.«01_k».proof.Proof.DecodeRef

@[expose] public section

set_option maxRecDepth 16384

noncomputable section

namespace Cert.KernelIdeal.Block

open Idealize.ShloMosaic

/-- An extended real whose absolute value is below infinity is real. -/
theorem real_of_abs_lt {x : EReal} (h : max x (-x) < ⊤) : IsReal x := by
  induction x using EReal.rec with
  | bot => simp at h
  | coe r => exact ⟨r, rfl⟩
  | top => simp at h

/-- What the precondition says of one argument. -/
theorem real_of_finite {S : Shape} (b : Shape.BroadcastsInDim ⟨0, ![]⟩ S (![] : Fin 0 → Fin S.rank)) (x : FVec Ideal S .f32)
    (h : cmpf .olt (Host.absf x) (broadcastInDim S ![] b (constant (F := Ideal) ⟨0, ![]⟩ .f32 0x7F800000#32)) = fun _ => 1#1) : ∀ i, IsReal (x i) := by
  intro i
  have hi := congrFun h i
  have e : Ideal.ofBits .f32 0x7F800000#32 = (⊤ : EReal) := by simp [Ideal.ofBits, Ideal.ieee]
  have hc : Ideal.cmp .olt (max (x i) (-x i)) (Ideal.ofBits .f32 0x7F800000#32) = 1#1 := hi
  rw [e] at hc
  refine real_of_abs_lt ?_
  by_contra hn
  simp [Ideal.cmp, hn] at hc

end Cert.KernelIdeal.Block

namespace Cert.Proof

open Idealize.ShloMosaic Idealize.ShloMosaic.TcCoe Idealize.SL.Sem

/-- The precondition's broadcasts are of the shapes they say. -/
theorem finite_facts : Cert.Pre_finite_arguments.Facts where
  bcast_S_S8704x10240 := by decide
  bcast_S_S256x64x16 := by decide
  bcast_S_S256x16x64 := by decide
  bcast_S_S256x64 := by decide
  bcast_S_S128x128x64 := by decide

/-- The precondition makes the arguments real. -/
theorem realArgs_of_finite (m : (ℓ : Loc Cert.KernelIdeal.nD Cert.KernelIdeal.τ Cert.KernelIdeal.sig) → Buf (Elt Ideal) ℓ)
    (h : Cert.Pre_KernelIdeal_finite_arguments (hPre_finite_arguments := finite_facts) m) (c : Dev Cert.KernelIdeal.nD) :
    Cert.KernelIdeal.Block.RealArgs m c := by
  obtain ⟨h0, h1, h2, h3, h4, h5, h6, h8, h9⟩ := h c
  exact ⟨Cert.KernelIdeal.Block.real_of_finite _ _ h0, Cert.KernelIdeal.Block.real_of_finite _ _ h1, Cert.KernelIdeal.Block.real_of_finite _ _ h2,
    Cert.KernelIdeal.Block.real_of_finite _ _ h3, Cert.KernelIdeal.Block.real_of_finite _ _ h4, Cert.KernelIdeal.Block.real_of_finite _ _ h5,
    Cert.KernelIdeal.Block.real_of_finite _ _ h6, Cert.KernelIdeal.Block.real_of_finite _ _ h8, Cert.KernelIdeal.Block.real_of_finite _ _ h9⟩

/-- With finite arguments, the decode kernel computes the recurrence: the output rows and the last states. -/
theorem s5Decode_algebraic : Cert.algebraic_KernelIdeal_ReferenceIdeal_pre_finite_arguments (hKernelIdeal := Cert.KernelIdeal.Gen.facts)
    (hReferenceIdeal := Cert.ReferenceIdeal.Gen.facts) (hPre_finite_arguments := finite_facts) :=
  fun m ρ m' ρ' hpre hag =>
    ⟨_, _, _, Cert.KernelIdeal.Block.run_decode m ρ (realArgs_of_finite m hpre),
      (θ_run _ _ _).mono (fun _ h c => by
        obtain ⟨a0, a1, a2, a3, a4, a5, a6, a7, a8, a9⟩ := hag c
        obtain ⟨h0, h1, h2, hk⟩ := h c
        exact ⟨h0.trans ((Cert.ReferenceIdeal.Block.outputs_eq (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9))).trans (by rw [a0, a1, a2, a3, a4, a5, a6, a7, a8, a9])),
          h1.trans ((Cert.ReferenceIdeal.Block.lastRe_eq (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg5)) (m' (c.tc.loc Cert.ReferenceIdeal.main_arg6)) (m' (c.tc.loc Cert.ReferenceIdeal.main_arg8)) (m' (c.tc.loc Cert.ReferenceIdeal.main_arg9))).trans (by rw [a0, a1, a2, a5, a6, a8, a9])),
          h2.trans ((Cert.ReferenceIdeal.Block.lastIm_eq (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg5)) (m' (c.tc.loc Cert.ReferenceIdeal.main_arg6)) (m' (c.tc.loc Cert.ReferenceIdeal.main_arg8)) (m' (c.tc.loc Cert.ReferenceIdeal.main_arg9))).trans (by rw [a0, a1, a2, a5, a6, a8, a9])), hk⟩)
        (Cert.ReferenceIdeal.Value.run m' ρ')⟩

end Cert.Proof

end

end
-- ==== Proof.InProjBlock.lean ====
/-
  WHAT ONE GRID POINT OF `in_proj` LEAVES BEHIND, as values.  The grid is 5 column blocks by 17 row blocks; the row
  index moves fastest.  At the first row block of a column block the body keeps the weight block in its scratch; at
  every point it multiplies the row block of `xn` with the kept weight block.
-/
module

public import proofs.«01_k».proof.Proof.Gen.InProjIdeal.Value
public import Idealize.ShloMosaic.Lib.Pipeline.Value
public import Idealize.ShloMosaic.Lib.Pointwise
public import Idealize.ShloMosaic.Lib.StableHlo.Run
public import Idealize.ShloMosaic.Lib.Tactic

@[expose] public section

set_option maxRecDepth 16384

noncomputable section

namespace Cert.InProjIdeal.Block

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The first row block: the output block is the product with the weight block just fetched. -/
theorem out_A (c : Dev nD) (i : grid0.Coords) (a2 : Memref sig .tc .vmem S512x2048 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S2048x2048 .bf16) (h5 : a5.IsWhole) (hc : cond0_0 i)
    (x : Vec Ideal S512x2048 .bf16) (w : Vec Ideal S1x2048x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero zero2, View.readCov_unit_zero (S := S2048x2048) _ zero2]
  simp only [View.readAt_eq_ld, h2.read_unread, h3.read_unread, View.ld_unit_zero (S := S512x2048) zero2,
    View.ld_unit_zero (S := S1x2048x2048) zero3]

/-- The first row block: the scratch is left holding the weight block. -/
theorem scratch_A (c : Dev nD) (i : grid0.Coords) (a2 : Memref sig .tc .vmem S512x2048 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S2048x2048 .bf16) (h5 : a5.IsWhole) (hc : cond0_0 i)
    (x : Vec Ideal S512x2048 .bf16) (w : Vec Ideal S1x2048x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero zero2]
  simp only [View.readAt_eq_ld, h3.read_unread, View.ld_unit_zero (S := S1x2048x2048) zero3]

/-- Every other row block: the output block is the product with the weight block kept in the scratch. -/
theorem out_B (c : Dev nD) (i : grid0.Coords) (a2 : Memref sig .tc .vmem S512x2048 .bf16) (h2 : a2.IsWhole)
    (a3 : Memref sig .tc .vmem S1x2048x2048 .f32) (h3 : a3.IsWhole) (a4 : Memref sig .tc .vmem S512x2048 .f32) (h4 : a4.IsWhole)
    (a5 : Memref sig .tc .vmem S2048x2048 .bf16) (h5 : a5.IsWhole) (hc : ¬cond0_0 i)
    (x : Vec Ideal S512x2048 .bf16) (w : Vec Ideal S1x2048x2048 .f32) (s : Vec Ideal S2048x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero zero2]
  simp only [View.readAt_eq_ld, h2.read_unread, h5.read_unread, View.ld_unit_zero (S := S512x2048) zero2,
    View.ld_unit_zero (S := S2048x2048) zero2]

/-- One entry of the product of a row block with a (transposed) weight block. -/
theorem product_apply (x : Vec Ideal S512x2048 .bf16) (s : Vec Ideal S2048x2048 .bf16) (r : Fin 512) (l : Fin 2048) :
    k0_pay2 x s (ix2 r l) = ∑ k : Fin 2048, x (ix2 r k) * s (ix2 l k) := by
  pointwise [k0_pay2]

/-- The kept weight block is the fetched one. -/
theorem kept_apply (w : Vec Ideal S1x2048x2048 .f32) (l k : Fin 2048) :
    k0_pay1 w (ix2 l k) = w (ix3 0 l k) := by
  pointwise [k0_pay1]

/-! ## The blocks the grid reads -/

/-- The row block and the column block of a grid point. -/
theorem index_eq : ∀ t : Fin cfg0.N, win0_0.index t (0 : Fin 2) = t.val % 17 ∧ win0_0.index t (1 : Fin 2) = 0
    ∧ win0_1.index t (0 : Fin 3) = 0 ∧ win0_1.index t (1 : Fin 3) = t.val / 17 ∧ win0_1.index t (2 : Fin 3) = 0 :=
  (by decide +kernel : ∀ t : Fin grid0.N, _)

/-- The weights as the region finds them: each layer's matrix transposed. -/
theorem weights_eq (c : Dev nD) (a : Fin 2) (l : Fin 10272) (k : Fin 2048) :
    (V m c main_v0 : Vec Ideal S2x10272x2048 .f32) (ix3 a l k) = (m ((c : Thread nD τ).loc main_arg1) : Vec Ideal S2x2048x10272 .f32) (ix3 a k l) := by
  have e : V m c main_v0 = transpose S2x10272x2048 [0, 2, 1] (m ((c : Thread nD τ).loc main_arg1)) transposes_S2x2048x10272_S2x10272x2048_0_2_1 := by
    unfold_abbrev_sides
    after_results
  rw [e]
  pointwise

/-- The row block of `xn` at a point. -/
theorem rows_eq (c : Dev nD) (t : Fin cfg0.N) (r : Fin 512) (k : Fin 2048) (hr : t.val % 17 * 512 + r.val < 8704) :
    (iblk m c 0 t : Vec Ideal S512x2048 .bf16) (ix2 r k)
      = (m ((c : Thread nD τ).loc main_arg0) : Vec Ideal S8704x2048 .bf16) (ix2 ⟨t.val % 17 * 512 + r.val, hr⟩ k) := by
  obtain ⟨e0, e1, -⟩ := index_eq t
  unfold iblk
  rw [View.read_apply]
  show V m c main_arg0 _ = _
  rw [V_main_arg0]
  congr 1
  funext a
  apply Fin.ext
  match a with
  | ⟨0, _⟩ => show win0_0.index t 0 * 512 + 1 * r.val = t.val % 17 * 512 + r.val; rw [e0]; omega
  | ⟨1, _⟩ => show win0_0.index t 1 * 2048 + 1 * k.val = k.val; rw [e1]; omega

/-- The weight block at a point. -/
theorem cols_eq (c : Dev nD) (t : Fin cfg0.N) (l k : Fin 2048) (hl : t.val / 17 * 2048 + l.val < 10272) :
    (X0_1 m c t : Vec Ideal S1x2048x2048 .f32) (ix3 0 l k)
      = (m ((c : Thread nD τ).loc main_arg1) : Vec Ideal S2x2048x10272 .f32) (ix3 0 k ⟨t.val / 17 * 2048 + l.val, hl⟩) := by
  obtain ⟨-, -, e0, e1, e2⟩ := index_eq t
  rw [← weights_eq m c 0 ⟨t.val / 17 * 2048 + l.val, hl⟩ k]
  unfold X0_1 Pipeline.Window.fill
  rw [dif_pos (moved0_1 t _)]
  unfold iblk
  rw [View.read_apply]
  show V m c main_v0 _ = V m c main_v0 _
  congr 1
  funext a
  apply Fin.ext
  match a with
  | ⟨0, _⟩ => show win0_1.index t 0 * 1 + 1 * 0 = 0; rw [e0]
  | ⟨1, _⟩ => show win0_1.index t 1 * 2048 + 1 * l.val = t.val / 17 * 2048 + l.val; rw [e1]; omega
  | ⟨2, _⟩ => show win0_1.index t 2 * 2048 + 1 * k.val = k.val; rw [e2]; omega

end Cert.InProjIdeal.Block

end

end
-- ==== Proof.InProjValue.lean ====
/-
  THE PROJECTION `in_proj`, read as one matrix product.  The scratch holds, after every grid point, the weight block of
  the point's column block; so every written block is a block of `xn · w`, and the blocks fill the array.  The plain
  product of the reference is the same sum over the 2048 features.
-/
module

public import proofs.«01_k».proof.Defs
public import proofs.«01_k».proof.Proof.InProjBlock
public import proofs.«01_k».proof.Proof.Gen.InProjRefIdeal.Run
public import proofs.«01_k».proof.Proof.Gen.InProjRefIdeal.Read

@[expose] public section

set_option maxRecDepth 16384

noncomputable section

namespace Cert.InProjIdeal.Block

open Cert.InProjIdeal Cert.InProjIdeal.Gen Cert.InProjIdeal.Value Idealize.ShloMosaic Idealize.ShloMosaic.TcCoe Idealize.SL.Sem
open Idealize.ShloMosaic.Pipeline (Dat)

/-- The product: row `r` of `xn` with column `q` of the layer's input weights. -/
def product (xn : Vec Ideal S8704x2048 .bf16) (w : Vec Ideal S2x2048x10272 .f32) : Vec Ideal S8704x10240 .f32 :=
  fun i => ∑ k : Fin 2048, xn (ix2 (i 0) k) * w (ix3 0 k ⟨(i 1).val, by have h : (i 1).val < 10240 := (i 1).isLt; show (i 1).val < 10272; omega⟩)

variable (m : (ℓ : Loc nD τ sig) → Buf (Elt Ideal) ℓ) (ρ : Dev nD → PrngReg)

/-- The scratch after point `n` holds the weight block of the column block `n / 17`, whatever the row block. -/
theorem scratch_eq (c : Dev nD) : ∀ (n : ℕ) (h : n < cfg0.N) (l k : Fin 2048) (hl : n / 17 * 2048 + l.val < 10272),
    (outsAt0 m c n h).2 (ix2 l k)
      = (m ((c : Thread nD τ).loc main_arg1) : Vec Ideal S2x2048x10272 .f32) (ix3 0 k ⟨n / 17 * 2048 + l.val, hl⟩) := by
  intro n
  induction n with
  | zero =>
    intro h l k hl
    rw [outsAt0_A m c ⟨0, h⟩ (Nat.zero_mod _)]
    dsimp only
    rw [scratch_A, kept_apply]
    exact cols_eq m c ⟨0, h⟩ l k hl
  | succ n ih =>
    intro h l k hl
    by_cases h0 : (n + 1) % 17 = 0
    · rw [outsAt0_A m c ⟨n + 1, h⟩ h0]
      dsimp only
      rw [scratch_A, kept_apply]
      exact cols_eq m c ⟨n + 1, h⟩ l k hl
    · rw [outsAt0_B m c ⟨n + 1, h⟩ h0]
      dsimp only
      unfold sout0_B_0
      have hd : (n + 1) / 17 = n / 17 := by omega
      have := ih (Nat.lt_of_succ_lt h) l k (by rw [← hd]; exact hl)
      simp only [hd]
      exact this

/-- What point `t` leaves in the output block: its row block of `xn` times its column block of the weights. -/
theorem block_eq (c : Dev nD) (t : Fin cfg0.N) (r : Fin 512) (l : Fin 2048)
    (hr : t.val % 17 * 512 + r.val < 8704) (hl : t.val / 17 * 2048 + l.val < 10240) :
    (outsAt0 m c t.val t.isLt).1 (ix2 r l)
      = product (m ((c : Thread nD τ).loc main_arg0)) (m ((c : Thread nD τ).loc main_arg1))
          (ix2 ⟨t.val % 17 * 512 + r.val, hr⟩ ⟨t.val / 17 * 2048 + l.val, hl⟩) := by
  unfold product
  have hl' : t.val / 17 * 2048 + l.val < 10272 := by omega
  by_cases h0 : t.val % 17 = 0
  · rw [outsAt0_A m c t h0]
    dsimp only
    rw [out_A, product_apply]
    refine Finset.sum_congr rfl fun k _ => ?_
    rw [kept_apply, rows_eq m c t r k hr, cols_eq m c t l k hl']
    rfl
  · rw [outsAt0_B m c t h0]
    dsimp only
    rw [out_B, product_apply]
    refine Finset.sum_congr rfl fun k _ => ?_
    have hd : (t.val - 1) / 17 = t.val / 17 := by omega
    have e := scratch_eq m c (t.val - 1) (Nat.lt_of_le_of_lt (Nat.sub_le _ _) t.isLt) l k (by rw [hd]; exact hl')
    rw [rows_eq m c t r k hr, e]
    simp only [hd]
    rfl

/-- The block a point writes out is a block of the product. -/
theorem written_eq (c : Dev nD) (t : Fin cfg0.N) (hf : (cfg0.win 2).flush t = true) :
    (dats m 0 c).flushed 2 t = ((cfg0.win 2).blk t).view.read (Elt Ideal)
      (product (m ((c : Thread nD τ).loc main_arg0)) (m ((c : Thread nD τ).loc main_arg1)) : Buf (Elt Ideal) ((c : Thread nD τ).loc main_v1)) := by
  have hN : t.val < 85 := lt_of_lt_of_eq t.isLt N_0
  obtain ⟨e0, e1⟩ := (by decide +kernel : ∀ t : Fin grid0.N, win0_2.index t (0 : Fin 2) = t.val % 17 ∧ win0_2.index t (1 : Fin 2) = t.val / 17) t
  rw [flushed2]
  funext y
  rw [View.read_apply]
  have hy0 : (y 0).val < 512 := (y 0).isLt
  have hy1 : (y 1).val < 2048 := (y 1).isLt
  have h0 : (((cfg0.win 2).blk t).view.emb y 0).val = t.val % 17 * 512 + (y 0).val := by
    show win0_2.index t 0 * 512 + 1 * (y 0).val = _; rw [e0]; omega
  have h1 : (((cfg0.win 2).blk t).view.emb y 1).val = t.val / 17 * 2048 + (y 1).val := by
    show win0_2.index t 1 * 2048 + 1 * (y 1).val = _; rw [e1]; omega
  have hl : (cfg0.win 2).xinj (grid0.coords t) y = ix2 ⟨(y 0).val, hy0⟩ ⟨(y 1).val, hy1⟩ := by
    funext a; apply Fin.ext
    match a with
    | ⟨0, _⟩ => rfl
    | ⟨1, _⟩ => rfl
  show (outsAt0 m c t.val t.isLt).1 ((cfg0.win 2).xinj (grid0.coords t) y) = product _ _ (((cfg0.win 2).blk t).view.emb y)
  rw [hl, block_eq m c t ⟨(y 0).val, hy0⟩ ⟨(y 1).val, hy1⟩ (by dsimp only; omega) (by dsimp only; omega)]
  congr 1
  funext a; apply Fin.ext
  match a with
  | ⟨0, _⟩ => exact h0.symm
  | ⟨1, _⟩ => exact h1.symm

/-- The run of the kernel: the result is the product, the arguments unchanged. -/
theorem run_product : θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (written_eq m c)
      (fun i => (covered_iff2 i).2 (by
        have h0 : (i 0).val < 8704 := (i 0).isLt; have h1 : (i 1).val < 10240 := (i 1).isLt; omega))), (h c).2⟩)
    (run_blocks m ρ)

end Cert.InProjIdeal.Block

/-! ## The reference -/

namespace Cert.InProjRefIdeal.Block

open Cert.InProjRefIdeal Cert.InProjRefIdeal.Read Idealize.ShloMosaic Idealize.ShloMosaic.TcCoe Idealize.SL.Sem

/-- The reference's product is the same sum. -/
theorem result_eq (xn : Vec Ideal S8704x2048 .bf16) (w : Vec Ideal S2x2048x10272 .f32) :
    val_main_v3 (F := Ideal) xn w = Cert.InProjIdeal.Block.product xn w := by
  funext i
  rw [val_main_v3_apply]
  unfold Cert.InProjIdeal.Block.product
  refine Finset.sum_congr rfl fun k _ => ?_
  rw [val_main_v0_apply, val_main_v2_apply, val_main_v1_apply]
  have h0 : (i 0).val < 8704 := (i 0).isLt
  have h1 : (i 1).val < 10240 := (i 1).isLt
  have hk : k.val < 2048 := k.isLt
  refine congrArg₂ (fun a b => xn a * w b) ?_ ?_
  · funext a; apply Fin.ext
    match a with
    | ⟨0, _⟩ => rfl
    | ⟨1, _⟩ => rfl
  · funext a; apply Fin.ext
    match a with
    | ⟨0, _⟩ => rfl
    | ⟨1, _⟩ => show (k.val * 10240 + (i 1).val) / 10240 % 2048 = k.val; omega
    | ⟨2, _⟩ => show (k.val * 10240 + (i 1).val) % 10240 = (i 1).val; omega

end Cert.InProjRefIdeal.Block

/-! ## The claim -/

namespace Cert.Proof

open Idealize.ShloMosaic Idealize.ShloMosaic.TcCoe Idealize.SL.Sem

/-- `in_proj` computes the plain product. -/
theorem inProj_algebraic : Cert.algebraic_InProjIdeal_InProjRefIdeal (hInProjIdeal := Cert.InProjIdeal.Gen.facts) (hInProjRefIdeal := Cert.InProjRefIdeal.Gen.facts) :=
  fun m ρ m' ρ' _ hag =>
    ⟨fun c => Cert.InProjIdeal.Block.product (m ((c.tc : Thread _ _).loc Cert.InProjIdeal.main_arg0)) (m ((c.tc : Thread _ _).loc Cert.InProjIdeal.main_arg1)),
      Cert.InProjIdeal.Block.run_product m ρ,
      (θ_run _ _ _).mono (fun _ h c => ⟨(h c).1.trans ((Cert.InProjRefIdeal.Block.result_eq _ _).trans
        (by rw [(hag c).1, (hag c).2])), (h c).2⟩) (Cert.InProjRefIdeal.Value.run m' ρ')⟩

end Cert.Proof

end

end
-- ==== Proof.Rows.lean ====
/-
  ROWS.  The quantities the calls around the recurrence share: the root-mean-square norm of a row of 2048 features, and
  the activations of the prompt and of the sample read as one array of 8704 rows.
-/
module

public import Idealize.ShloMosaic.Lib.Pointwise

@[expose] public section

noncomputable section

namespace Cert.Rows

open Idealize.ShloMosaic

/-- A row scaled to unit mean square (with the usual small constant under the root) and then by the weights `w`. -/
def rms (x w : Fin 2048 → EReal) (k : Fin 2048) : EReal :=
  x k * Ideal.rsqrt (Ideal.div (∑ j : Fin 2048, x j * x j) (Ideal.ofBits .f32 0x45000000#32) + Ideal.ofBits .f32 0x3727C5AC#32) * w k

/-- Row `i` of the prompt's 8192 rows followed by the sample's 512. -/
def stacked (p : Vec Ideal ⟨2, ![8192, 2048]⟩ .f32) (s : Vec Ideal ⟨2, ![512, 2048]⟩ .f32) (i : Fin 8704) (k : Fin 2048) : EReal :=
  if h : i.val < 8192 then p (ix2 ⟨i.val, h⟩ k) else s (ix2 ⟨i.val - 8192, by have := i.isLt; omega⟩ k)

theorem stacked_low (p : Vec Ideal ⟨2, ![8192, 2048]⟩ .f32) (s : Vec Ideal ⟨2, ![512, 2048]⟩ .f32) (i : Fin 8704) (k : Fin 2048)
    (j : Fin 8192) (h : i.val = j.val) : stacked p s i k = p (ix2 j k) := by
  unfold stacked
  rw [dif_pos (by have := j.isLt; omega)]
  exact congrArg (fun a => p (ix2 a k)) (Fin.ext h)

theorem stacked_high (p : Vec Ideal ⟨2, ![8192, 2048]⟩ .f32) (s : Vec Ideal ⟨2, ![512, 2048]⟩ .f32) (i : Fin 8704) (k : Fin 2048)
    (j : Fin 512) (h : i.val = 8192 + j.val) : stacked p s i k = s (ix2 j k) := by
  unfold stacked
  rw [dif_neg (by omega)]
  exact congrArg (fun a => s (ix2 a k)) (Fin.ext (by dsimp only; omega))

/-- A row norm depends on the row's entries alone. -/
theorem rms_congr {x x' w w' : Fin 2048 → EReal} (hx : ∀ k, x k = x' k) (hw : ∀ k, w k = w' k) (k : Fin 2048) :
    rms x w k = rms x' w' k := by
  rw [show x = x' from funext hx, show w = w' from funext hw]

end Cert.Rows

end

end
-- ==== Proof.NormValue.lean ====
/-
  THE NORM ahead of the projections.  A grid point holds 512 rows, of the prompt for the first sixteen points and of the
  sample for the last; it writes their row norms and the norms' products with the 32 columns of the layer's input
  weights that feed the step sizes.  The reference stacks the two inputs first and takes the same norm of every row.
-/
module

public import proofs.«01_k».proof.Defs
public import proofs.«01_k».proof.Proof.Rows
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise

@[expose] public section

set_option maxRecDepth 16384

noncomputable section

namespace Cert.NormIdeal.Block

open Cert.NormIdeal Cert.NormIdeal.Gen Cert.NormIdeal.Value Idealize.ShloMosaic Idealize.ShloMosaic.TcCoe Idealize.SL.Sem
open Idealize.ShloMosaic.Pipeline (Dat)
open Cert.Rows

/-- The normed rows. -/
def normed (xp : Vec Ideal S4x2048x2048 .f32) (xs : Vec Ideal S128x4x2048 .f32) (w : Vec Ideal S2x2048 .f32) : Vec Ideal S8704x2048 .bf16 :=
  fun i => rms (stacked (shapeCast S8192x2048 xp shapeCasts_S4x2048x2048_S8192x2048) (shapeCast S512x2048 xs shapeCasts_S128x4x2048_S512x2048) (i 0))
    (fun k => w (ix2 0 k)) (i 1)

theorem normed_apply (xp : Vec Ideal S4x2048x2048 .f32) (xs : Vec Ideal S128x4x2048 .f32) (w : Vec Ideal S2x2048 .f32) (i : Fin 8704) (k : Fin 2048) :
    normed xp xs w (ix2 i k)
      = rms (stacked (shapeCast S8192x2048 xp shapeCasts_S4x2048x2048_S8192x2048) (shapeCast S512x2048 xs shapeCasts_S128x4x2048_S512x2048) i)
          (fun k => w (ix2 0 k)) k := rfl

/-- Their products with the 32 last columns of the layer's input weights. -/
def steps (xp : Vec Ideal S4x2048x2048 .f32) (xs : Vec Ideal S128x4x2048 .f32) (w : Vec Ideal S2x2048 .f32)
    (wi : Vec Ideal S2x2048x10272 .f32) : Vec Ideal S8704x32 .f32 :=
  fun i => ∑ k : Fin 2048, (normed xp xs w (ix2 (i 0) k) : EReal)
    * wi (ix3 0 k ⟨10240 + (i 1).val, by have h : (i 1).val < 32 := (i 1).isLt; show 10240 + (i 1).val < 10272; omega⟩)

theorem steps_apply (xp : Vec Ideal S4x2048x2048 .f32) (xs : Vec Ideal S128x4x2048 .f32) (w : Vec Ideal S2x2048 .f32)
    (wi : Vec Ideal S2x2048x10272 .f32) (i : Fin 8704) (l : Fin 32) :
    steps xp xs w wi (ix2 i l)
      = ∑ k : Fin 2048, (normed xp xs w (ix2 i k) : EReal) * wi (ix3 0 k ⟨10240 + l.val, by have := l.isLt; omega⟩) := rfl

variable (m : (ℓ : Loc nD τ sig) → Buf (Elt Ideal) ℓ) (ρ : Dev nD → PrngReg)

theorem zero2 : (![0, 0] : Fin 2 → Nat) = fun _ => 0 := by funext a; revert a; decide
theorem zero3 : (![0, 0, 0] : Fin 3 → Nat) = fun _ => 0 := by funext a; revert a; decide

/-- Which input a point's rows come from. -/
theorem side_eq : ∀ t : Fin cfg0.N, Scalar.cmpi .slt (BitVec.ofNat 32 ((grid0.coords t) 0).val) 16#32 = if t.val < 16 then 1#1 else 0#1 :=
  (by decide +kernel : ∀ t : Fin grid0.N, _)

/-- The blocks of a point. -/
theorem index_eq : ∀ t : Fin cfg0.N, win0_0.index t (0 : Fin 2) = min t.val 15 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 320 ∧ win0_3.index t (2 : Fin 3) = 0 :=
  (by decide +kernel : ∀ t : Fin grid0.N, _)

/-- The prompt's rows as the region finds them. -/
theorem prompt_eq (c : Dev nD) : V m c main_v0 = shapeCast S8192x2048 (m ((c : Thread nD τ).loc main_arg0)) shapeCasts_S4x2048x2048_S8192x2048 := by
  unfold_abbrev_sides
  after_results
  rfl

/-- The sample's rows. -/
theorem sample_eq (c : Dev nD) : V m c main_v1 = shapeCast S512x2048 (m ((c : Thread nD τ).loc main_arg1)) shapeCasts_S128x4x2048_S512x2048 := by
  unfold_abbrev_sides
  after_results
  rfl

/-- The norm's weights: the first layer's. -/
theorem weights_eq (c : Dev nD) (k : Fin 2048) :
    (V m c main_v5 : Vec Ideal S1x2048 .f32) (ix2 0 k) = (m ((c : Thread nD τ).loc main_arg2) : Vec Ideal S2x2048 .f32) (ix2 0 k) := by
  have e : V m c main_v5 = shapeCast S1x2048 (shapeCast S2048 (extractStridedSlice S1x2048 ![0, 0] (m ((c : Thread nD τ).loc main_arg2)) slices_S2x2048_S1x2048_0_0) shapeCasts_S1x2048_S2048) shapeCasts_S2048_S1x2048 := by
    unfold_abbrev_sides
    after_results
    rfl
  rw [e]
  pointwise

/-- The layer's input weights, transposed. -/
theorem columns_eq (c : Dev nD) (a : Fin 2) (l : Fin 10272) (k : Fin 2048) :
    (V m c main_v4 : Vec Ideal S2x10272x2048 .f32) (ix3 a l k) = (m ((c : Thread nD τ).loc main_arg3) : Vec Ideal S2x2048x10272 .f32) (ix3 a k l) := by
  have e : V m c main_v4 = transpose S2x10272x2048 [0, 2, 1] (m ((c : Thread nD τ).loc main_arg3)) transposes_S2x2048x10272_S2x10272x2048_0_2_1 := by
    unfold_abbrev_sides
    after_results
  rw [e]
  pointwise

/-- The prompt block of a point. -/
theorem rows0_eq (c : Dev nD) (t : Fin cfg0.N) (r : Fin 512) (k : Fin 2048) (h : t.val < 16) :
    (iblk m c 0 t : Vec Ideal S512x2048 .f32) (ix2 r k)
      = (V m c main_v0 : Vec Ideal S8192x2048 .f32) (ix2 ⟨t.val * 512 + r.val, by have := r.isLt; omega⟩ k) := by
  obtain ⟨e0, e1, -⟩ := index_eq t
  unfold iblk
  rw [View.read_apply]
  show V m c main_v0 _ = V m c main_v0 _
  congr 1
  funext a
  apply Fin.ext
  match a with
  | ⟨0, _⟩ => show win0_0.index t 0 * 512 + 1 * r.val = t.val * 512 + r.val; rw [e0]; omega
  | ⟨1, _⟩ => show win0_0.index t 1 * 2048 + 1 * k.val = k.val; rw [e1]; omega

/-- The sample block. -/
theorem rows1_eq (c : Dev nD) (t : Fin cfg0.N) (r : Fin 512) (k : Fin 2048) :
    (iblk m c 1 t : Vec Ideal S512x2048 .f32) (ix2 r k) = (V m c main_v1 : Vec Ideal S512x2048 .f32) (ix2 r k) := by
  obtain ⟨-, -, e0, e1, -⟩ := index_eq t
  unfold iblk
  rw [View.read_apply]
  show V m c main_v1 _ = V m c main_v1 _
  congr 1
  funext a
  apply Fin.ext
  match a with
  | ⟨0, _⟩ => show win0_1.index t 0 * 512 + 1 * r.val = r.val; rw [e0]; omega
  | ⟨1, _⟩ => show win0_1.index t 1 * 2048 + 1 * k.val = k.val; rw [e1]; omega

/-- The weights of the norm, the same block at every point. -/
theorem scale_eq (c : Dev nD) (t : Fin cfg0.N) (k : Fin 2048) :
    (iblk m c 2 t : Vec Ideal S1x2048 .f32) (ix2 0 k) = (m ((c : Thread nD τ).loc main_arg2) : Vec Ideal S2x2048 .f32) (ix2 0 k) := by
  obtain ⟨-, -, -, -, e0, e1, -⟩ := index_eq t
  rw [← weights_eq m c k]
  unfold iblk
  rw [View.read_apply]
  show V m c main_v5 _ = V m c main_v5 _
  congr 1
  funext a
  apply Fin.ext
  match a with
  | ⟨0, _⟩ => show win0_2.index t 0 * 1 + 1 * 0 = 0; rw [e0]
  | ⟨1, _⟩ => show win0_2.index t 1 * 2048 + 1 * k.val = k.val; rw [e1]; omega

/-- The 32 columns for the step sizes, the same block at every point. -/
theorem cols_eq (c : Dev nD) (t : Fin cfg0.N) (l : Fin 32) (k : Fin 2048) :
    (iblk m c 3 t : Vec Ideal S1x32x2048 .f32) (ix3 0 l k)
      = (m ((c : Thread nD τ).loc main_arg3) : Vec Ideal S2x2048x10272 .f32) (ix3 0 k ⟨10240 + l.val, by have := l.isLt; omega⟩) := by
  obtain ⟨-, -, -, -, -, -, e0, e1, e2⟩ := index_eq t
  rw [← columns_eq m c 0 ⟨10240 + l.val, by have := l.isLt; omega⟩ k]
  unfold iblk
  rw [View.read_apply]
  show V m c main_v4 _ = V m c main_v4 _
  congr 1
  funext a
  apply Fin.ext
  match a with
  | ⟨0, _⟩ => show win0_3.index t 0 * 1 + 1 * 0 = 0; rw [e0]
  | ⟨1, _⟩ => show win0_3.index t 1 * 32 + 1 * l.val = 10240 + l.val; rw [e1]; omega
  | ⟨2, _⟩ => show win0_3.index t 2 * 2048 + 1 * k.val = k.val; rw [e2]; omega

/-! ## What a block holds -/

/-- One entry of the body's norm: the row norm of the block it selects. -/
theorem norm_apply (i : grid0.Coords) (a b : Vec Ideal S512x2048 .f32) (w : Vec Ideal S1x2048 .f32) (r : Fin 512) (l : Fin 2048) :
    k0_pay1 i a b w (ix2 r l)
      = rms (fun k => Scalar.select (Scalar.cmpi .slt (BitVec.ofNat 32 (i 0).val) 16#32) (a (ix2 r k)) (b (ix2 r k))) (fun k => w (ix2 0 k)) l := by
  unfold rms
  pointwise [k0_pay1]

/-- One entry of the body's product. -/
theorem step_apply (i : grid0.Coords) (a b : Vec Ideal S512x2048 .f32) (w : Vec Ideal S1x2048 .f32) (wi : Vec Ideal S1x32x2048 .f32)
    (r : Fin 512) (l : Fin 32) :
    k0_pay2 i a b w wi (ix2 r l) = ∑ k : Fin 2048, (k0_pay1 i a b w (ix2 r k) : EReal) * wi (ix3 0 l k) := by
  unfold k0_pay2
  pointwise

/-- A point's norms are rows of the normed array. -/
theorem block_eq (c : Dev nD) (t : Fin cfg0.N) (r : Fin 512) (l : Fin 2048) (h : t.val * 512 + r.val < 8704) :
    k0_pay1 (grid0.coords t) (iblk m c 0 t) (iblk m c 1 t) (iblk m c 2 t) (ix2 r l)
      = normed (m ((c : Thread nD τ).loc main_arg0)) (m ((c : Thread nD τ).loc main_arg1)) (m ((c : Thread nD τ).loc main_arg2))
          (ix2 ⟨t.val * 512 + r.val, h⟩ l) := by
  have hr := r.isLt
  rw [norm_apply, side_eq t]
  rw [normed_apply, ← prompt_eq m c, ← sample_eq m c]
  refine rms_congr (fun k => ?_) (fun k => scale_eq m c t k) l
  by_cases h0 : t.val < 16
  · rw [if_pos h0, stacked_low _ _ _ _ ⟨t.val * 512 + r.val, by omega⟩ rfl]
    exact rows0_eq m c t r k h0
  · rw [if_neg h0, stacked_high _ _ _ _ r (by show t.val * 512 + r.val = _; omega)]
    exact rows1_eq m c t r k

/-- A point's products are rows of the product array. -/
theorem block_steps_eq (c : Dev nD) (t : Fin cfg0.N) (r : Fin 512) (l : Fin 32) (h : t.val * 512 + r.val < 8704) :
    k0_pay2 (grid0.coords t) (iblk m c 0 t) (iblk m c 1 t) (iblk m c 2 t) (iblk m c 3 t) (ix2 r l)
      = steps (m ((c : Thread nD τ).loc main_arg0)) (m ((c : Thread nD τ).loc main_arg1)) (m ((c : Thread nD τ).loc main_arg2))
          (m ((c : Thread nD τ).loc main_arg3)) (ix2 ⟨t.val * 512 + r.val, h⟩ l) := by
  rw [step_apply]
  unfold steps
  refine Finset.sum_congr rfl fun k _ => ?_
  rw [block_eq m c t r k h, cols_eq m c t l k]
  rfl

/-! ## The arrays -/

/-- The outputs' blocks: point `t` writes rows `512 t … 512 t + 511`. -/
theorem out_index_eq : ∀ t : Fin cfg0.N, win0_4.index t (0 : Fin 2) = t.val ∧ win0_4.index t (1 : Fin 2) = 0
    ∧ win0_5.index t (0 : Fin 2) = t.val ∧ win0_5.index t (1 : Fin 2) = 0
    ∧ (cfg0.win 4).flush t = true ∧ (cfg0.win 5).flush t = true :=
  (by decide +kernel : ∀ t : Fin grid0.N, _)

/-- The block of norms a point writes out is a block of the normed array. -/
theorem written4_eq (c : Dev nD) (t : Fin cfg0.N) :
    (dats m 0 c).flushed 4 t = ((cfg0.win 4).blk t).view.read (Elt Ideal)
      (normed (m ((c : Thread nD τ).loc main_arg0)) (m ((c : Thread nD τ).loc main_arg1)) (m ((c : Thread nD τ).loc main_arg2))
        : Buf (Elt Ideal) ((c : Thread nD τ).loc main_v6_0)) := by
  have hN : t.val < 17 := t.isLt
  obtain ⟨e0, e1, -⟩ := out_index_eq t
  rw [flushed4]
  unfold out0_4
  rw [View.canon_unit_zero zero2]
  simp only [View.ld_unit_zero (S := S512x2048) zero2, View.ld_unit_zero (S := S1x2048) zero2]
  funext y
  rw [View.read_apply]
  have hy0 : (y 0).val < 512 := (y 0).isLt
  have hy1 : (y 1).val < 2048 := (y 1).isLt
  have hx : (cfg0.win 4).xinj (grid0.coords t) y = ix2 ⟨(y 0).val, hy0⟩ ⟨(y 1).val, hy1⟩ := by
    funext a; apply Fin.ext
    match a with
    | ⟨0, _⟩ => rfl
    | ⟨1, _⟩ => rfl
  show k0_pay1 (F := Ideal) _ _ _ _ ((cfg0.win 4).xinj (grid0.coords t) y) = normed _ _ _ (((cfg0.win 4).blk t).view.emb y)
  rw [hx, block_eq m c t ⟨(y 0).val, hy0⟩ ⟨(y 1).val, hy1⟩ (by dsimp only; omega)]
  congr 1
  funext a; apply Fin.ext
  match a with
  | ⟨0, _⟩ => show t.val * 512 + (y 0).val = win0_4.index t 0 * 512 + 1 * (y 0).val; rw [e0]; omega
  | ⟨1, _⟩ => show (y 1).val = win0_4.index t 1 * 2048 + 1 * (y 1).val; rw [e1]; omega

/-- The block of products a point writes out is a block of the product array. -/
theorem written5_eq (c : Dev nD) (t : Fin cfg0.N) :
    (dats m 0 c).flushed 5 t = ((cfg0.win 5).blk t).view.read (Elt Ideal)
      (steps (m ((c : Thread nD τ).loc main_arg0)) (m ((c : Thread nD τ).loc main_arg1)) (m ((c : Thread nD τ).loc main_arg2))
        (m ((c : Thread nD τ).loc main_arg3)) : Buf (Elt Ideal) ((c : Thread nD τ).loc main_v6_1)) := by
  have hN : t.val < 17 := t.isLt
  obtain ⟨-, -, e0, e1, -⟩ := out_index_eq t
  rw [flushed5]
  unfold out0_5
  rw [View.canon_unit_zero zero2]
  simp only [View.ld_unit_zero (S := S512x2048) zero2, View.ld_unit_zero (S := S1x2048) zero2, View.ld_unit_zero (S := S1x32x2048) zero3]
  funext y
  rw [View.read_apply]
  have hy0 : (y 0).val < 512 := (y 0).isLt
  have hy1 : (y 1).val < 32 := (y 1).isLt
  have hx : (cfg0.win 5).xinj (grid0.coords t) y = ix2 ⟨(y 0).val, hy0⟩ ⟨(y 1).val, hy1⟩ := by
    funext a; apply Fin.ext
    match a with
    | ⟨0, _⟩ => rfl
    | ⟨1, _⟩ => rfl
  show k0_pay2 (F := Ideal) _ _ _ _ _ ((cfg0.win 5).xinj (grid0.coords t) y) = steps _ _ _ _ (((cfg0.win 5).blk t).view.emb y)
  rw [hx, block_steps_eq m c t ⟨(y 0).val, hy0⟩ ⟨(y 1).val, hy1⟩ (by dsimp only; omega)]
  congr 1
  funext a; apply Fin.ext
  match a with
  | ⟨0, _⟩ => show t.val * 512 + (y 0).val = win0_5.index t 0 * 512 + 1 * (y 0).val; rw [e0]; omega
  | ⟨1, _⟩ => show (y 1).val = win0_5.index t 1 * 32 + 1 * (y 1).val; rw [e1]; omega

/-- Every row lies in a written block. -/
theorem covered4 (i : S8704x2048.Idx) : ∃ t : Fin cfg0.N, (cfg0.win 4).flush t = true ∧ i ∈ ((cfg0.win 4).blk t).view.set := by
  have h0 : (i 0).val < 8704 := (i 0).isLt
  have h1 : (i 1).val < 2048 := (i 1).isLt
  have ht : (i 0).val / 512 < grid0.N := by show (i 0).val / 512 < 17; omega
  obtain ⟨e0, e1, -, -, hf, -⟩ := out_index_eq ⟨(i 0).val / 512, ht⟩
  refine ⟨⟨(i 0).val / 512, ht⟩, hf, ?_⟩
  show i ∈ ((View.whole main_v6_0).slice (win0_4.rect ⟨(i 0).val / 512, ht⟩)).set
  rw [View.set_slice_whole, Rect.mem_set_unit]
  intro a
  match a with
  | ⟨0, _⟩ => show win0_4.index _ (0 : Fin 2) * 512 ≤ (i 0).val ∧ (i 0).val < win0_4.index _ (0 : Fin 2) * 512 + 512; rw [e0]; dsimp only; omega
  | ⟨1, _⟩ => show win0_4.index _ (1 : Fin 2) * 2048 ≤ (i 1).val ∧ (i 1).val < win0_4.index _ (1 : Fin 2) * 2048 + 2048; rw [e1]; omega

theorem covered5 (i : S8704x32.Idx) : ∃ t : Fin cfg0.N, (cfg0.win 5).flush t = true ∧ i ∈ ((cfg0.win 5).blk t).view.set := by
  have h0 : (i 0).val < 8704 := (i 0).isLt
  have h1 : (i 1).val < 32 := (i 1).isLt
  have ht : (i 0).val / 512 < grid0.N := by show (i 0).val / 512 < 17; omega
  obtain ⟨-, -, e0, e1, -, hf⟩ := out_index_eq ⟨(i 0).val / 512, ht⟩
  refine ⟨⟨(i 0).val / 512, ht⟩, hf, ?_⟩
  show i ∈ ((View.whole main_v6_1).slice (win0_5.rect ⟨(i 0).val / 512, ht⟩)).set
  rw [View.set_slice_whole, Rect.mem_set_unit]
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 32 ≤ (i 1).val ∧ (i 1).val < win0_5.index _ (1 : Fin 2) * 32 + 32; rw [e1]; omega

/-- The run of the kernel: the two results, the arguments unchanged. -/
theorem run_normed : θ_run defs (onTc (τ := τ) (main (F := Ideal))) ⟨m, fun _ => 0, ρ⟩ fun r => ∀ c : Dev nD,
      r.2.mem ((c : Thread nD τ).loc main_v6_0)
        = normed (m ((c : Thread nD τ).loc main_arg0)) (m ((c : Thread nD τ).loc main_arg1)) (m ((c : Thread nD τ).loc main_arg2))
      ∧ r.2.mem ((c : Thread nD τ).loc main_v6_1)
        = steps (m ((c : Thread nD τ).loc main_arg0)) (m ((c : Thread nD τ).loc main_arg1)) (m ((c : Thread nD τ).loc main_arg2))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h c).1.trans ((dats m 0 c).arrAt_eq_of_cover 4 _ (fun t _ => written4_eq m c t) covered4),
        (h c).2.1.trans ((dats m 0 c).arrAt_eq_of_cover 5 _ (fun t _ => written5_eq m c t) covered5), (h c).2.2⟩)
    (run_blocks m ρ)

end Cert.NormIdeal.Block

/-! ## The reference -/

namespace Cert.NormRefIdeal.Block

open Cert.NormRefIdeal Cert.NormRefIdeal.Read Idealize.ShloMosaic Idealize.ShloMosaic.TcCoe Idealize.SL.Sem
open Cert.Rows

/-- The rows the reference stacks. -/
theorem stacked_eq (xp : Vec Ideal S4x2048x2048 .f32) (xs : Vec Ideal S128x4x2048 .f32) (i : Fin 8704) (k : Fin 2048) :
    val_main_v2 (F := Ideal) xp xs (ix2 i k)
      = stacked (val_main_v0 (F := Ideal) xp) (val_main_v1 (F := Ideal) xs) i k := by
  unfold val_main_v2
  generalize val_main_v0 (F := Ideal) xp = p
  generalize val_main_v1 (F := Ideal) xs = s
  unfold stacked
  pointwise

/-- The norm before its cast. -/
theorem norm_eq (xp : Vec Ideal S4x2048x2048 .f32) (xs : Vec Ideal S128x4x2048 .f32) (w : Vec Ideal S2x2048 .f32) (i : Fin 8704) (k : Fin 2048) :
    val_main_v17 (F := Ideal) xp xs w (ix2 i k) = Cert.NormIdeal.Block.normed xp xs w (ix2 i k) := by
  have e := rms_congr (w := fun k => w (ix2 0 k)) (fun k => stacked_eq xp xs i k) (fun _ => rfl) k
  refine Eq.trans ?_ e
  unfold rms val_main_v17 val_main_v14 val_main_v13 val_main_v12 val_main_v11 val_main_v10 val_main_v9 val_main_v8 val_main_v7 val_main_v6
    val_main_v5 val_main_v16 val_main_v15 val_main_v4 val_main_v3
    val_main_cst val_main_cst_0 val_main_cst_1
  generalize val_main_v2 (F := Ideal) xp xs = x
  pointwise

theorem result0_eq (xp : Vec Ideal S4x2048x2048 .f32) (xs : Vec Ideal S128x4x2048 .f32) (w : Vec Ideal S2x2048 .f32) :
    val_main_v18 (F := Ideal) xp xs w = Cert.NormIdeal.Block.normed xp xs w := by
  funext i
  rw [eq_ix2 i]
  exact norm_eq xp xs w _ _

theorem result1_eq (xp : Vec Ideal S4x2048x2048 .f32) (xs : Vec Ideal S128x4x2048 .f32) (w : Vec Ideal S2x2048 .f32) (wi : Vec Ideal S2x2048x10272 .f32) :
    val_main_v21 (F := Ideal) xp xs w wi = Cert.NormIdeal.Block.steps xp xs w wi := by
  suffices h : ∀ (i : Fin 8704) (l : Fin 32), val_main_v21 (F := Ideal) xp xs w wi (ix2 i l) = Cert.NormIdeal.Block.steps xp xs w wi (ix2 i l) by
    funext i
    rw [eq_ix2 i]
    exact h _ _
  intro i l
  rw [Cert.NormIdeal.Block.steps_apply]
  refine Eq.trans (b := ∑ k : Fin 2048, val_main_v17 (F := Ideal) xp xs w (ix2 i k) * val_main_v20 (F := Ideal) wi (ix2 k l)) ?_ ?_
  · unfold val_main_v21
    pointwise
  · refine Finset.sum_congr rfl fun k _ => ?_
    rw [norm_eq xp xs w]
    refine congrArg₂ (fun a b : EReal => a * b) rfl ?_
    pointwise [val_main_v20, val_main_v19]

end Cert.NormRefIdeal.Block

/-! ## The claim -/

namespace Cert.Proof

open Idealize.ShloMosaic Idealize.ShloMosaic.TcCoe Idealize.SL.Sem

/-- `rmsnorm_dt` computes the row norms and their products with the step-size columns. -/
theorem norm_algebraic : Cert.algebraic_NormIdeal_NormRefIdeal (hNormIdeal := Cert.NormIdeal.Gen.facts) (hNormRefIdeal := Cert.NormRefIdeal.Gen.facts) :=
  fun m ρ m' ρ' _ hag =>
    ⟨fun c => Cert.NormIdeal.Block.normed (m ((c.tc : Thread _ _).loc Cert.NormIdeal.main_arg0)) (m ((c.tc : Thread _ _).loc Cert.NormIdeal.main_arg1))
        (m ((c.tc : Thread _ _).loc Cert.NormIdeal.main_arg2)),
      fun c => Cert.NormIdeal.Block.steps (m ((c.tc : Thread _ _).loc Cert.NormIdeal.main_arg0)) (m ((c.tc : Thread _ _).loc Cert.NormIdeal.main_arg1))
        (m ((c.tc : Thread _ _).loc Cert.NormIdeal.main_arg2)) (m ((c.tc : Thread _ _).loc Cert.NormIdeal.main_arg3)),
      Cert.NormIdeal.Block.run_normed m ρ,
      (θ_run _ _ _).mono (fun _ h c => ⟨(h c).1.trans ((Cert.NormRefIdeal.Block.result0_eq _ _ _).trans
          (by rw [(hag c).1, (hag c).2.1, (hag c).2.2.1])),
        (h c).2.1.trans ((Cert.NormRefIdeal.Block.result1_eq _ _ _ _).trans
          (by rw [(hag c).1, (hag c).2.1, (hag c).2.2.1, (hag c).2.2.2])), (h c).2.2⟩) (Cert.NormRefIdeal.Value.run m' ρ')⟩

end Cert.Proof

end

end
-- ==== Proof.OutProjValue.lean ====
/-
  THE OUTPUT PROJECTION of the first layer, with the next layer's norm.  A grid point holds 256 rows: it multiplies the
  mixed activations with the layer's output weights, adds the incoming rows (of the prompt for the first 32 points, of
  the sample for the last two), and writes the sum, its row norm and the norm's product with the step-size columns of
  the next layer.  The reference does the same to all 8704 rows at once.
-/
module

public import proofs.«01_k».proof.Defs
public import proofs.«01_k».proof.Proof.Rows
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise

@[expose] public section

set_option maxRecDepth 16384

noncomputable section

namespace Cert.OutProjIdeal.Block

open Cert.OutProjIdeal Cert.OutProjIdeal.Gen Cert.OutProjIdeal.Value Idealize.ShloMosaic Idealize.ShloMosaic.TcCoe Idealize.SL.Sem
open Idealize.ShloMosaic.Pipeline (Dat)
open Cert.Rows

/-- The rows after the layer: the mixed activations times the output weights, added to the incoming rows. -/
def added (y : Vec Ideal S8704x4096 .bf16) (w : Vec Ideal S2x4096x2048 .f32) (xp : Vec Ideal S4x2048x2048 .f32) (xs : Vec Ideal S128x4x2048 .f32) :
    Vec Ideal S8704x2048 .f32 :=
  fun i => (∑ k : Fin 4096, (y (ix2 (i 0) k) : EReal) * w (ix3 0 k (i 1)))
    + stacked (shapeCast S8192x2048 xp shapeCasts_S4x2048x2048_S8192x2048) (shapeCast S512x2048 xs shapeCasts_S128x4x2048_S512x2048) (i 0) (i 1)

/-- Their row norms, with the next layer's weights. -/
def normed (y : Vec Ideal S8704x4096 .bf16) (w : Vec Ideal S2x4096x2048 .f32) (xp : Vec Ideal S4x2048x2048 .f32) (xs : Vec Ideal S128x4x2048 .f32)
    (nw : Vec Ideal S2x2048 .f32) : Vec Ideal S8704x2048 .bf16 :=
  fun i => rms (fun k => added y w xp xs (ix2 (i 0) k)) (fun k => nw (ix2 1 k)) (i 1)

/-- The norms' products with the 32 last columns of the next layer's input weights. -/
def steps (y : Vec Ideal S8704x4096 .bf16) (w : Vec Ideal S2x4096x2048 .f32) (xp : Vec Ideal S4x2048x2048 .f32) (xs : Vec Ideal S128x4x2048 .f32)
    (nw : Vec Ideal S2x2048 .f32) (wi : Vec Ideal S2x2048x10272 .f32) : Vec Ideal S8704x32 .f32 :=
  fun i => ∑ k : Fin 2048, (normed y w xp xs nw (ix2 (i 0) k) : EReal)
    * wi (ix3 1 k ⟨10240 + (i 1).val, by have h : (i 1).val < 32 := (i 1).isLt; show 10240 + (i 1).val < 10272; omega⟩)

section Entries

variable (y : Vec Ideal S8704x4096 .bf16) (w : Vec Ideal S2x4096x2048 .f32) (xp : Vec Ideal S4x2048x2048 .f32) (xs : Vec Ideal S128x4x2048 .f32)
  (nw : Vec Ideal S2x2048 .f32) (wi : Vec Ideal S2x2048x10272 .f32)

theorem added_apply (i : Fin 8704) (k : Fin 2048) :
    added y w xp xs (ix2 i k) = (∑ j : Fin 4096, (y (ix2 i j) : EReal) * w (ix3 0 j k))
      + stacked (shapeCast S8192x2048 xp shapeCasts_S4x2048x2048_S8192x2048) (shapeCast S512x2048 xs shapeCasts_S128x4x2048_S512x2048) i k := rfl

theorem normed_apply (i : Fin 8704) (k : Fin 2048) :
    normed y w xp xs nw (ix2 i k) = rms (fun k => added y w xp xs (ix2 i k)) (fun k => nw (ix2 1 k)) k := rfl

theorem steps_apply (i : Fin 8704) (l : Fin 32) :
    steps y w xp xs nw wi (ix2 i l)
      = ∑ k : Fin 2048, (normed y w xp xs nw (ix2 i k) : EReal) * wi (ix3 1 k ⟨10240 + l.val, by have := l.isLt; omega⟩) := rfl

end Entries

variable (m : (ℓ : Loc nD τ sig) → Buf (Elt Ideal) ℓ) (ρ : Dev nD → PrngReg)

theorem zero2 : (![0, 0] : Fin 2 → Nat) = fun _ => 0 := by funext a; revert a; decide
theorem zero3 : (![0, 0, 0] : Fin 3 → Nat) = fun _ => 0 := by funext a; revert a; decide

/-- Which input a point's rows come from. -/
theorem side_eq : ∀ t : Fin cfg0.N, Scalar.cmpi .slt (BitVec.ofNat 32 ((grid0.coords t) 0).val) 32#32 = if t.val < 32 then 1#1 else 0#1 :=
  (by decide +kernel : ∀ t : Fin grid0.N, _)

/-- The blocks of a point. -/
theorem index_eq : ∀ t : Fin cfg0.N, (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = min t.val 31 ∧ win0_2.index t (1 : Fin 2) = 0)
    ∧ (win0_3.index t (0 : Fin 2) = t.val - 32 ∧ win0_3.index t (1 : Fin 2) = 0)
    ∧ (win0_4.index t (0 : Fin 2) = 0 ∧ win0_4.index t (1 : Fin 2) = 0)
    ∧ (win0_5.index t (0 : Fin 3) = 1 ∧ win0_5.index t (1 : Fin 3) = 320 ∧ win0_5.index t (2 : Fin 3) = 0) :=
  (by decide +kernel : ∀ t : Fin grid0.N, _)

/-- The prompt's rows as the region finds them. -/
theorem prompt_eq (c : Dev nD) : V m c main_v0 = shapeCast S8192x2048 (m ((c : Thread nD τ).loc main_arg2)) shapeCasts_S4x2048x2048_S8192x2048 := by
  unfold_abbrev_sides
  after_results
  rfl

/-- The sample's rows. -/
theorem sample_eq (c : Dev nD) : V m c main_v1 = shapeCast S512x2048 (m ((c : Thread nD τ).loc main_arg3)) shapeCasts_S128x4x2048_S512x2048 := by
  unfold_abbrev_sides
  after_results
  rfl

/-- The output weights, rounded. -/
theorem outputs_eq (c : Dev nD) (i : S2x4096x2048.Idx) :
    (V m c main_v2 : Vec Ideal S2x4096x2048 .bf16) i = (m ((c : Thread nD τ).loc main_arg1) : Vec Ideal S2x4096x2048 .f32) i := by
  have e : V m c main_v2 = truncf (F := Ideal) (s := S2x4096x2048) (φ := .f32) .bf16 (m ((c : Thread nD τ).loc main_arg1)) bitsLt_bf16_f32 := by
    unfold_abbrev_sides
    after_results
  rw [e]
  rfl

/-- The norm's weights: the next layer's. -/
theorem weights_eq (c : Dev nD) (k : Fin 2048) :
    (V m c main_v6 : Vec Ideal S1x2048 .f32) (ix2 0 k) = (m ((c : Thread nD τ).loc main_arg4) : Vec Ideal S2x2048 .f32) (ix2 1 k) := by
  have e : V m c main_v6 = shapeCast S1x2048 (shapeCast S2048 (extractStridedSlice S1x2048 ![1, 0] (m ((c : Thread nD τ).loc main_arg4)) slices_S2x2048_S1x2048_1_0) shapeCasts_S1x2048_S2048) shapeCasts_S2048_S1x2048 := by
    unfold_abbrev_sides
    after_results
    rfl
  rw [e]
  pointwise

/-- The input weights, transposed. -/
theorem columns_eq (c : Dev nD) (a : Fin 2) (l : Fin 10272) (k : Fin 2048) :
    (V m c main_v5 : Vec Ideal S2x10272x2048 .f32) (ix3 a l k) = (m ((c : Thread nD τ).loc main_arg5) : Vec Ideal S2x2048x10272 .f32) (ix3 a k l) := by
  have e : V m c main_v5 = transpose S2x10272x2048 [0, 2, 1] (m ((c : Thread nD τ).loc main_arg5)) transposes_S2x2048x10272_S2x10272x2048_0_2_1 := by
    unfold_abbrev_sides
    after_results
  rw [e]
  pointwise

/-! ## The blocks a point reads -/

/-- The mixed rows of a point. -/
theorem mixed_eq (c : Dev nD) (t : Fin cfg0.N) (r : Fin 256) (k : Fin 4096) (h : t.val * 256 + r.val < 8704) :
    (iblk m c 0 t : Vec Ideal S256x4096 .bf16) (ix2 r k)
      = (m ((c : Thread nD τ).loc main_arg0) : Vec Ideal S8704x4096 .bf16) (ix2 ⟨t.val * 256 + r.val, h⟩ k) := by
  obtain ⟨⟨e0, e1⟩, -⟩ := index_eq t
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e0]; omega
  | ⟨1, _⟩ => show win0_0.index t 1 * 4096 + 1 * k.val = k.val; rw [e1]; omega

/-- The layer's output weights, the same block at every point. -/
theorem outw_eq (c : Dev nD) (t : Fin cfg0.N) (k : Fin 4096) (l : Fin 2048) :
    (iblk m c 1 t : Vec Ideal S1x4096x2048 .bf16) (ix3 0 k l) = (m ((c : Thread nD τ).loc main_arg1) : Vec Ideal S2x4096x2048 .f32) (ix3 0 k l) := by
  obtain ⟨-, ⟨e0, e1, e2⟩, -⟩ := index_eq t
  rw [← outputs_eq m c (ix3 0 k l)]
  unfold iblk
  rw [View.read_apply]
  show V m c main_v2 _ = V m c main_v2 _
  congr 1
  funext a
  apply Fin.ext
  match a with
  | ⟨0, _⟩ => show win0_1.index t 0 * 1 + 1 * 0 = 0; rw [e0]
  | ⟨1, _⟩ => show win0_1.index t 1 * 4096 + 1 * k.val = k.val; rw [e1]; omega
  | ⟨2, _⟩ => show win0_1.index t 2 * 2048 + 1 * l.val = l.val; rw [e2]; omega

/-- The prompt block of a point. -/
theorem rows0_eq (c : Dev nD) (t : Fin cfg0.N) (r : Fin 256) (k : Fin 2048) (h : t.val < 32) :
    (iblk m c 2 t : Vec Ideal S256x2048 .f32) (ix2 r k)
      = (V m c main_v0 : Vec Ideal S8192x2048 .f32) (ix2 ⟨t.val * 256 + r.val, by have := r.isLt; omega⟩ k) := by
  obtain ⟨-, -, ⟨e0, e1⟩, -⟩ := index_eq t
  unfold iblk
  rw [View.read_apply]
  show V m c main_v0 _ = V m c main_v0 _
  congr 1
  funext a
  apply Fin.ext
  match a with
  | ⟨0, _⟩ => show win0_2.index t 0 * 256 + 1 * r.val = t.val * 256 + r.val; rw [e0]; omega
  | ⟨1, _⟩ => show win0_2.index t 1 * 2048 + 1 * k.val = k.val; rw [e1]; omega

/-- The sample block. -/
theorem rows1_eq (c : Dev nD) (t : Fin cfg0.N) (r : Fin 256) (k : Fin 2048) (h : (t.val - 32) * 256 + r.val < 512) :
    (iblk m c 3 t : Vec Ideal S256x2048 .f32) (ix2 r k)
      = (V m c main_v1 : Vec Ideal S512x2048 .f32) (ix2 ⟨(t.val - 32) * 256 + r.val, h⟩ k) := by
  obtain ⟨-, -, -, ⟨e0, e1⟩, -⟩ := index_eq t
  unfold iblk
  rw [View.read_apply]
  show V m c main_v1 _ = V m c main_v1 _
  congr 1
  funext a
  apply Fin.ext
  match a with
  | ⟨0, _⟩ => show win0_3.index t 0 * 256 + 1 * r.val = (t.val - 32) * 256 + r.val; rw [e0]; omega
  | ⟨1, _⟩ => show win0_3.index t 1 * 2048 + 1 * k.val = k.val; rw [e1]; omega

/-- The weights of the norm, the same block at every point. -/
theorem scale_eq (c : Dev nD) (t : Fin cfg0.N) (k : Fin 2048) :
    (iblk m c 4 t : Vec Ideal S1x2048 .f32) (ix2 0 k) = (m ((c : Thread nD τ).loc main_arg4) : Vec Ideal S2x2048 .f32) (ix2 1 k) := by
  obtain ⟨-, -, -, -, ⟨e0, e1⟩, -⟩ := index_eq t
  rw [← weights_eq m c k]
  unfold iblk
  rw [View.read_apply]
  show V m c main_v6 _ = V m c main_v6 _
  congr 1
  funext a
  apply Fin.ext
  match a with
  | ⟨0, _⟩ => show win0_4.index t 0 * 1 + 1 * 0 = 0; rw [e0]
  | ⟨1, _⟩ => show win0_4.index t 1 * 2048 + 1 * k.val = k.val; rw [e1]; omega

/-- The 32 columns for the step sizes, the same block at every point. -/
theorem cols_eq (c : Dev nD) (t : Fin cfg0.N) (l : Fin 32) (k : Fin 2048) :
    (iblk m c 5 t : Vec Ideal S1x32x2048 .f32) (ix3 0 l k)
      = (m ((c : Thread nD τ).loc main_arg5) : Vec Ideal S2x2048x10272 .f32) (ix3 1 k ⟨10240 + l.val, by have := l.isLt; omega⟩) := by
  obtain ⟨-, -, -, -, -, e0, e1, e2⟩ := index_eq t
  rw [← columns_eq m c 1 ⟨10240 + l.val, by have := l.isLt; omega⟩ k]
  unfold iblk
  rw [View.read_apply]
  show V m c main_v5 _ = V m c main_v5 _
  congr 1
  funext a
  apply Fin.ext
  match a with
  | ⟨0, _⟩ => show win0_5.index t 0 * 1 + 1 * 0 = 1; rw [e0]
  | ⟨1, _⟩ => show win0_5.index t 1 * 32 + 1 * l.val = 10240 + l.val; rw [e1]; omega
  | ⟨2, _⟩ => show win0_5.index t 2 * 2048 + 1 * k.val = k.val; rw [e2]; omega

/-! ## What a block holds -/

section Payloads

variable (i : grid0.Coords) (y : Vec Ideal S256x4096 .bf16) (w : Vec Ideal S1x4096x2048 .bf16) (a b : Vec Ideal S256x2048 .f32)
  (nw : Vec Ideal S1x2048 .f32) (wi : Vec Ideal S1x32x2048 .f32)

/-- One entry of the body's sum. -/
theorem add_apply (r : Fin 256) (l : Fin 2048) :
    k0_pay1 i y w a b (ix2 r l) = (∑ k : Fin 4096, (y (ix2 r k) : EReal) * w (ix3 0 k l))
      + Scalar.select (Scalar.cmpi .slt (BitVec.ofNat 32 (i 0).val) 32#32) (a (ix2 r l)) (b (ix2 r l)) := by
  pointwise [k0_pay1]

/-- One entry of the body's norm. -/
theorem norm_apply (r : Fin 256) (l : Fin 2048) :
    k0_pay2 i y w a b nw (ix2 r l) = rms (fun k => k0_pay1 i y w a b (ix2 r k)) (fun k => nw (ix2 0 k)) l := by
  unfold rms k0_pay2
  generalize k0_pay1 i y w a b = x
  pointwise

/-- One entry of the body's second product. -/
theorem step_apply (r : Fin 256) (l : Fin 32) :
    k0_pay3 i y w a b nw wi (ix2 r l) = ∑ k : Fin 2048, (k0_pay2 i y w a b nw (ix2 r k) : EReal) * wi (ix3 0 l k) := by
  unfold k0_pay3
  generalize k0_pay2 i y w a b nw = x
  pointwise

end Payloads

/-- A point's sums are rows of the sum array. -/
theorem block_added_eq (c : Dev nD) (t : Fin cfg0.N) (r : Fin 256) (l : Fin 2048) (h : t.val * 256 + r.val < 8704) :
    k0_pay1 (grid0.coords t) (iblk m c 0 t) (iblk m c 1 t) (iblk m c 2 t) (iblk m c 3 t) (ix2 r l)
      = added (m ((c : Thread nD τ).loc main_arg0)) (m ((c : Thread nD τ).loc main_arg1)) (m ((c : Thread nD τ).loc main_arg2))
          (m ((c : Thread nD τ).loc main_arg3)) (ix2 ⟨t.val * 256 + r.val, h⟩ l) := by
  have hr := r.isLt
  rw [add_apply, side_eq t, added_apply, ← prompt_eq m c, ← sample_eq m c]
  refine congrArg₂ (fun a b : EReal => a + b) (Finset.sum_congr rfl fun k _ => ?_) ?_
  · rw [mixed_eq m c t r k h, outw_eq m c t k l]
  · by_cases h0 : t.val < 32
    · rw [if_pos h0, stacked_low _ _ _ _ ⟨t.val * 256 + r.val, by omega⟩ rfl]
      exact rows0_eq m c t r l h0
    · rw [if_neg h0, stacked_high _ _ _ _ ⟨(t.val - 32) * 256 + r.val, by omega⟩ (by dsimp only; omega)]
      exact rows1_eq m c t r l (by omega)

/-- A point's norms are rows of the normed array. -/
theorem block_normed_eq (c : Dev nD) (t : Fin cfg0.N) (r : Fin 256) (l : Fin 2048) (h : t.val * 256 + r.val < 8704) :
    k0_pay2 (grid0.coords t) (iblk m c 0 t) (iblk m c 1 t) (iblk m c 2 t) (iblk m c 3 t) (iblk m c 4 t) (ix2 r l)
      = normed (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨t.val * 256 + r.val, h⟩ l) := by
  rw [norm_apply, normed_apply]
  exact rms_congr (fun k => block_added_eq m c t r k h) (fun k => scale_eq m c t k) l

/-- A point's products are rows of the product array. -/
theorem block_steps_eq (c : Dev nD) (t : Fin cfg0.N) (r : Fin 256) (l : Fin 32) (h : t.val * 256 + r.val < 8704) :
    k0_pay3 (grid0.coords t) (iblk m c 0 t) (iblk m c 1 t) (iblk m c 2 t) (iblk m c 3 t) (iblk m c 4 t) (iblk m c 5 t) (ix2 r l)
      = steps (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 ⟨t.val * 256 + r.val, h⟩ l) := by
  rw [step_apply, steps_apply]
  refine Finset.sum_congr rfl fun k _ => ?_
  rw [block_normed_eq m c t r k h, cols_eq m c t l k]

/-! ## The arrays -/

/-- The outputs' blocks: point `t` writes rows `256 t … 256 t + 255`. -/
theorem out_index_eq : ∀ t : Fin cfg0.N, (win0_6.index t (0 : Fin 2) = t.val ∧ win0_6.index t (1 : Fin 2) = 0 ∧ (cfg0.win 6).flush t = true)
    ∧ (win0_7.index t (0 : Fin 2) = t.val ∧ win0_7.index t (1 : Fin 2) = 0 ∧ (cfg0.win 7).flush t = true)
    ∧ (win0_8.index t (0 : Fin 2) = t.val ∧ win0_8.index t (1 : Fin 2) = 0 ∧ (cfg0.win 8).flush t = true) :=
  (by decide +kernel : ∀ t : Fin grid0.N, _)

/-- The block of sums a point writes out is a block of their array. -/
theorem written6_eq (c : Dev nD) (t : Fin cfg0.N) :
    (dats m 0 c).flushed 6 t = ((cfg0.win 6).blk t).view.read (Elt Ideal)
      (added (m ((c : Thread nD τ).loc main_arg0)) (m ((c : Thread nD τ).loc main_arg1)) (m ((c : Thread nD τ).loc main_arg2)) (m ((c : Thread nD τ).loc main_arg3))
        : Buf (Elt Ideal) ((c : Thread nD τ).loc main_v7_0)) := by
  have hN : t.val < 34 := t.isLt
  obtain ⟨⟨e0, e1, -⟩, -⟩ := out_index_eq t
  rw [flushed6]
  unfold out0_6
  rw [View.canon_unit_zero zero2]
  simp only [View.ld_unit_zero (S := S256x4096) zero2, View.ld_unit_zero (S := S1x4096x2048) zero3, View.ld_unit_zero (S := S256x2048) zero2]
  funext y
  rw [View.read_apply]
  have hy0 : (y 0).val < 256 := (y 0).isLt
  have hy1 : (y 1).val < 2048 := (y 1).isLt
  have hx : (cfg0.win 6).xinj (grid0.coords t) y = ix2 ⟨(y 0).val, hy0⟩ ⟨(y 1).val, hy1⟩ := by
    funext a; apply Fin.ext
    match a with
    | ⟨0, _⟩ => rfl
    | ⟨1, _⟩ => rfl
  show k0_pay1 (F := Ideal) _ _ _ _ _ ((cfg0.win 6).xinj (grid0.coords t) y) = added _ _ _ _ (((cfg0.win 6).blk t).view.emb y)
  rw [hx, block_added_eq m c t ⟨(y 0).val, hy0⟩ ⟨(y 1).val, hy1⟩ (by dsimp only; omega)]
  congr 1
  funext a; apply Fin.ext
  match a with
  | ⟨0, _⟩ => show t.val * 256 + (y 0).val = win0_6.index t 0 * 256 + 1 * (y 0).val; rw [e0]; omega
  | ⟨1, _⟩ => show (y 1).val = win0_6.index t 1 * 2048 + 1 * (y 1).val; rw [e1]; omega

/-- Every row lies in a written block of sums. -/
theorem covered6 (i : S8704x2048.Idx) : ∃ t : Fin cfg0.N, (cfg0.win 6).flush t = true ∧ i ∈ ((cfg0.win 6).blk t).view.set := by
  have h0 : (i 0).val < 8704 := (i 0).isLt
  have h1 : (i 1).val < 2048 := (i 1).isLt
  have ht : (i 0).val / 256 < grid0.N := by show (i 0).val / 256 < 34; omega
  obtain ⟨⟨e0, e1, hf⟩, -⟩ := out_index_eq ⟨(i 0).val / 256, ht⟩
  refine ⟨⟨(i 0).val / 256, ht⟩, hf, ?_⟩
  show i ∈ ((View.whole main_v7_0).slice (win0_6.rect ⟨(i 0).val / 256, ht⟩)).set
  rw [View.set_slice_whole, Rect.mem_set_unit]
  intro a
  match a with
  | ⟨0, _⟩ => show win0_6.index _ (0 : Fin 2) * 256 ≤ (i 0).val ∧ (i 0).val < win0_6.index _ (0 : Fin 2) * 256 + 256; rw [e0]; dsimp only; omega
  | ⟨1, _⟩ => show win0_6.index _ (1 : Fin 2) * 2048 ≤ (i 1).val ∧ (i 1).val < win0_6.index _ (1 : Fin 2) * 2048 + 2048; rw [e1]; omega

/-- The block of norms a point writes out is a block of their array. -/
theorem written7_eq (c : Dev nD) (t : Fin cfg0.N) :
    (dats m 0 c).flushed 7 t = ((cfg0.win 7).blk t).view.read (Elt Ideal)
      (normed (m ((c : Thread nD τ).loc main_arg0)) (m ((c : Thread nD τ).loc main_arg1)) (m ((c : Thread nD τ).loc main_arg2)) (m ((c : Thread nD τ).loc main_arg3)) (m ((c : Thread nD τ).loc main_arg4))
        : Buf (Elt Ideal) ((c : Thread nD τ).loc main_v7_1)) := by
  have hN : t.val < 34 := t.isLt
  obtain ⟨-, ⟨e0, e1, -⟩, -⟩ := out_index_eq t
  rw [flushed7]
  unfold out0_7
  rw [View.canon_unit_zero zero2]
  simp only [View.ld_unit_zero (S := S256x4096) zero2, View.ld_unit_zero (S := S1x4096x2048) zero3, View.ld_unit_zero (S := S256x2048) zero2, View.ld_unit_zero (S := S1x2048) zero2]
  funext y
  rw [View.read_apply]
  have hy0 : (y 0).val < 256 := (y 0).isLt
  have hy1 : (y 1).val < 2048 := (y 1).isLt
  have hx : (cfg0.win 7).xinj (grid0.coords t) y = ix2 ⟨(y 0).val, hy0⟩ ⟨(y 1).val, hy1⟩ := by
    funext a; apply Fin.ext
    match a with
    | ⟨0, _⟩ => rfl
    | ⟨1, _⟩ => rfl
  show k0_pay2 (F := Ideal) _ _ _ _ _ _ ((cfg0.win 7).xinj (grid0.coords t) y) = normed _ _ _ _ _ (((cfg0.win 7).blk t).view.emb y)
  rw [hx, block_normed_eq m c t ⟨(y 0).val, hy0⟩ ⟨(y 1).val, hy1⟩ (by dsimp only; omega)]
  congr 1
  funext a; apply Fin.ext
  match a with
  | ⟨0, _⟩ => show t.val * 256 + (y 0).val = win0_7.index t 0 * 256 + 1 * (y 0).val; rw [e0]; omega
  | ⟨1, _⟩ => show (y 1).val = win0_7.index t 1 * 2048 + 1 * (y 1).val; rw [e1]; omega

/-- Every row lies in a written block of norms. -/
theorem covered7 (i : S8704x2048.Idx) : ∃ t : Fin cfg0.N, (cfg0.win 7).flush t = true ∧ i ∈ ((cfg0.win 7).blk t).view.set := by
  have h0 : (i 0).val < 8704 := (i 0).isLt
  have h1 : (i 1).val < 2048 := (i 1).isLt
  have ht : (i 0).val / 256 < grid0.N := by show (i 0).val / 256 < 34; omega
  obtain ⟨-, ⟨e0, e1, hf⟩, -⟩ := out_index_eq ⟨(i 0).val / 256, ht⟩
  refine ⟨⟨(i 0).val / 256, ht⟩, hf, ?_⟩
  show i ∈ ((View.whole main_v7_1).slice (win0_7.rect ⟨(i 0).val / 256, ht⟩)).set
  rw [View.set_slice_whole, Rect.mem_set_unit]
  intro a
  match a with
  | ⟨0, _⟩ => show win0_7.index _ (0 : Fin 2) * 256 ≤ (i 0).val ∧ (i 0).val < win0_7.index _ (0 : Fin 2) * 256 + 256; rw [e0]; dsimp only; omega
  | ⟨1, _⟩ => show win0_7.index _ (1 : Fin 2) * 2048 ≤ (i 1).val ∧ (i 1).val < win0_7.index _ (1 : Fin 2) * 2048 + 2048; rw [e1]; omega

/-- The block of products a point writes out is a block of their array. -/
theorem written8_eq (c : Dev nD) (t : Fin cfg0.N) :
    (dats m 0 c).flushed 8 t = ((cfg0.win 8).blk t).view.read (Elt Ideal)
      (steps (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        : Buf (Elt Ideal) ((c : Thread nD τ).loc main_v7_2)) := by
  have hN : t.val < 34 := t.isLt
  obtain ⟨-, -, e0, e1, -⟩ := out_index_eq t
  rw [flushed8]
  unfold out0_8
  rw [View.canon_unit_zero zero2]
  simp only [View.ld_unit_zero (S := S256x4096) zero2, View.ld_unit_zero (S := S1x4096x2048) zero3, View.ld_unit_zero (S := S256x2048) zero2, View.ld_unit_zero (S := S1x2048) zero2, View.ld_unit_zero (S := S1x32x2048) zero3]
  funext y
  rw [View.read_apply]
  have hy0 : (y 0).val < 256 := (y 0).isLt
  have hy1 : (y 1).val < 32 := (y 1).isLt
  have hx : (cfg0.win 8).xinj (grid0.coords t) y = ix2 ⟨(y 0).val, hy0⟩ ⟨(y 1).val, hy1⟩ := by
    funext a; apply Fin.ext
    match a with
    | ⟨0, _⟩ => rfl
    | ⟨1, _⟩ => rfl
  show k0_pay3 (F := Ideal) _ _ _ _ _ _ _ ((cfg0.win 8).xinj (grid0.coords t) y) = steps _ _ _ _ _ _ (((cfg0.win 8).blk t).view.emb y)
  rw [hx, block_steps_eq m c t ⟨(y 0).val, hy0⟩ ⟨(y 1).val, hy1⟩ (by dsimp only; omega)]
  congr 1
  funext a; apply Fin.ext
  match a with
  | ⟨0, _⟩ => show t.val * 256 + (y 0).val = win0_8.index t 0 * 256 + 1 * (y 0).val; rw [e0]; omega
  | ⟨1, _⟩ => show (y 1).val = win0_8.index t 1 * 32 + 1 * (y 1).val; rw [e1]; omega

/-- Every row lies in a written block of products. -/
theorem covered8 (i : S8704x32.Idx) : ∃ t : Fin cfg0.N, (cfg0.win 8).flush t = true ∧ i ∈ ((cfg0.win 8).blk t).view.set := by
  have h0 : (i 0).val < 8704 := (i 0).isLt
  have h1 : (i 1).val < 32 := (i 1).isLt
  have ht : (i 0).val / 256 < grid0.N := by show (i 0).val / 256 < 34; omega
  obtain ⟨-, -, e0, e1, hf⟩ := out_index_eq ⟨(i 0).val / 256, ht⟩
  refine ⟨⟨(i 0).val / 256, ht⟩, hf, ?_⟩
  show i ∈ ((View.whole main_v7_2).slice (win0_8.rect ⟨(i 0).val / 256, ht⟩)).set
  rw [View.set_slice_whole, Rect.mem_set_unit]
  intro a
  match a with
  | ⟨0, _⟩ => show win0_8.index _ (0 : Fin 2) * 256 ≤ (i 0).val ∧ (i 0).val < win0_8.index _ (0 : Fin 2) * 256 + 256; rw [e0]; dsimp only; omega
  | ⟨1, _⟩ => show win0_8.index _ (1 : Fin 2) * 32 ≤ (i 1).val ∧ (i 1).val < win0_8.index _ (1 : Fin 2) * 32 + 32; rw [e1]; omega

/-- The run of the kernel: the three results, the arguments unchanged. -/
theorem run_added : θ_run defs (onTc (τ := τ) (main (F := Ideal))) ⟨m, fun _ => 0, ρ⟩ fun r => ∀ c : Dev nD,
      r.2.mem ((c : Thread nD τ).loc main_v7_0) = added (m ((c : Thread nD τ).loc main_arg0)) (m ((c : Thread nD τ).loc main_arg1)) (m ((c : Thread nD τ).loc main_arg2)) (m ((c : Thread nD τ).loc main_arg3))
      ∧ r.2.mem ((c : Thread nD τ).loc main_v7_1) = normed (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v7_2) = steps (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨(h c).1.trans ((dats m 0 c).arrAt_eq_of_cover 6 _ (fun t _ => written6_eq m c t) covered6),
        (h c).2.1.trans ((dats m 0 c).arrAt_eq_of_cover 7 _ (fun t _ => written7_eq m c t) covered7),
        (h c).2.2.1.trans ((dats m 0 c).arrAt_eq_of_cover 8 _ (fun t _ => written8_eq m c t) covered8), (h c).2.2.2⟩)
    (run_blocks m ρ)

end Cert.OutProjIdeal.Block

/-! ## The reference -/

namespace Cert.OutProjRefIdeal.Block

open Cert.OutProjRefIdeal Cert.OutProjRefIdeal.Read Idealize.ShloMosaic Idealize.ShloMosaic.TcCoe Idealize.SL.Sem
open Cert.Rows

variable (y : Vec Ideal S8704x4096 .bf16) (w : Vec Ideal S2x4096x2048 .f32) (xp : Vec Ideal S4x2048x2048 .f32) (xs : Vec Ideal S128x4x2048 .f32)
  (nw : Vec Ideal S2x2048 .f32) (wi : Vec Ideal S2x2048x10272 .f32)

/-- The rows the reference stacks. -/
theorem stacked_eq (i : Fin 8704) (k : Fin 2048) :
    val_main_v2 (F := Ideal) xp xs (ix2 i k) = stacked (val_main_v0 (F := Ideal) xp) (val_main_v1 (F := Ideal) xs) i k := by
  unfold val_main_v2
  generalize val_main_v0 (F := Ideal) xp = p
  generalize val_main_v1 (F := Ideal) xs = s
  unfold stacked
  pointwise

/-- The product. -/
theorem product_eq (i : Fin 8704) (k : Fin 2048) :
    val_main_v6 (F := Ideal) y w (ix2 i k) = ∑ j : Fin 4096, (y (ix2 i j) : EReal) * w (ix3 0 j k) := by
  pointwise [val_main_v6, val_main_v5, val_main_v4, val_main_v3]

/-- The sum: the reference adds the product to the rows, the kernel the rows to the product. -/
theorem added_eq (i : Fin 8704) (k : Fin 2048) :
    val_main_v7 (F := Ideal) y w xp xs (ix2 i k) = Cert.OutProjIdeal.Block.added y w xp xs (ix2 i k) := by
  have e : val_main_v7 (F := Ideal) y w xp xs (ix2 i k) = val_main_v2 (F := Ideal) xp xs (ix2 i k) + val_main_v6 (F := Ideal) y w (ix2 i k) := by
    unfold val_main_v7
    generalize val_main_v2 (F := Ideal) xp xs = p
    generalize val_main_v6 (F := Ideal) y w = q
    pointwise
  rw [e, stacked_eq, product_eq, add_comm]
  rfl

/-- The norm before its cast. -/
theorem norm_eq (i : Fin 8704) (k : Fin 2048) :
    val_main_v22 (F := Ideal) y w xp xs nw (ix2 i k) = Cert.OutProjIdeal.Block.normed y w xp xs nw (ix2 i k) := by
  have e := rms_congr (w := fun k => nw (ix2 1 k)) (fun k => added_eq y w xp xs i k) (fun _ => rfl) k
  refine Eq.trans ?_ e
  unfold rms val_main_v22 val_main_v19 val_main_v18 val_main_v17 val_main_v16 val_main_v15 val_main_v14 val_main_v13 val_main_v12 val_main_v11
    val_main_v10 val_main_v21 val_main_v20 val_main_v9 val_main_v8 val_main_cst val_main_cst_0 val_main_cst_1
  generalize val_main_v7 (F := Ideal) y w xp xs = x
  pointwise

theorem result0_eq : val_main_v7 (F := Ideal) y w xp xs = Cert.OutProjIdeal.Block.added y w xp xs := by
  funext i
  rw [eq_ix2 i]
  exact added_eq y w xp xs _ _

theorem result1_eq : val_main_v23 (F := Ideal) y w xp xs nw = Cert.OutProjIdeal.Block.normed y w xp xs nw := by
  funext i
  rw [eq_ix2 i]
  exact norm_eq y w xp xs nw _ _

theorem result2_eq : val_main_v26 (F := Ideal) y w xp xs nw wi = Cert.OutProjIdeal.Block.steps y w xp xs nw wi := by
  suffices h : ∀ (i : Fin 8704) (l : Fin 32), val_main_v26 (F := Ideal) y w xp xs nw wi (ix2 i l) = Cert.OutProjIdeal.Block.steps y w xp xs nw wi (ix2 i l) by
    funext i
    rw [eq_ix2 i]
    exact h _ _
  intro i l
  rw [Cert.OutProjIdeal.Block.steps_apply]
  refine Eq.trans (b := ∑ k : Fin 2048, val_main_v22 (F := Ideal) y w xp xs nw (ix2 i k) * val_main_v25 (F := Ideal) wi (ix2 k l)) ?_ ?_
  · unfold val_main_v26
    generalize val_main_v22 (F := Ideal) y w xp xs nw = p
    pointwise
  · refine Finset.sum_congr rfl fun k _ => ?_
    rw [norm_eq y w xp xs nw]
    refine congrArg₂ (fun a b : EReal => a * b) rfl ?_
    pointwise [val_main_v25, val_main_v24]

end Cert.OutProjRefIdeal.Block

/-! ## The claim -/

namespace Cert.Proof

open Idealize.ShloMosaic Idealize.ShloMosaic.TcCoe Idealize.SL.Sem

/-- `out_proj` of the first layer computes the sum, its row norm and the products with the step-size columns. -/
theorem outProj_algebraic : Cert.algebraic_OutProjIdeal_OutProjRefIdeal (hOutProjIdeal := Cert.OutProjIdeal.Gen.facts) (hOutProjRefIdeal := Cert.OutProjRefIdeal.Gen.facts) :=
  fun m ρ m' ρ' _ hag =>
    ⟨_, _, _, Cert.OutProjIdeal.Block.run_added m ρ,
      (θ_run _ _ _).mono (fun _ h c => by
        obtain ⟨a0, a1, a2, a3, a4, a5⟩ := hag c
        obtain ⟨h0, h1, h2, hk⟩ := h c
        exact ⟨h0.trans ((Cert.OutProjRefIdeal.Block.result0_eq _ _ _ _).trans (by rw [a0, a1, a2, a3])),
          h1.trans ((Cert.OutProjRefIdeal.Block.result1_eq _ _ _ _ _).trans (by rw [a0, a1, a2, a3, a4])),
          h2.trans ((Cert.OutProjRefIdeal.Block.result2_eq _ _ _ _ _ _).trans (by rw [a0, a1, a2, a3, a4, a5])), hk⟩)
        (Cert.OutProjRefIdeal.Value.run m' ρ')⟩

end Cert.Proof

end

end
-- ==== Proof.OutLastFrame.lean ====
/-
  THE RUN of the last layer's output projection.  Its two outputs share one grid: the points 0 … 31 store a block of the
  prompt's rows and leave the sample's buffer as they find it, the points 32 and 33 the other way about.  The prompt's
  buffer is written back once more after the last point, and still holds what point 31 stored.
-/
module

public import proofs.«01_k».proof.Proof.Gen.OutLastIdeal.Skeleton
public import proofs.«01_k».proof.Proof.Gen.OutLastIdeal.Frame
public import Idealize.ShloMosaic.Lib.Pipeline.TableIdle
public import Idealize.ShloMosaic.Lib.Claim

@[expose] public section

set_option maxRecDepth 16384

noncomputable section

namespace Cert.OutLastIdeal.Last

open Cert.OutLastIdeal Cert.OutLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The whole of a block of activations, of the output weights, of 256 rows and of the norm's weights. -/
abbrev wholeY : Rect S256x4096 := Rect.unit (s := S256x4096) ![0, 0] S256x4096.size inb_S256x4096_S256x4096_0_0
abbrev wholeW : Rect S1x4096x2048 := Rect.unit (s := S1x4096x2048) ![0, 0, 0] S1x4096x2048.size inb_S1x4096x2048_S1x4096x2048_0_0_0
abbrev wholeX : Rect S256x2048 := Rect.unit (s := S256x2048) ![0, 0] S256x2048.size inb_S256x2048_S256x2048_0_0
abbrev wholeN : Rect S1x2048 := Rect.unit (s := S1x2048) ![0, 0] S1x2048.size inb_S1x2048_S1x2048_0_0

/-- The block of normed rows the body stores, into whichever output its point has. -/
def stored (y : Vec F S256x4096 .bf16) (w : Vec F S1x4096x2048 .bf16) (x : Vec F S256x2048 .f32) (nw : Vec F S1x2048 .f32) : Vec F S256x2048 .f32 :=
  View.canon [⟨wholeX, k0_pay1 (View.ld y wholeY) (View.ld w wholeW) (View.ld x wholeX) (View.ld nw wholeN)⟩]

/-- That one store covers the buffer. -/
theorem covers (p : Vec F S256x2048 .f32) (y : S256x2048.Idx) : ∃ pc ∈ ([⟨wholeX, p⟩] : List (View.Piece (Elt F) S256x2048 .f32)), y ∈ pc.1.set :=
  View.cover_of_tiled [⟨wholeX, p⟩] S256x2048.size (by rfl) y

set_option maxHeartbeats 1000000 in
/-- A point of the prompt stores its block into the first output and leaves the second. -/
theorem body_low (c : Dev nD) (E : Set ℕ) (i : grid0.Coords) (arg1 : Memref sig .tc .vmem S256x4096 .bf16) (harg1 : arg1.IsWhole)
    (arg2 : Memref sig .tc .vmem S1x4096x2048 .bf16) (harg2 : arg2.IsWhole) (arg3 : Memref sig .tc .vmem S256x2048 .f32) (harg3 : arg3.IsWhole)
    (arg4 : Memref sig .tc .vmem S1x2048 .f32) (harg4 : arg4.IsWhole) (arg5 : Memref sig .tc .vmem S256x2048 .f32) (harg5 : arg5.IsWhole)
    (arg6 : Memref sig .tc .vmem S256x2048 .f32) (harg6 : arg6.IsWhole)
    (y : Vec F S256x4096 .bf16) (w : Vec F S1x4096x2048 .bf16) (x : Vec F S256x2048 .f32) (nw : Vec F S1x2048 .f32) (d : Vec F S256x2048 .f32)
    (K : PUnit → sProp 𝕄) (h1 : k0_cond1 i = 1#1) (h2 : ¬ k0_cond2 i = 1#1) :
    iprop(owns (c : Thread nD τ) arg1 fullShare y ∗ owns (c : Thread nD τ) arg2 fullShare w ∗ owns (c : Thread nD τ) arg3 fullShare x ∗ owns (c : Thread nD τ) arg4 fullShare nw ∗ (∃ d, owns (c : Thread nD τ) arg5 fullShare d) ∗ owns (c : Thread nD τ) arg6 fullShare d
        ∗ (iprop(owns (c : Thread nD τ) arg1 fullShare y ∗ owns (c : Thread nD τ) arg2 fullShare w ∗ owns (c : Thread nD τ) arg3 fullShare x ∗ owns (c : Thread nD τ) arg4 fullShare nw ∗ owns (c : Thread nD τ) arg5 fullShare (stored y w x nw) ∗ owns (c : Thread nD τ) arg6 fullShare d) -∗ K ⟨⟩))
      ⊢ wp frame (wpE (defs₀ (F := F)) Variants.none c none) E (cc0_out_proj i arg1 harg1 arg2 harg2 arg3 harg3 arg4 harg4 arg5 harg5 arg6 harg6) K := by
  simp only [cc0_out_proj_eq_skeleton]; unfold cc0_out_proj_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (covers _)
  iexists f6; isplitr; · ipureintro; rfl
  iexact H6

set_option maxHeartbeats 1000000 in
/-- A point of the sample leaves the first output and stores its block into the second. -/
theorem body_high (c : Dev nD) (E : Set ℕ) (i : grid0.Coords) (arg1 : Memref sig .tc .vmem S256x4096 .bf16) (harg1 : arg1.IsWhole)
    (arg2 : Memref sig .tc .vmem S1x4096x2048 .bf16) (harg2 : arg2.IsWhole) (arg3 : Memref sig .tc .vmem S256x2048 .f32) (harg3 : arg3.IsWhole)
    (arg4 : Memref sig .tc .vmem S1x2048 .f32) (harg4 : arg4.IsWhole) (arg5 : Memref sig .tc .vmem S256x2048 .f32) (harg5 : arg5.IsWhole)
    (arg6 : Memref sig .tc .vmem S256x2048 .f32) (harg6 : arg6.IsWhole)
    (y : Vec F S256x4096 .bf16) (w : Vec F S1x4096x2048 .bf16) (x : Vec F S256x2048 .f32) (nw : Vec F S1x2048 .f32) (d : Vec F S256x2048 .f32)
    (K : PUnit → sProp 𝕄) (h1 : ¬ k0_cond1 i = 1#1) (h2 : k0_cond2 i = 1#1) :
    iprop(owns (c : Thread nD τ) arg1 fullShare y ∗ owns (c : Thread nD τ) arg2 fullShare w ∗ owns (c : Thread nD τ) arg3 fullShare x ∗ owns (c : Thread nD τ) arg4 fullShare nw ∗ owns (c : Thread nD τ) arg5 fullShare d ∗ (∃ d, owns (c : Thread nD τ) arg6 fullShare d)
        ∗ (iprop(owns (c : Thread nD τ) arg1 fullShare y ∗ owns (c : Thread nD τ) arg2 fullShare w ∗ owns (c : Thread nD τ) arg3 fullShare x ∗ owns (c : Thread nD τ) arg4 fullShare nw ∗ owns (c : Thread nD τ) arg5 fullShare d ∗ owns (c : Thread nD τ) arg6 fullShare (stored y w x nw)) -∗ K ⟨⟩))
      ⊢ wp frame (wpE (defs₀ (F := F)) Variants.none c none) E (cc0_out_proj i arg1 harg1 arg2 harg2 arg3 harg3 arg4 harg4 arg5 harg5 arg6 harg6) K := by
  simp only [cc0_out_proj_eq_skeleton]; unfold cc0_out_proj_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers _)

/-! ## The schedule -/

/-- The points before 32 store the prompt's rows, the others the sample's. -/
theorem side : ∀ t : Fin cfg0.N, (t.val < 32 → k0_cond1 (grid0.coords t) = 1#1 ∧ ¬ k0_cond2 (grid0.coords t) = 1#1)
    ∧ (¬ t.val < 32 → ¬ k0_cond1 (grid0.coords t) = 1#1 ∧ k0_cond2 (grid0.coords t) = 1#1) :=
  (by decide +kernel : ∀ t : Fin grid0.N, _)

/-- So the first output is idle at the last two points, the second at the others, where it is not written back. -/
theorem idle4 : ∀ t : Fin cfg0.N, cfg0.idle 4 (cfg0.grid.coords t) = !decide (t.val < 32) := (by decide +kernel : ∀ t : Fin grid0.N, _)
theorem idle5 : ∀ t : Fin cfg0.N, cfg0.idle 5 (cfg0.grid.coords t) = decide (t.val < 32) := (by decide +kernel : ∀ t : Fin grid0.N, _)
theorem flush5 : ∀ t : Fin cfg0.N, (cfg0.win 5).flush t = !decide (t.val < 32) := (by decide +kernel : ∀ t : Fin grid0.N, _)
theorem fresh4 : ∀ t : Fin cfg0.N, ¬ t.val < 32 → cfg0.fresh 4 t.val = false := (by decide +kernel : ∀ t : Fin grid0.N, _)

/-- The point whose block the first output's buffer holds after point `t`. -/
def source (t : Fin cfg0.N) : Fin cfg0.N := ⟨min t.val 31, lt_of_le_of_lt (Nat.min_le_left _ _) t.isLt⟩

/-! ## The proof data -/

/-- What point `t` stores. -/
def block (c : Dev nD) (t : Fin cfg0.N) : Vec F S256x2048 .f32 := stored (iblk m c 0 t) (iblk m c 1 t) (iblk m c 2 t) (iblk m c 3 t)

/-- The arrays as the region finds them; after a point each input's buffer holds its block, the first output's that of the
    last point of the prompt up to then, the second's that of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c (source t)
    | ⟨5, _⟩ => block m c t
  Φ _ := Pipeline.ΦA spec0 c
  q _ := fullShare
  owed _ := 0

theorem array_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = block m c (source t) := by dsimp only [dats]
theorem after5 (c : Dev nD) (t : Fin cfg0.N) : (dats m 0 c).after 5 t = block m c t := by dsimp only [dats]

theorem before0 (c : Dev nD) (t : Fin cfg0.N) (d) : (dats m 0 c).before 0 t d = iblk m c 0 t :=
  before0_0_of m (dats m 0 c) (array_eq m c 0) (after0 m c) t d
theorem before1 (c : Dev nD) (t : Fin cfg0.N) (d) : (dats m 0 c).before 1 t d = iblk m c 1 t :=
  before0_1_of m (dats m 0 c) (array_eq m c 1) (after1 m c) t d
theorem before2 (c : Dev nD) (t : Fin cfg0.N) (d) : (dats m 0 c).before 2 t d = iblk m c 2 t :=
  before0_2_of m (dats m 0 c) (array_eq m c 2) (after2 m c) t d
theorem before3 (c : Dev nD) (t : Fin cfg0.N) (d) : (dats m 0 c).before 3 t d = iblk m c 3 t :=
  before0_3_of m (dats m 0 c) (array_eq m c 3) (after3 m c) t d

/-- From point 32 on the source stays. -/
theorem source_eq (t : Fin cfg0.N) (h : ¬ t.val < 32) (u : Fin cfg0.N) (hu : u.val = t.val - 1) : source t = source u := by
  apply Fin.ext
  show min t.val 31 = min u.val 31
  omega

theorem source_low (t : Fin cfg0.N) (h : t.val < 32) : source t = t := by
  apply Fin.ext
  show min t.val 31 = t.val
  omega

/-- At the last two points the body finds in the first output's buffer what point 31 stored. -/
theorem before4 (c : Dev nD) (t : Fin cfg0.N) (h : ¬ t.val < 32) (d) : (dats m 0 c).before 4 t d = block m c (source t) := by
  have e := (dats m 0 c).before_out_traj 4 rfl (fun _ _ => rfl) (fun u h0 hi _ => by
    rw [idle4 u] at hi
    have hu : ¬ u.val < 32 := by simpa using hi
    rw [after4, after4, source_eq u hu ⟨u.val - 1, _⟩ rfl]) t.val t rfl d
  rw [e, fresh4 t h, if_neg Bool.false_ne_true, after4, source_eq t h ⟨t.val - 1, _⟩ rfl]

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- At a point of the prompt the first output's buffer is left at the point's block, -/
theorem leaves4_low (c : Dev nD) (t : Fin cfg0.N) (h : t.val < 32) :
    (dats m 0 c).leavesExact 4 t = owns (c : Thread nD τ) (st0_4 t) fullShare (block m c t) := by
  have e : cfg0.idle 4 (cfg0.grid.coords t) = false := by rw [idle4 t]; simpa using h
  unfold Dat.leavesExact
  rewrite [e]
  dsimp only
  rw [after4, source_low t h]

/-- and the second's as it was found; -/
theorem leaves5_low (c : Dev nD) (t : Fin cfg0.N) (h : t.val < 32) :
    (dats m 0 c).leavesExact 5 t = iprop(∃ d, owns (c : Thread nD τ) (st0_5 t) fullShare ((dats m 0 c).before 5 t d)) :=
  (dats m 0 c).leavesExact_idle 5 t (by rw [idle5 t]; simpa using h) (by rw [flush5 t]; simpa using h)

/-- at a point of the sample the second's is left at the point's block, -/
theorem leaves5_high (c : Dev nD) (t : Fin cfg0.N) (h : ¬ t.val < 32) :
    (dats m 0 c).leavesExact 5 t = owns (c : Thread nD τ) (st0_5 t) fullShare (block m c t) := by
  have e : cfg0.idle 5 (cfg0.grid.coords t) = false := by rw [idle5 t]; simpa using h
  unfold Dat.leavesExact
  rewrite [e]
  dsimp only
  rw [after5]

/-- and the first's at what it held, written back or not. -/
theorem leaves4_high (c : Dev nD) (t : Fin cfg0.N) (h : ¬ t.val < 32) :
    owns (c : Thread nD τ) (st0_4 t) fullShare (block m c (source t)) ⊢ ((dats m 0 c).leavesExact 4 t : sProp 𝕄) := by
  have e : cfg0.idle 4 (cfg0.grid.coords t) = true := by rw [idle4 t]; simpa using h
  unfold Dat.leavesExact
  rewrite [e]
  dsimp only
  cases hf : (cfg0.win 4).flush t
  · dsimp only
    iintro H
    iexists (block m c (source t))
    rw [before4 m c t h]
    iexact H
  · dsimp only
    rw [after4]

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val < 32
  · obtain ⟨h1, h2⟩ := (side t).1 h
    unfold bodyPre bodyPost bodyAt0
    simp only [before0, before1, before2, before3]
    rw [leaves4_low m c t h, leaves5_low m c t h, show (dats m 0 c).Φ t.succ = (dats m 0 c).Φ t.castSucc from rfl,
      show (dats m 0 c).owesAt () t.succ = (dats m 0 c).owesAt () t.castSucc from rfl, after0, after1, after2, after3]
    iintro ⟨HΦ, Ho, ⟨%d0, H0⟩, ⟨%d1, H1⟩, ⟨%d2, H2⟩, ⟨%d3, H3⟩, ⟨%d4, H4⟩, ⟨%d5, H5⟩⟩
    iapply (body_low c Set.univ (grid0.coords t) _ _ _ _ _ _ _ _ _ _ _ _ (iblk m c 0 t) (iblk m c 1 t) (iblk m c 2 t) (iblk m c 3 t)
      ((dats m 0 c).before 5 t d5) _ h1 h2)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexists d5
    iexact H5
  · obtain ⟨h1, h2⟩ := (side t).2 h
    unfold bodyPre bodyPost bodyAt0
    simp only [before0, before1, before2, before3, before4 m c t h]
    rw [leaves5_high m c t h, show (dats m 0 c).Φ t.succ = (dats m 0 c).Φ t.castSucc from rfl,
      show (dats m 0 c).owesAt () t.succ = (dats m 0 c).owesAt () t.castSucc from rfl, after0, after1, after2, after3]
    iintro ⟨HΦ, Ho, ⟨%d0, H0⟩, ⟨%d1, H1⟩, ⟨%d2, H2⟩, ⟨%d3, H3⟩, ⟨%d4, H4⟩, ⟨%d5, H5⟩⟩
    iapply (body_high c Set.univ (grid0.coords t) _ _ _ _ _ _ _ _ _ _ _ _ (iblk m c 0 t) (iblk m c 1 t) (iblk m c 2 t) (iblk m c 3 t)
      (block m c (source t)) _ h1 h2)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves4_high m c t h); iexact H4
    iexact H5

/-- The row of the body table a point runs. -/
theorem defs₀_row (t : Fin cfg0.N) : defs₀ (F := F) .tc cfg0.body (cfg0.bodyArgs t (cfg0.slots t)) = bodyAt0 t := by
  unfold defs₀; rw [Defs.onTc_tc]

/-- The obligation of the library, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: every array of the region ends at what the proof data says, every other buffer as the region found it, every
    semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := array_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (array_eq m) (run_post m ρ)) ((θ_run defs _ _).mono (fun _ h => h.2) (run_quiescent m ρ))

end Cert.OutLastIdeal.Last

end

end
-- ==== Proof.OutLastBits.lean ====
/-
  THE FRAME of the last layer's output projection over the machine's own numbers.  The ideal program is the same program,
  operation by operation, so its run, proved for any numbers, is this one's.
-/
module

public import proofs.«01_k».proof.Defs
public import proofs.«01_k».proof.Proof.Gen.OutLast
public import proofs.«01_k».proof.Proof.OutLastFrame

@[expose] public section

set_option maxRecDepth 65536
set_option backward.isDefEq.respectTransparency false

noncomputable section

namespace Cert.Proof

open Idealize.ShloMosaic Idealize.ShloMosaic.TcCoe Idealize.SL.Sem

/-- The two programs have the same body, -/
theorem outLast_body_eq : @Cert.OutLast.cc0_out_proj Bits _ _ = @Cert.OutLastIdeal.cc0_out_proj Bits _ _ := rfl

/-- the same table of bodies, -/
theorem outLast_bodies_eq : @Cert.OutLast.defs₀ Bits _ _ = @Cert.OutLastIdeal.defs₀ Bits _ _ := by
  unfold Cert.OutLast.defs₀ Cert.OutLastIdeal.defs₀
  refine congrArg Defs.onTc ?_
  funext ℓ a
  match ℓ, a with
  | 0, (t, s) => rfl

/-- the same pipelines over it, -/
theorem outLast_defs_eq : @Cert.OutLast.defs Bits _ _ = @Cert.OutLastIdeal.defs Bits _ _ := by
  unfold Cert.OutLast.defs Cert.OutLastIdeal.defs
  exact congrArg (Pipeline.defs Cert.OutLastIdeal.pcfgs) outLast_bodies_eq

/-- and the same main function. -/
theorem outLast_main_eq : @Cert.OutLast.main Bits _ _ = @Cert.OutLastIdeal.main Bits _ _ := rfl

/-- The frame of `OutLast`. -/
theorem outLast_frame : Cert.quiescent_OutLast (hOutLast := Cert.OutLast.Gen.facts) := fun m ρ _ => by
  rw [outLast_defs_eq, outLast_main_eq]
  exact Cert.OutLastIdeal.Last.frame (F := Bits) m ρ

end Cert.Proof

end

end
-- ==== Proof.OutLastValue.lean ====
/-
  THE OUTPUT PROJECTION of the last layer, with the final norm.  A grid point holds 256 rows: it multiplies the mixed
  activations with the layer's output weights, adds the incoming rows and writes the row norm of the sum, for the first
  32 points into the prompt's rows, for the last two into the sample's.  The reference norms all 8704 rows at once and
  takes the two parts of them.
-/
module

public import proofs.«01_k».proof.Defs
public import proofs.«01_k».proof.Proof.Rows
public import proofs.«01_k».proof.Proof.OutLastFrame
public import proofs.«01_k».proof.Proof.Gen.OutLastRefIdeal.Run
public import proofs.«01_k».proof.Proof.Gen.OutLastRefIdeal.Read
public import Idealize.ShloMosaic.Lib.Pointwise

@[expose] public section

set_option maxRecDepth 16384

noncomputable section

namespace Cert.OutLastIdeal.Block

open Cert.OutLastIdeal Cert.OutLastIdeal.Gen Cert.OutLastIdeal.Last Idealize.ShloMosaic Idealize.ShloMosaic.TcCoe Idealize.SL.Sem
open Idealize.ShloMosaic.Pipeline (Dat)
open Cert.Rows

/-- A row after the layer: the mixed activations times the output weights, plus the incoming row. -/
def added (y : Vec Ideal S8704x4096 .bf16) (w : Vec Ideal S2x4096x2048 .f32) (x : Vec Ideal S8704x2048 .f32) (i : Fin 8704) (l : Fin 2048) : EReal :=
  (∑ k : Fin 4096, (y (ix2 i k) : EReal) * w (ix3 1 k l)) + x (ix2 i l)

/-- Its norm, with the final weights. -/
def normed (y : Vec Ideal S8704x4096 .bf16) (w : Vec Ideal S2x4096x2048 .f32) (x : Vec Ideal S8704x2048 .f32) (nw : Vec Ideal S2048 .f32)
    (i : Fin 8704) (l : Fin 2048) : EReal :=
  rms (fun k => added y w x i k) (fun k => nw (ix1 k)) l

/-- The prompt's rows of the norm, -/
def prompt (y : Vec Ideal S8704x4096 .bf16) (w : Vec Ideal S2x4096x2048 .f32) (x : Vec Ideal S8704x2048 .f32) (nw : Vec Ideal S2048 .f32) :
    Vec Ideal S8192x2048 .f32 :=
  fun i => normed y w x nw ⟨(i 0).val, lt_trans (show (i 0).val < 8192 from (i 0).isLt) (by decide)⟩ (i 1)

/-- and the sample's, which follow them. -/
def sample (y : Vec Ideal S8704x4096 .bf16) (w : Vec Ideal S2x4096x2048 .f32) (x : Vec Ideal S8704x2048 .f32) (nw : Vec Ideal S2048 .f32) :
    Vec Ideal S512x2048 .f32 :=
  fun i => normed y w x nw ⟨8192 + (i 0).val, by have h : (i 0).val < 512 := (i 0).isLt; omega⟩ (i 1)

variable (m : (ℓ : Loc nD τ sig) → Buf (Elt Ideal) ℓ) (ρ : Dev nD → PrngReg)

/-- The two outputs as arrays of the launch's arguments. -/
abbrev promptOf (c : Dev nD) : Vec Ideal S8192x2048 .f32 :=
  prompt (m ((c : Thread nD τ).loc main_arg0)) (m ((c : Thread nD τ).loc main_arg1)) (m ((c : Thread nD τ).loc main_arg2)) (m ((c : Thread nD τ).loc main_arg3))
abbrev sampleOf (c : Dev nD) : Vec Ideal S512x2048 .f32 :=
  sample (m ((c : Thread nD τ).loc main_arg0)) (m ((c : Thread nD τ).loc main_arg1)) (m ((c : Thread nD τ).loc main_arg2)) (m ((c : Thread nD τ).loc main_arg3))

theorem zero2 : (![0, 0] : Fin 2 → Nat) = fun _ => 0 := by funext a; revert a; decide
theorem zero3 : (![0, 0, 0] : Fin 3 → Nat) = fun _ => 0 := by funext a; revert a; decide

/-- The blocks of a point. -/
theorem index_eq : ∀ t : Fin cfg0.N, (win0_0.index t (0 : Fin 2) = t.val ∧ win0_0.index t (1 : Fin 2) = 0)
    ∧ (win0_1.index t (0 : Fin 3) = 1 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = min t.val 31 ∧ win0_4.index t (1 : Fin 2) = 0)
    ∧ (win0_5.index t (0 : Fin 2) = t.val - 32 ∧ win0_5.index t (1 : Fin 2) = 0) :=
  (by decide +kernel : ∀ t : Fin grid0.N, _)

/-- The points after which the first output's buffer is written back: those before the last of the prompt, and the last of all. -/
theorem flush4 : ∀ t : Fin cfg0.N, (cfg0.win 4).flush t = decide (t.val < 31 ∨ t.val = 33) := (by decide +kernel : ∀ t : Fin grid0.N, _)

/-- The output weights, rounded. -/
theorem outputs_eq (c : Dev nD) (i : S2x4096x2048.Idx) :
    (V m c main_v0 : Vec Ideal S2x4096x2048 .bf16) i = (m ((c : Thread nD τ).loc main_arg1) : Vec Ideal S2x4096x2048 .f32) i := by
  have e : V m c main_v0 = truncf (F := Ideal) (s := S2x4096x2048) (φ := .f32) .bf16 (m ((c : Thread nD τ).loc main_arg1)) bitsLt_bf16_f32 := by
    unfold_abbrev_sides
    after_results
  rw [e]
  rfl

/-- The norm's weights, as one row. -/
theorem weights_eq (c : Dev nD) (k : Fin 2048) :
    (V m c main_v1 : Vec Ideal S1x2048 .f32) (ix2 0 k) = (m ((c : Thread nD τ).loc main_arg3) : Vec Ideal S2048 .f32) (ix1 k) := by
  have e : V m c main_v1 = shapeCast S1x2048 (m ((c : Thread nD τ).loc main_arg3)) shapeCasts_S2048_S1x2048 := by
    unfold_abbrev_sides
    after_results
    rfl
  rw [e]
  pointwise

/-! ## The blocks a point reads -/

/-- The mixed rows of a point. -/
theorem mixed_eq (c : Dev nD) (t : Fin cfg0.N) (r : Fin 256) (k : Fin 4096) (h : t.val * 256 + r.val < 8704) :
    (iblk m c 0 t : Vec Ideal S256x4096 .bf16) (ix2 r k)
      = (m ((c : Thread nD τ).loc main_arg0) : Vec Ideal S8704x4096 .bf16) (ix2 ⟨t.val * 256 + r.val, h⟩ k) := by
  obtain ⟨⟨e0, e1⟩, -⟩ := index_eq t
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e0]; omega
  | ⟨1, _⟩ => show win0_0.index t 1 * 4096 + 1 * k.val = k.val; rw [e1]; omega

/-- The last layer's output weights, the same block at every point. -/
theorem outw_eq (c : Dev nD) (t : Fin cfg0.N) (k : Fin 4096) (l : Fin 2048) :
    (iblk m c 1 t : Vec Ideal S1x4096x2048 .bf16) (ix3 0 k l) = (m ((c : Thread nD τ).loc main_arg1) : Vec Ideal S2x4096x2048 .f32) (ix3 1 k l) := by
  obtain ⟨-, ⟨e0, e1, e2⟩, -⟩ := index_eq t
  rw [← outputs_eq m c (ix3 1 k l)]
  unfold iblk
  rw [View.read_apply]
  show V m c main_v0 _ = V m c main_v0 _
  congr 1
  funext a
  apply Fin.ext
  match a with
  | ⟨0, _⟩ => show win0_1.index t 0 * 1 + 1 * 0 = 1; rw [e0]
  | ⟨1, _⟩ => show win0_1.index t 1 * 4096 + 1 * k.val = k.val; rw [e1]; omega
  | ⟨2, _⟩ => show win0_1.index t 2 * 2048 + 1 * l.val = l.val; rw [e2]; omega

/-- The incoming rows of a point. -/
theorem rows_eq (c : Dev nD) (t : Fin cfg0.N) (r : Fin 256) (k : Fin 2048) (h : t.val * 256 + r.val < 8704) :
    (iblk m c 2 t : Vec Ideal S256x2048 .f32) (ix2 r k)
      = (m ((c : Thread nD τ).loc main_arg2) : Vec Ideal S8704x2048 .f32) (ix2 ⟨t.val * 256 + r.val, h⟩ k) := by
  obtain ⟨-, -, ⟨e0, e1⟩, -⟩ := index_eq t
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [e0]; omega
  | ⟨1, _⟩ => show win0_2.index t 1 * 2048 + 1 * k.val = k.val; rw [e1]; omega

/-- The weights of the norm, the same block at every point. -/
theorem scale_eq (c : Dev nD) (t : Fin cfg0.N) (k : Fin 2048) :
    (iblk m c 3 t : Vec Ideal S1x2048 .f32) (ix2 0 k) = (m ((c : Thread nD τ).loc main_arg3) : Vec Ideal S2048 .f32) (ix1 k) := by
  obtain ⟨-, -, -, ⟨e0, e1⟩, -⟩ := index_eq t
  rw [← weights_eq m c k]
  unfold iblk
  rw [View.read_apply]
  show V m c main_v1 _ = V m c main_v1 _
  congr 1
  funext a
  apply Fin.ext
  match a with
  | ⟨0, _⟩ => show win0_3.index t 0 * 1 + 1 * 0 = 0; rw [e0]
  | ⟨1, _⟩ => show win0_3.index t 1 * 2048 + 1 * k.val = k.val; rw [e1]; omega

/-! ## What a block holds -/

/-- One entry of what the body stores. -/
theorem norm_apply (y : Vec Ideal S256x4096 .bf16) (w : Vec Ideal S1x4096x2048 .bf16) (x : Vec Ideal S256x2048 .f32) (nw : Vec Ideal S1x2048 .f32)
    (r : Fin 256) (l : Fin 2048) :
    k0_pay1 y w x nw (ix2 r l)
      = rms (fun k => (∑ j : Fin 4096, (y (ix2 r j) : EReal) * w (ix3 0 j k)) + x (ix2 r k)) (fun k => nw (ix2 0 k)) l := by
  pointwise [rms, k0_pay1]

/-- A point's block is rows of the norm. -/
theorem block_eq (c : Dev nD) (t : Fin cfg0.N) (r : Fin 256) (l : Fin 2048) (h : t.val * 256 + r.val < 8704) :
    block m c t (ix2 r l) = normed (m ((c : Thread nD τ).loc main_arg0)) (m ((c : Thread nD τ).loc main_arg1)) (m ((c : Thread nD τ).loc main_arg2))
      (m ((c : Thread nD τ).loc main_arg3)) ⟨t.val * 256 + r.val, h⟩ l := by
  unfold block stored
  rw [View.canon_unit_zero zero2]
  simp only [View.ld_unit_zero (S := S256x4096) zero2, View.ld_unit_zero (S := S1x4096x2048) zero3, View.ld_unit_zero (S := S256x2048) zero2, View.ld_unit_zero (S := S1x2048) zero2]
  rw [norm_apply]
  refine rms_congr (fun k => ?_) (fun k => scale_eq m c t k) l
  refine congrArg₂ (fun a b : EReal => a + b) (Finset.sum_congr rfl fun j _ => ?_) (rows_eq m c t r k h)
  rw [mixed_eq m c t r j h, outw_eq m c t j k]

/-! ## The arrays -/

/-- What is written back into the prompt's rows is a block of them. -/
theorem written4_eq (c : Dev nD) (t : Fin cfg0.N) :
    (dats m 0 c).flushed 4 t = ((cfg0.win 4).blk t).view.read (Elt Ideal) (promptOf m c : Buf (Elt Ideal) ((c : Thread nD τ).loc main_v2_0)) := by
  obtain ⟨-, -, -, -, ⟨e0, e1⟩, -⟩ := index_eq t
  show (cfg0.win 4).cut (grid0.coords t) ((dats m 0 c).after 4 t) = _
  rw [after4]
  funext y
  rw [View.read_apply]
  have hy0 : (y 0).val < 256 := (y 0).isLt
  have hy1 : (y 1).val < 2048 := (y 1).isLt
  have hs : (source t).val = min t.val 31 := rfl
  have hx : (cfg0.win 4).xinj (grid0.coords t) y = ix2 ⟨(y 0).val, hy0⟩ ⟨(y 1).val, hy1⟩ := by
    funext a; apply Fin.ext
    match a with
    | ⟨0, _⟩ => rfl
    | ⟨1, _⟩ => rfl
  show block m c (source t) ((cfg0.win 4).xinj (grid0.coords t) y) = promptOf m c (((cfg0.win 4).blk t).view.emb y)
  rw [hx, block_eq m c (source t) ⟨(y 0).val, hy0⟩ ⟨(y 1).val, hy1⟩ (by dsimp only; omega)]
  unfold promptOf prompt
  refine congrArg₂ (normed _ _ _ _) (Fin.ext ?_) (Fin.ext ?_)
  · show min t.val 31 * 256 + (y 0).val = win0_4.index t 0 * 256 + 1 * (y 0).val; rw [e0]; omega
  · show (y 1).val = win0_4.index t 1 * 2048 + 1 * (y 1).val; rw [e1]; omega

/-- Every row of the prompt lies in a block written back, the last 256 in that of the last point. -/
theorem covered4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  obtain ⟨t, ht, hf⟩ : ∃ t : Fin cfg0.N, min t.val 31 = (i 0).val / 256 ∧ (t.val < 31 ∨ t.val = 33) := by
    by_cases h : (i 0).val / 256 < 31
    · exact ⟨⟨(i 0).val / 256, by show (i 0).val / 256 < 34; omega⟩, by dsimp only; omega, Or.inl h⟩
    · exact ⟨⟨33, by decide⟩, by dsimp only; omega, Or.inr rfl⟩
  obtain ⟨-, -, -, -, ⟨e0, e1⟩, -⟩ := index_eq t
  refine ⟨t, by rw [flush4 t]; simpa using hf, ?_⟩
  show i ∈ ((View.whole main_v2_0).slice (win0_4.rect t)).set
  rw [View.set_slice_whole, Rect.mem_set_unit]
  intro a
  match a with
  | ⟨0, _⟩ => show win0_4.index _ (0 : Fin 2) * 256 ≤ (i 0).val ∧ (i 0).val < win0_4.index _ (0 : Fin 2) * 256 + 256; rw [e0, ht]; omega
  | ⟨1, _⟩ => show win0_4.index _ (1 : Fin 2) * 2048 ≤ (i 1).val ∧ (i 1).val < win0_4.index _ (1 : Fin 2) * 2048 + 2048; rw [e1]; omega

/-- What is written back into the sample's rows is a block of them. -/
theorem written5_eq (c : Dev nD) (t : Fin cfg0.N) (hf : (cfg0.win 5).flush t = true) :
    (dats m 0 c).flushed 5 t = ((cfg0.win 5).blk t).view.read (Elt Ideal) (sampleOf m c : Buf (Elt Ideal) ((c : Thread nD τ).loc main_v2_1)) := by
  have hN : t.val < 34 := t.isLt
  have ht : ¬ t.val < 32 := by rw [flush5 t] at hf; simpa using hf
  obtain ⟨-, -, -, -, -, e0, e1⟩ := index_eq t
  show (cfg0.win 5).cut (grid0.coords t) ((dats m 0 c).after 5 t) = _
  rw [after5]
  funext y
  rw [View.read_apply]
  have hy0 : (y 0).val < 256 := (y 0).isLt
  have hy1 : (y 1).val < 2048 := (y 1).isLt
  have hx : (cfg0.win 5).xinj (grid0.coords t) y = ix2 ⟨(y 0).val, hy0⟩ ⟨(y 1).val, hy1⟩ := by
    funext a; apply Fin.ext
    match a with
    | ⟨0, _⟩ => rfl
    | ⟨1, _⟩ => rfl
  show block m c t ((cfg0.win 5).xinj (grid0.coords t) y) = sampleOf m c (((cfg0.win 5).blk t).view.emb y)
  rw [hx, block_eq m c t ⟨(y 0).val, hy0⟩ ⟨(y 1).val, hy1⟩ (by dsimp only; omega)]
  unfold sampleOf sample
  refine congrArg₂ (normed _ _ _ _) (Fin.ext ?_) (Fin.ext ?_)
  · show t.val * 256 + (y 0).val = 8192 + (win0_5.index t 0 * 256 + 1 * (y 0).val); rw [e0]; omega
  · show (y 1).val = win0_5.index t 1 * 2048 + 1 * (y 1).val; rw [e1]; omega

/-- Every row of the sample lies in one of the two blocks written back. -/
theorem covered5 (i : S512x2048.Idx) : ∃ t : Fin cfg0.N, (cfg0.win 5).flush t = true ∧ i ∈ ((cfg0.win 5).blk t).view.set := by
  have h0 : (i 0).val < 512 := (i 0).isLt
  have h1 : (i 1).val < 2048 := (i 1).isLt
  have ht : 32 + (i 0).val / 256 < grid0.N := by show 32 + (i 0).val / 256 < 34; omega
  obtain ⟨-, -, -, -, -, e0, e1⟩ := index_eq ⟨32 + (i 0).val / 256, ht⟩
  refine ⟨⟨32 + (i 0).val / 256, ht⟩, by rw [flush5]; simp, ?_⟩
  show i ∈ ((View.whole main_v2_1).slice (win0_5.rect ⟨32 + (i 0).val / 256, ht⟩)).set
  rw [View.set_slice_whole, Rect.mem_set_unit]
  intro a
  match a with
  | ⟨0, _⟩ => show win0_5.index _ (0 : Fin 2) * 256 ≤ (i 0).val ∧ (i 0).val < win0_5.index _ (0 : Fin 2) * 256 + 256; rw [e0]; dsimp only; omega
  | ⟨1, _⟩ => show win0_5.index _ (1 : Fin 2) * 2048 ≤ (i 1).val ∧ (i 1).val < win0_5.index _ (1 : Fin 2) * 2048 + 2048; rw [e1]; omega

/-- The run of the kernel: the two results. -/
theorem run_results : θ_run defs (onTc (τ := τ) (main (F := Ideal))) ⟨m, fun _ => 0, ρ⟩ fun r => ∀ c : Dev nD,
      r.2.mem ((c : Thread nD τ).loc main_v2_0) = promptOf m c ∧ r.2.mem ((c : Thread nD τ).loc main_v2_1) = sampleOf m c :=
  (θ_run defs _ _).mono (fun _ h c =>
      ⟨((h c).1 4).trans ((dats m 0 c).arrAt_eq_of_cover 4 _ (fun t _ => written4_eq m c t) covered4),
        ((h c).1 5).trans ((dats m 0 c).arrAt_eq_of_cover 5 _ (fun t ht => written5_eq m c t ht) covered5)⟩)
    (run_post m ρ)

/-- The same with the arguments, which it keeps. -/
theorem run_normed : θ_run defs (onTc (τ := τ) (main (F := Ideal))) ⟨m, fun _ => 0, ρ⟩ fun r => ∀ c : Dev nD,
      r.2.mem ((c : Thread nD τ).loc main_v2_0) = promptOf m c ∧ r.2.mem ((c : Thread nD τ).loc main_v2_1) = sampleOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1, (h.1 c).2, h.2.1 c⟩) (θ_run_and (run_results m ρ) (Last.frame m ρ))

end Cert.OutLastIdeal.Block

/-! ## The reference -/

namespace Cert.OutLastRefIdeal.Block

open Cert.OutLastRefIdeal Cert.OutLastRefIdeal.Read Idealize.ShloMosaic Idealize.ShloMosaic.TcCoe Idealize.SL.Sem
open Cert.Rows

variable (y : Vec Ideal S8704x4096 .bf16) (w : Vec Ideal S2x4096x2048 .f32) (x : Vec Ideal S8704x2048 .f32) (nw : Vec Ideal S2048 .f32)

/-- The product. -/
theorem product_eq (i : Fin 8704) (k : Fin 2048) :
    val_main_v3 (F := Ideal) y w (ix2 i k) = ∑ j : Fin 4096, (y (ix2 i j) : EReal) * w (ix3 1 j k) := by
  pointwise [val_main_v3, val_main_v2, val_main_v1, val_main_v0]

/-- The sum: the reference adds the product to the rows, the kernel the rows to the product. -/
theorem added_eq (i : Fin 8704) (k : Fin 2048) :
    val_main_v4 (F := Ideal) y w x (ix2 i k) = Cert.OutLastIdeal.Block.added y w x i k := by
  have e : val_main_v4 (F := Ideal) y w x (ix2 i k) = x (ix2 i k) + val_main_v3 (F := Ideal) y w (ix2 i k) := by
    unfold val_main_v4
    generalize val_main_v3 (F := Ideal) y w = q
    pointwise
  rw [e, product_eq, add_comm]
  rfl

/-- The norm. -/
theorem norm_eq (i : Fin 8704) (k : Fin 2048) :
    val_main_v17 (F := Ideal) y w x nw (ix2 i k) = Cert.OutLastIdeal.Block.normed y w x nw i k := by
  have e := rms_congr (w := fun k => nw (ix1 k)) (fun k => added_eq y w x i k) (fun _ => rfl) k
  refine Eq.trans ?_ e
  unfold rms val_main_v17 val_main_v16 val_main_v15 val_main_v14 val_main_v13 val_main_v12 val_main_v11 val_main_v10 val_main_v9 val_main_v8
    val_main_v7 val_main_v6 val_main_v5 val_main_cst val_main_cst_0 val_main_cst_1
  generalize val_main_v4 (F := Ideal) y w x = z
  pointwise

/-- The first part of the rows, -/
theorem result0_eq : val_main_v18 (F := Ideal) y w x nw = Cert.OutLastIdeal.Block.prompt y w x nw := by
  suffices h : ∀ (i : Fin 8192) (l : Fin 2048), val_main_v18 (F := Ideal) y w x nw (ix2 i l) = Cert.OutLastIdeal.Block.prompt y w x nw (ix2 i l) by
    funext i
    rw [eq_ix2 i]
    exact h _ _
  intro i l
  refine Eq.trans ?_ (norm_eq y w x nw ⟨i.val, by have := i.isLt; omega⟩ l)
  unfold val_main_v18
  generalize val_main_v17 (F := Ideal) y w x nw = z
  pointwise

/-- and the rest. -/
theorem result1_eq : val_main_v19 (F := Ideal) y w x nw = Cert.OutLastIdeal.Block.sample y w x nw := by
  suffices h : ∀ (i : Fin 512) (l : Fin 2048), val_main_v19 (F := Ideal) y w x nw (ix2 i l) = Cert.OutLastIdeal.Block.sample y w x nw (ix2 i l) by
    funext i
    rw [eq_ix2 i]
    exact h _ _
  intro i l
  refine Eq.trans ?_ (norm_eq y w x nw ⟨8192 + i.val, by have := i.isLt; omega⟩ l)
  unfold val_main_v19
  generalize val_main_v17 (F := Ideal) y w x nw = z
  pointwise

end Cert.OutLastRefIdeal.Block

/-! ## The claim -/

namespace Cert.Proof

open Idealize.ShloMosaic Idealize.ShloMosaic.TcCoe Idealize.SL.Sem

/-- `out_proj` of the last layer computes the norm of the prompt's rows and of the sample's. -/
theorem outLast_algebraic : Cert.algebraic_OutLastIdeal_OutLastRefIdeal (hOutLastIdeal := Cert.OutLastIdeal.Gen.facts) (hOutLastRefIdeal := Cert.OutLastRefIdeal.Gen.facts) :=
  fun m ρ m' ρ' _ hag =>
    ⟨_, _, Cert.OutLastIdeal.Block.run_normed m ρ,
      (θ_run _ _ _).mono (fun _ h c => by
        obtain ⟨a0, a1, a2, a3⟩ := hag c
        obtain ⟨h0, h1, hk⟩ := h c
        exact ⟨h0.trans ((Cert.OutLastRefIdeal.Block.result0_eq _ _ _ _).trans (by rw [a0, a1, a2, a3])),
          h1.trans ((Cert.OutLastRefIdeal.Block.result1_eq _ _ _ _).trans (by rw [a0, a1, a2, a3])), hk⟩)
        (Cert.OutLastRefIdeal.Value.run m' ρ')⟩

end Cert.Proof

end

end
-- ==== Proof.MixSpec.lean ====
/-
  THE GATED MIX.  What the call computes of a row: the recurrence branch is passed through a gelu, gated by a sigmoid of
  its product with the gate's weights and by the silu of its projected gate, and normed; the SSD branch is gated by the
  silu of its own projected gate, and normed; the two stand side by side.
-/
module

public import proofs.«01_k».proof.Defs
public import proofs.«01_k».proof.Proof.Rows
public import Idealize.ShloMosaic.Lib.Pointwise

@[expose] public section

set_option maxRecDepth 16384

noncomputable section

namespace Cert.MixSpec

open Idealize.ShloMosaic Cert.Rows

/-- The gelu in its form with the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- A number times its sigmoid. -/
def silu (x : EReal) : EReal := x * Ideal.logistic x

/-- The number of these bits is one. -/
theorem one_bits : Ideal.ofBits .f32 0x3F800000#32 = (1 : EReal) := by
  simp [Ideal.ofBits, Ideal.ieee]
  rw [← EReal.coe_mul]
  norm_num

/-- The sigmoid written out. -/
theorem logistic_eq (x : EReal) : Ideal.div (Ideal.ofBits .f32 0x3F800000#32) (Ideal.ofBits .f32 0x3F800000#32 + Ideal.exp (-x)) = Ideal.logistic x := by
  rw [one_bits]
  rfl

section Arrays

variable (yp : Vec Ideal ⟨2, ![8192, 2048]⟩ .f32) (ys : Vec Ideal ⟨2, ![512, 2048]⟩ .f32) (dp : Vec Ideal ⟨2, ![8192, 2048]⟩ .f32)
  (ds : Vec Ideal ⟨2, ![512, 2048]⟩ .f32) (z : Vec Ideal ⟨2, ![8704, 10240]⟩ .f32) (w : Vec Ideal ⟨3, ![2, 2048, 2048]⟩ .f32)
  (b na ns : Vec Ideal ⟨2, ![2, 2048]⟩ .f32)

/-- The recurrence branch after its gelu. -/
def branch (i : Fin 8704) (k : Fin 2048) : EReal := gelu (stacked yp ys i k)

/-- Its gate. -/
def gate (i : Fin 8704) (l : Fin 2048) : EReal :=
  Ideal.logistic ((∑ k : Fin 2048, branch yp ys i k * w (ix3 0 k l)) + b (ix2 0 l))

/-- The recurrence branch, gated twice. -/
def gatedA (i : Fin 8704) (l : Fin 2048) : EReal :=
  branch yp ys i l * gate yp ys w b i l * silu (z (ix2 i ⟨2048 + l.val, by have := l.isLt; omega⟩))

/-- The SSD branch, gated. -/
def gatedS (i : Fin 8704) (l : Fin 2048) : EReal :=
  stacked dp ds i l * silu (z (ix2 i ⟨8192 + l.val, by have := l.isLt; omega⟩))

/-- Both branches normed, side by side. -/
def mixed : Vec Ideal ⟨2, ![8704, 4096]⟩ .bf16 := fun i =>
  if h : (i 1).val < 2048 then rms (gatedA yp ys z w b (i 0)) (fun k => na (ix2 0 k)) ⟨(i 1).val, h⟩
  else rms (gatedS dp ds z (i 0)) (fun k => ns (ix2 0 k)) ⟨(i 1).val - 2048, by have h' : (i 1).val < 4096 := (i 1).isLt; omega⟩

theorem mixed_left (i : Fin 8704) (j : Fin 4096) (l : Fin 2048) (h : j.val = l.val) :
    mixed yp ys dp ds z w b na ns (ix2 i j) = rms (gatedA yp ys z w b i) (fun k => na (ix2 0 k)) l := by
  have hl : ((ix2 i j) 1).val < 2048 := by show j.val < 2048; have := l.isLt; omega
  unfold mixed
  rw [dif_pos hl]
  exact congrArg (rms (gatedA yp ys z w b i) (fun k => na (ix2 0 k))) (Fin.ext h)

theorem mixed_right (i : Fin 8704) (j : Fin 4096) (l : Fin 2048) (h : j.val = 2048 + l.val) :
    mixed yp ys dp ds z w b na ns (ix2 i j) = rms (gatedS dp ds z i) (fun k => ns (ix2 0 k)) l := by
  have hl : ¬ ((ix2 i j) 1).val < 2048 := by show ¬ j.val < 2048; omega
  unfold mixed
  rw [dif_neg hl]
  exact congrArg (rms (gatedS dp ds z i) (fun k => ns (ix2 0 k))) (Fin.ext (by show j.val - 2048 = l.val; omega))

end Arrays

end Cert.MixSpec

end

end
-- ==== Proof.MixBlock.lean ====
/-
  THE GATED MIX, ONE BLOCK.  A grid point holds 256 rows.  Read here: the blocks it is given, as rows of the arguments;
  and the entries of what its body computes.
-/
module

public import proofs.«01_k».proof.Defs
public import proofs.«01_k».proof.Proof.MixSpec
public import proofs.«01_k».proof.Proof.Gen.MixIdeal.Value
public import Idealize.ShloMosaic.Lib.Pointwise

@[expose] public section

set_option maxRecDepth 16384

noncomputable section

namespace Cert.MixIdeal.Block

open Cert.MixIdeal Cert.MixIdeal.Gen Cert.MixIdeal.Value Idealize.ShloMosaic Idealize.ShloMosaic.TcCoe Idealize.SL.Sem
open Idealize.ShloMosaic.Pipeline (Dat)
open Cert.Rows Cert.MixSpec

variable (m : (ℓ : Loc nD τ sig) → Buf (Elt Ideal) ℓ) (ρ : Dev nD → PrngReg)

/-- Which input a point's rows come from. -/
theorem side_eq : ∀ t : Fin cfg0.N, Scalar.cmpi .slt (BitVec.ofNat 32 ((grid0.coords t) 0).val) 32#32 = if t.val < 32 then 1#1 else 0#1 :=
  (by decide +kernel : ∀ t : Fin grid0.N, _)

/-- The blocks of a point: of the branches, of the projected gates, of the weights. -/
theorem index_eq : ∀ t : Fin cfg0.N, (win0_0.index t (0 : Fin 2) = min t.val 31 ∧ win0_0.index t (1 : Fin 2) = 0)
    ∧ (win0_1.index t (0 : Fin 2) = t.val - 32 ∧ win0_1.index t (1 : Fin 2) = 0)
    ∧ (win0_2.index t (0 : Fin 2) = min t.val 31 ∧ win0_2.index t (1 : Fin 2) = 0)
    ∧ (win0_3.index t (0 : Fin 2) = t.val - 32 ∧ win0_3.index t (1 : Fin 2) = 0)
    ∧ (win0_4.index t (0 : Fin 2) = t.val ∧ win0_4.index t (1 : Fin 2) = 1)
    ∧ (win0_5.index t (0 : Fin 2) = t.val ∧ win0_5.index t (1 : Fin 2) = 4)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0) :=
  (by decide +kernel : ∀ t : Fin grid0.N, _)

/-! ## The arrays the host prepares -/

/-- The gate's weights, rounded. -/
theorem weights_eq (c : Dev nD) (i : S2x2048x2048.Idx) :
    (V m c main_v0 : Vec Ideal S2x2048x2048 .bf16) i = (m ((c : Thread nD τ).loc main_arg5) : Vec Ideal S2x2048x2048 .f32) i := by
  have e : V m c main_v0 = truncf (F := Ideal) (s := S2x2048x2048) (φ := .f32) .bf16 (m ((c : Thread nD τ).loc main_arg5)) bitsLt_bf16_f32 := by
    unfold_abbrev_sides
    after_results
  rw [e]
  rfl

/-- The gate's bias, with an axis of extent one. -/
theorem bias_eq (c : Dev nD) (a : Fin 2) (k : Fin 2048) :
    (V m c main_v1 : Vec Ideal S2x1x2048 .f32) (ix3 a 0 k) = (m ((c : Thread nD τ).loc main_arg6) : Vec Ideal S2x2048 .f32) (ix2 a k) := by
  have e : V m c main_v1 = shapeCast S2x1x2048 (m ((c : Thread nD τ).loc main_arg6)) shapeCasts_S2x2048_S2x1x2048 := by
    unfold_abbrev_sides
    after_results
    rfl
  rw [e]
  pointwise

/-- The recurrence branch's norm weights, likewise. -/
theorem scaleA_eq (c : Dev nD) (a : Fin 2) (k : Fin 2048) :
    (V m c main_v2 : Vec Ideal S2x1x2048 .f32) (ix3 a 0 k) = (m ((c : Thread nD τ).loc main_arg7) : Vec Ideal S2x2048 .f32) (ix2 a k) := by
  have e : V m c main_v2 = shapeCast S2x1x2048 (m ((c : Thread nD τ).loc main_arg7)) shapeCasts_S2x2048_S2x1x2048 := by
    unfold_abbrev_sides
    after_results
    rfl
  rw [e]
  pointwise

/-- The SSD branch's norm weights, likewise. -/
theorem scaleS_eq (c : Dev nD) (a : Fin 2) (k : Fin 2048) :
    (V m c main_v3 : Vec Ideal S2x1x2048 .f32) (ix3 a 0 k) = (m ((c : Thread nD τ).loc main_arg8) : Vec Ideal S2x2048 .f32) (ix2 a k) := by
  have e : V m c main_v3 = shapeCast S2x1x2048 (m ((c : Thread nD τ).loc main_arg8)) shapeCasts_S2x2048_S2x1x2048 := by
    unfold_abbrev_sides
    after_results
    rfl
  rw [e]
  pointwise

/-! ## The blocks a point reads -/

/-- The prompt block of the recurrence branch. -/
theorem prompt_block (c : Dev nD) (t : Fin cfg0.N) (r : Fin 256) (k : Fin 2048) (h : t.val < 32) :
    (iblk m c 0 t : Vec Ideal S256x2048 .f32) (ix2 r k) = (m ((c : Thread nD τ).loc main_arg0) : Vec Ideal S8192x2048 .f32) (ix2 ⟨t.val * 256 + r.val, by have := r.isLt; omega⟩ k) := by
  obtain ⟨⟨e0, e1⟩, -⟩ := index_eq t
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e0]; omega
  | ⟨1, _⟩ => show win0_0.index t 1 * 2048 + 1 * k.val = k.val; rw [e1]; omega

/-- The sample block of the recurrence branch. -/
theorem sample_block (c : Dev nD) (t : Fin cfg0.N) (r : Fin 256) (k : Fin 2048) (h : (t.val - 32) * 256 + r.val < 512) :
    (iblk m c 1 t : Vec Ideal S256x2048 .f32) (ix2 r k) = (m ((c : Thread nD τ).loc main_arg1) : Vec Ideal S512x2048 .f32) (ix2 ⟨(t.val - 32) * 256 + r.val, h⟩ k) := by
  obtain ⟨-, ⟨e0, e1⟩, -⟩ := index_eq t
  unfold iblk
  rw [View.read_apply]
  show V m c main_arg1 _ = _
  rw [V_main_arg1]
  congr 1
  funext a
  apply Fin.ext
  match a with
  | ⟨0, _⟩ => show win0_1.index t 0 * 256 + 1 * r.val = (t.val - 32) * 256 + r.val; rw [e0]; omega
  | ⟨1, _⟩ => show win0_1.index t 1 * 2048 + 1 * k.val = k.val; rw [e1]; omega

/-- The prompt block of the SSD branch. -/
theorem promptS_block (c : Dev nD) (t : Fin cfg0.N) (r : Fin 256) (k : Fin 2048) (h : t.val < 32) :
    (iblk m c 2 t : Vec Ideal S256x2048 .f32) (ix2 r k) = (m ((c : Thread nD τ).loc main_arg2) : Vec Ideal S8192x2048 .f32) (ix2 ⟨t.val * 256 + r.val, by have := r.isLt; omega⟩ k) := by
  obtain ⟨-, -, ⟨e0, e1⟩, -⟩ := index_eq t
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [e0]; omega
  | ⟨1, _⟩ => show win0_2.index t 1 * 2048 + 1 * k.val = k.val; rw [e1]; omega

/-- The sample block of the SSD branch. -/
theorem sampleS_block (c : Dev nD) (t : Fin cfg0.N) (r : Fin 256) (k : Fin 2048) (h : (t.val - 32) * 256 + r.val < 512) :
    (iblk m c 3 t : Vec Ideal S256x2048 .f32) (ix2 r k) = (m ((c : Thread nD τ).loc main_arg3) : Vec Ideal S512x2048 .f32) (ix2 ⟨(t.val - 32) * 256 + r.val, h⟩ k) := by
  obtain ⟨-, -, -, ⟨e0, e1⟩, -⟩ := index_eq t
  unfold iblk
  rw [View.read_apply]
  show V m c main_arg3 _ = _
  rw [V_main_arg3]
  congr 1
  funext a
  apply Fin.ext
  match a with
  | ⟨0, _⟩ => show win0_3.index t 0 * 256 + 1 * r.val = (t.val - 32) * 256 + r.val; rw [e0]; omega
  | ⟨1, _⟩ => show win0_3.index t 1 * 2048 + 1 * k.val = k.val; rw [e1]; omega

/-- The projected gate of the recurrence branch. -/
theorem gateA_block (c : Dev nD) (t : Fin cfg0.N) (r : Fin 256) (k : Fin 2048) (h : t.val * 256 + r.val < 8704) :
    (iblk m c 4 t : Vec Ideal S256x2048 .f32) (ix2 r k)
      = (m ((c : Thread nD τ).loc main_arg4) : Vec Ideal S8704x10240 .f32) (ix2 ⟨t.val * 256 + r.val, h⟩ ⟨2048 + k.val, by have := k.isLt; omega⟩) := by
  obtain ⟨-, -, -, -, ⟨e0, e1⟩, -⟩ := index_eq t
  unfold iblk
  rw [View.read_apply]
  show V m c main_arg4 _ = _
  rw [V_main_arg4]
  congr 1
  funext a
  apply Fin.ext
  match a with
  | ⟨0, _⟩ => show win0_4.index t 0 * 256 + 1 * r.val = t.val * 256 + r.val; rw [e0]; omega
  | ⟨1, _⟩ => show win0_4.index t 1 * 2048 + 1 * k.val = 2048 + k.val; rw [e1]; omega

/-- The projected gate of the SSD branch. -/
theorem gateS_block (c : Dev nD) (t : Fin cfg0.N) (r : Fin 256) (k : Fin 2048) (h : t.val * 256 + r.val < 8704) :
    (iblk m c 5 t : Vec Ideal S256x2048 .f32) (ix2 r k)
      = (m ((c : Thread nD τ).loc main_arg4) : Vec Ideal S8704x10240 .f32) (ix2 ⟨t.val * 256 + r.val, h⟩ ⟨8192 + k.val, by have := k.isLt; omega⟩) := by
  obtain ⟨-, -, -, -, -, ⟨e0, e1⟩, -⟩ := index_eq t
  unfold iblk
  rw [View.read_apply]
  show V m c main_arg4 _ = _
  rw [V_main_arg4]
  congr 1
  funext a
  apply Fin.ext
  match a with
  | ⟨0, _⟩ => show win0_5.index t 0 * 256 + 1 * r.val = t.val * 256 + r.val; rw [e0]; omega
  | ⟨1, _⟩ => show win0_5.index t 1 * 2048 + 1 * k.val = 8192 + k.val; rw [e1]; omega

/-- The gate's weights, the same block at every point. -/
theorem weights_block (c : Dev nD) (t : Fin cfg0.N) (k l : Fin 2048) :
    (iblk m c 6 t : Vec Ideal S1x2048x2048 .bf16) (ix3 0 k l) = (m ((c : Thread nD τ).loc main_arg5) : Vec Ideal S2x2048x2048 .f32) (ix3 0 k l) := by
  obtain ⟨-, -, -, -, -, -, ⟨e0, e1, e2⟩, -⟩ := index_eq t
  rw [← weights_eq m c (ix3 0 k l)]
  unfold iblk
  rw [View.read_apply]
  show V m c main_v0 _ = V m c main_v0 _
  congr 1
  funext a
  apply Fin.ext
  match a with
  | ⟨0, _⟩ => show win0_6.index t 0 * 1 + 1 * 0 = 0; rw [e0]
  | ⟨1, _⟩ => show win0_6.index t 1 * 2048 + 1 * k.val = k.val; rw [e1]; omega
  | ⟨2, _⟩ => show win0_6.index t 2 * 2048 + 1 * l.val = l.val; rw [e2]; omega

/-- The gate's bias. -/
theorem bias_block (c : Dev nD) (t : Fin cfg0.N) (k : Fin 2048) :
    (iblk m c 7 t : Vec Ideal S1x1x2048 .f32) (ix3 0 0 k) = (m ((c : Thread nD τ).loc main_arg6) : Vec Ideal S2x2048 .f32) (ix2 0 k) := by
  obtain ⟨-, -, -, -, -, -, -, ⟨e0, e1, e2⟩, -⟩ := index_eq t
  rw [← bias_eq m c 0 k]
  unfold iblk
  rw [View.read_apply]
  show V m c main_v1 _ = V m c main_v1 _
  congr 1
  funext a
  apply Fin.ext
  match a with
  | ⟨0, _⟩ => show win0_7.index t 0 * 1 + 1 * 0 = 0; rw [e0]
  | ⟨1, _⟩ => show win0_7.index t 1 * 1 + 1 * 0 = 0; rw [e1]
  | ⟨2, _⟩ => show win0_7.index t 2 * 2048 + 1 * k.val = k.val; rw [e2]; omega

/-- The norm weights of the recurrence branch. -/
theorem scaleA_block (c : Dev nD) (t : Fin cfg0.N) (k : Fin 2048) :
    (iblk m c 8 t : Vec Ideal S1x1x2048 .f32) (ix3 0 0 k) = (m ((c : Thread nD τ).loc main_arg7) : Vec Ideal S2x2048 .f32) (ix2 0 k) := by
  obtain ⟨-, -, -, -, -, -, -, -, ⟨e0, e1, e2⟩, -⟩ := index_eq t
  rw [← scaleA_eq m c 0 k]
  unfold iblk
  rw [View.read_apply]
  show V m c main_v2 _ = V m c main_v2 _
  congr 1
  funext a
  apply Fin.ext
  match a with
  | ⟨0, _⟩ => show win0_8.index t 0 * 1 + 1 * 0 = 0; rw [e0]
  | ⟨1, _⟩ => show win0_8.index t 1 * 1 + 1 * 0 = 0; rw [e1]
  | ⟨2, _⟩ => show win0_8.index t 2 * 2048 + 1 * k.val = k.val; rw [e2]; omega

/-- The norm weights of the SSD branch. -/
theorem scaleS_block (c : Dev nD) (t : Fin cfg0.N) (k : Fin 2048) :
    (iblk m c 9 t : Vec Ideal S1x1x2048 .f32) (ix3 0 0 k) = (m ((c : Thread nD τ).loc main_arg8) : Vec Ideal S2x2048 .f32) (ix2 0 k) := by
  obtain ⟨-, -, -, -, -, -, -, -, -, e0, e1, e2⟩ := index_eq t
  rw [← scaleS_eq m c 0 k]
  unfold iblk
  rw [View.read_apply]
  show V m c main_v3 _ = V m c main_v3 _
  congr 1
  funext a
  apply Fin.ext
  match a with
  | ⟨0, _⟩ => show win0_9.index t 0 * 1 + 1 * 0 = 0; rw [e0]
  | ⟨1, _⟩ => show win0_9.index t 1 * 1 + 1 * 0 = 0; rw [e1]
  | ⟨2, _⟩ => show win0_9.index t 2 * 2048 + 1 * k.val = k.val; rw [e2]; omega

/-! ## What the body computes -/

section Payloads

variable (i : grid0.Coords) (a b : Vec Ideal S256x2048 .f32) (w : Vec Ideal S1x2048x2048 .bf16) (v : Vec Ideal S1x1x2048 .f32) (z : Vec Ideal S256x2048 .f32)

/-- The block the body takes its rows from. -/
def chosen : Vec Ideal S256x2048 .f32 := Scalar.select (Scalar.cmpi .slt (BitVec.ofNat 32 (i 0).val) 32#32) a b

theorem chosen_apply (r : Fin 256) (l : Fin 2048) :
    chosen i a b (ix2 r l) = Scalar.select (Scalar.cmpi .slt (BitVec.ofNat 32 (i 0).val) 32#32) (a (ix2 r l)) (b (ix2 r l)) := by
  pointwise [chosen]

/-- One entry of the gated recurrence branch. -/
theorem gated_apply (r : Fin 256) (l : Fin 2048) :
    k0_pay3 i a b w v z (ix2 r l) = gelu (chosen i a b (ix2 r l))
      * Ideal.logistic ((∑ k : Fin 2048, gelu (chosen i a b (ix2 r k)) * w (ix3 0 k l)) + v (ix3 0 0 l)) * silu (z (ix2 r l)) := by
  have comm : ∀ x : EReal, x * x * x = x * (x * x) := fun x => mul_assoc x x x
  unfold gelu silu
  simp only [comm]
  unfold k0_pay3
  rw [show (Scalar.select (Scalar.cmpi .slt (BitVec.ofNat 32 (i 0).val) 32#32) a b : Vec Ideal S256x2048 .f32) = chosen i a b from rfl]
  generalize chosen i a b = x
  pointwise

/-- The entry, given the row it is computed from, the column of weights, the bias and the projected gate. -/
theorem gated_of (r : Fin 256) (l : Fin 2048) {x u : Fin 2048 → EReal} {β ζ : EReal} (hx : ∀ k, chosen i a b (ix2 r k) = x k)
    (hw : ∀ k, w (ix3 0 k l) = u k) (hv : v (ix3 0 0 l) = β) (hz : z (ix2 r l) = ζ) :
    k0_pay3 i a b w v z (ix2 r l) = gelu (x l) * Ideal.logistic ((∑ k : Fin 2048, gelu (x k) * u k) + β) * silu ζ := by
  rw [gated_apply, hx l, hv, hz]
  have e : (∑ k : Fin 2048, gelu (chosen i a b (ix2 r k)) * w (ix3 0 k l)) = ∑ k : Fin 2048, gelu (x k) * u k :=
    Finset.sum_congr rfl fun k _ => by rw [hx k, hw k]
  rw [e]

/-- One entry of what is written of the recurrence branch. -/
theorem left_apply (s : Vec Ideal S1x1x2048 .f32) (r : Fin 256) (l : Fin 2048) :
    k0_pay1 (k0_pay3 i a b w v z) (k0_pay4 s) (k0_pay5 i a b w v z) (Scalar.ofBits .f32 0x45000000#32) (ix2 r l)
      = rms (fun k => k0_pay3 i a b w v z (ix2 r k)) (fun k => s (ix3 0 0 k)) l := by
  unfold rms k0_pay1 k0_pay4 k0_pay5
  generalize k0_pay3 i a b w v z = x
  pointwise

/-- One entry of what is written of the SSD branch. -/
theorem right_apply (s : Vec Ideal S1x1x2048 .f32) (r : Fin 256) (l : Fin 2048) :
    k0_pay2 (BitVec.ofNat 32 (i 0).val) z a b s (ix2 r l)
      = rms (fun k => chosen i a b (ix2 r k) * silu (z (ix2 r k))) (fun k => s (ix3 0 0 k)) l := by
  unfold rms silu k0_pay2
  rw [show (Scalar.select (Scalar.cmpi .slt (BitVec.ofNat 32 (i 0).val) 32#32) a b : Vec Ideal S256x2048 .f32) = chosen i a b from rfl]
  generalize chosen i a b = x
  pointwise

end Payloads

/-! ## A block's rows are rows of the arrays -/

/-- The rows a point takes of the recurrence branch. -/
theorem rowsA_eq (c : Dev nD) (t : Fin cfg0.N) (r : Fin 256) (l : Fin 2048) (h : t.val * 256 + r.val < 8704) :
    chosen (grid0.coords t) (iblk m c 0 t) (iblk m c 1 t) (ix2 r l)
      = stacked (m ((c : Thread nD τ).loc main_arg0)) (m ((c : Thread nD τ).loc main_arg1)) ⟨t.val * 256 + r.val, h⟩ l := by
  have hr := r.isLt
  rw [chosen_apply, side_eq t]
  by_cases h0 : t.val < 32
  · rw [if_pos h0, stacked_low _ _ _ _ ⟨t.val * 256 + r.val, by omega⟩ rfl]
    exact prompt_block m c t r l h0
  · rw [if_neg h0, stacked_high _ _ _ _ ⟨(t.val - 32) * 256 + r.val, by omega⟩ (by dsimp only; omega)]
    exact sample_block m c t r l (by omega)

/-- The rows a point takes of the SSD branch. -/
theorem rowsS_eq (c : Dev nD) (t : Fin cfg0.N) (r : Fin 256) (l : Fin 2048) (h : t.val * 256 + r.val < 8704) :
    chosen (grid0.coords t) (iblk m c 2 t) (iblk m c 3 t) (ix2 r l)
      = stacked (m ((c : Thread nD τ).loc main_arg2)) (m ((c : Thread nD τ).loc main_arg3)) ⟨t.val * 256 + r.val, h⟩ l := by
  have hr := r.isLt
  rw [chosen_apply, side_eq t]
  by_cases h0 : t.val < 32
  · rw [if_pos h0, stacked_low _ _ _ _ ⟨t.val * 256 + r.val, by omega⟩ rfl]
    exact promptS_block m c t r l h0
  · rw [if_neg h0, stacked_high _ _ _ _ ⟨(t.val - 32) * 256 + r.val, by omega⟩ (by dsimp only; omega)]
    exact sampleS_block m c t r l (by omega)

/-- The recurrence branch of a point, gated. -/
theorem gated_eq (c : Dev nD) (t : Fin cfg0.N) (r : Fin 256) (l : Fin 2048) (h : t.val * 256 + r.val < 8704) :
    k0_pay3 (grid0.coords t) (iblk m c 0 t) (iblk m c 1 t) (iblk m c 6 t) (iblk m c 7 t) (iblk m c 4 t) (ix2 r l)
      = gatedA (m ((c : Thread nD τ).loc main_arg0)) (m ((c : Thread nD τ).loc main_arg1)) (m ((c : Thread nD τ).loc main_arg4))
          (m ((c : Thread nD τ).loc main_arg5)) (m ((c : Thread nD τ).loc main_arg6)) ⟨t.val * 256 + r.val, h⟩ l := by
  exact gated_of (grid0.coords t) _ _ _ _ _ r l (fun k => rowsA_eq m c t r k h) (fun k => weights_block m c t k l) (bias_block m c t l)
    (gateA_block m c t r l h)

/-- What a point writes on the left. -/
theorem left_eq (c : Dev nD) (t : Fin cfg0.N) (r : Fin 256) (l : Fin 2048) (h : t.val * 256 + r.val < 8704) :
    k0_pay1 (k0_pay3 (grid0.coords t) (iblk m c 0 t) (iblk m c 1 t) (iblk m c 6 t) (iblk m c 7 t) (iblk m c 4 t)) (k0_pay4 (iblk m c 8 t))
        (k0_pay5 (grid0.coords t) (iblk m c 0 t) (iblk m c 1 t) (iblk m c 6 t) (iblk m c 7 t) (iblk m c 4 t)) (Scalar.ofBits .f32 0x45000000#32) (ix2 r l)
      = rms (gatedA (m ((c : Thread nD τ).loc main_arg0)) (m ((c : Thread nD τ).loc main_arg1)) (m ((c : Thread nD τ).loc main_arg4))
          (m ((c : Thread nD τ).loc main_arg5)) (m ((c : Thread nD τ).loc main_arg6)) ⟨t.val * 256 + r.val, h⟩)
          (fun k => (m ((c : Thread nD τ).loc main_arg7) : Vec Ideal S2x2048 .f32) (ix2 0 k)) l := by
  rw [left_apply]
  exact rms_congr (fun k => gated_eq m c t r k h) (fun k => scaleA_block m c t k) l

/-- What a point writes on the right. -/
theorem right_eq (c : Dev nD) (t : Fin cfg0.N) (r : Fin 256) (l : Fin 2048) (h : t.val * 256 + r.val < 8704) :
    k0_pay2 (BitVec.ofNat 32 ((grid0.coords t) 0).val) (iblk m c 5 t) (iblk m c 2 t) (iblk m c 3 t) (iblk m c 9 t) (ix2 r l)
      = rms (gatedS (m ((c : Thread nD τ).loc main_arg2)) (m ((c : Thread nD τ).loc main_arg3)) (m ((c : Thread nD τ).loc main_arg4)) ⟨t.val * 256 + r.val, h⟩)
          (fun k => (m ((c : Thread nD τ).loc main_arg8) : Vec Ideal S2x2048 .f32) (ix2 0 k)) l := by
  rw [right_apply]
  refine rms_congr (fun k => ?_) (fun k => scaleS_block m c t k) l
  rw [rowsS_eq m c t r k h, gateS_block m c t r k h]
  rfl

end Cert.MixIdeal.Block

end

end
-- ==== Proof.MixRef.lean ====
/-
  THE GATED MIX, THE REFERENCE.  The lines of the reference, read entry by entry, are the gelu, the gates and the norms
  of the specification.
-/
module

public import proofs.«01_k».proof.Defs
public import proofs.«01_k».proof.Proof.MixSpec
public import proofs.«01_k».proof.Proof.Gen.MixRefIdeal.Run
public import proofs.«01_k».proof.Proof.Gen.MixRefIdeal.Read
public import Idealize.ShloMosaic.Lib.Pointwise

@[expose] public section

set_option maxRecDepth 16384

noncomputable section

namespace Cert.MixRefIdeal.Block

open Cert.MixRefIdeal Cert.MixRefIdeal.Read Idealize.ShloMosaic Idealize.ShloMosaic.TcCoe Idealize.SL.Sem
open Cert.Rows Cert.MixSpec

variable (yp : Vec Ideal S8192x2048 .f32) (ys : Vec Ideal S512x2048 .f32) (dp : Vec Ideal S8192x2048 .f32) (ds : Vec Ideal S512x2048 .f32)
  (z : Vec Ideal S8704x10240 .f32) (w : Vec Ideal S2x2048x2048 .f32) (b na ns : Vec Ideal S2x2048 .f32)

/-- The rows the reference stacks, of the recurrence branch. -/
theorem stackedA_eq (i : Fin 8704) (k : Fin 2048) : val_main_v2 (F := Ideal) yp ys (ix2 i k) = stacked yp ys i k := by
  unfold val_main_v2 stacked
  pointwise

/-- And of the SSD branch. -/
theorem stackedS_eq (i : Fin 8704) (k : Fin 2048) : val_main_v48 (F := Ideal) dp ds (ix2 i k) = stacked dp ds i k := by
  unfold val_main_v48 stacked
  pointwise

/-- The gelu. -/
theorem branch_eq (i : Fin 8704) (k : Fin 2048) : val_main_v15 (F := Ideal) yp ys (ix2 i k) = branch yp ys i k := by
  unfold branch
  rw [← stackedA_eq]
  unfold gelu val_main_v15 val_main_v14 val_main_v13 val_main_v12 val_main_v11 val_main_v10 val_main_v9 val_main_v8 val_main_v7 val_main_v6
    val_main_v5 val_main_v4 val_main_v3 val_main_cst val_main_cst_0 val_main_cst_1 val_main_cst_2
  generalize val_main_v2 (F := Ideal) yp ys = x
  pointwise

/-- The product with the gate's weights, and its bias. -/
theorem product_eq (i : Fin 8704) (l : Fin 2048) :
    val_main_v23 (F := Ideal) yp ys w b (ix2 i l) = (∑ k : Fin 2048, branch yp ys i k * w (ix3 0 k l)) + b (ix2 0 l) := by
  have e : val_main_v23 (F := Ideal) yp ys w b (ix2 i l)
      = (∑ k : Fin 2048, (val_main_v15 (F := Ideal) yp ys (ix2 i k) : EReal) * w (ix3 0 k l)) + b (ix2 0 l) := by
    unfold val_main_v23 val_main_v22 val_main_v21 val_main_v20 val_main_v19 val_main_v18 val_main_v17 val_main_v16
    generalize val_main_v15 (F := Ideal) yp ys = x
    pointwise
  rw [e]
  exact congrArg (fun s : EReal => s + b (ix2 0 l)) (Finset.sum_congr rfl fun k _ => by rw [branch_eq])

/-- The gate: the sigmoid is written out. -/
theorem gate_eq (i : Fin 8704) (l : Fin 2048) : val_main_v29 (F := Ideal) yp ys w b (ix2 i l) = gate yp ys w b i l := by
  unfold gate
  rw [← product_eq, ← logistic_eq]
  unfold val_main_v29 val_main_v28 val_main_v27 val_main_v26 val_main_v25 val_main_v24 val_main_cst_3 val_main_cst_4
  generalize val_main_v23 (F := Ideal) yp ys w b = x
  pointwise

/-- The silu of the recurrence branch's projected gate. -/
theorem siluA_eq (i : Fin 8704) (l : Fin 2048) :
    val_main_v31 (F := Ideal) z (ix2 i l) = silu (z (ix2 i ⟨2048 + l.val, by have := l.isLt; omega⟩)) := by
  have e : val_main_v0 (F := Ideal) z (ix2 i l) = z (ix2 i ⟨2048 + l.val, by have := l.isLt; omega⟩) := by
    unfold val_main_v0
    pointwise
  unfold silu
  rw [← e, ← logistic_eq]
  unfold val_main_v31 val_main_call0_v5 val_main_call0_v4 val_main_call0_v3 val_main_call0_v2 val_main_call0_v1 val_main_call0_v0
    val_main_call0_cst val_main_call0_cst_0
  generalize val_main_v0 (F := Ideal) z = x
  pointwise

/-- The silu of the SSD branch's projected gate. -/
theorem siluS_eq (i : Fin 8704) (l : Fin 2048) :
    val_main_v49 (F := Ideal) z (ix2 i l) = silu (z (ix2 i ⟨8192 + l.val, by have := l.isLt; omega⟩)) := by
  have e : val_main_v1 (F := Ideal) z (ix2 i l) = z (ix2 i ⟨8192 + l.val, by have := l.isLt; omega⟩) := by
    unfold val_main_v1
    pointwise
  unfold silu
  rw [← e, ← logistic_eq]
  unfold val_main_v49 val_main_call1_v5 val_main_call1_v4 val_main_call1_v3 val_main_call1_v2 val_main_call1_v1 val_main_call1_v0
    val_main_call1_cst val_main_call1_cst_0
  generalize val_main_v1 (F := Ideal) z = x
  pointwise

/-- The recurrence branch, gated. -/
theorem gatedA_eq (i : Fin 8704) (l : Fin 2048) : val_main_v32 (F := Ideal) yp ys z w b (ix2 i l) = gatedA yp ys z w b i l := by
  unfold gatedA
  rw [← branch_eq, ← gate_eq, ← siluA_eq]
  unfold val_main_v32 val_main_v30
  generalize val_main_v15 (F := Ideal) yp ys = p
  generalize val_main_v29 (F := Ideal) yp ys w b = q
  generalize val_main_v31 (F := Ideal) z = s
  pointwise

/-- The SSD branch, gated. -/
theorem gatedS_eq (i : Fin 8704) (l : Fin 2048) : val_main_v50 (F := Ideal) dp ds z (ix2 i l) = gatedS dp ds z i l := by
  unfold gatedS
  rw [← stackedS_eq, ← siluS_eq]
  unfold val_main_v50
  generalize val_main_v48 (F := Ideal) dp ds = p
  generalize val_main_v49 (F := Ideal) z = q
  pointwise

/-- The recurrence branch, normed. -/
theorem normA_eq (i : Fin 8704) (l : Fin 2048) :
    val_main_v47 (F := Ideal) yp ys z w b na (ix2 i l) = rms (gatedA yp ys z w b i) (fun k => na (ix2 0 k)) l := by
  have e := rms_congr (w := fun k => na (ix2 0 k)) (fun k => gatedA_eq yp ys z w b i k) (fun _ => rfl) l
  refine Eq.trans ?_ e
  unfold rms val_main_v47 val_main_v46 val_main_v45 val_main_v44 val_main_v43 val_main_v42 val_main_v41 val_main_v40 val_main_v39 val_main_v38
    val_main_v37 val_main_v36 val_main_v35 val_main_v34 val_main_v33 val_main_cst_5 val_main_cst_6 val_main_cst_7
  generalize val_main_v32 (F := Ideal) yp ys z w b = x
  pointwise

/-- The SSD branch, normed. -/
theorem normS_eq (i : Fin 8704) (l : Fin 2048) :
    val_main_v65 (F := Ideal) dp ds z ns (ix2 i l) = rms (gatedS dp ds z i) (fun k => ns (ix2 0 k)) l := by
  have e := rms_congr (w := fun k => ns (ix2 0 k)) (fun k => gatedS_eq dp ds z i k) (fun _ => rfl) l
  refine Eq.trans ?_ e
  unfold rms val_main_v65 val_main_v64 val_main_v63 val_main_v62 val_main_v61 val_main_v60 val_main_v59 val_main_v58 val_main_v57 val_main_v56
    val_main_v55 val_main_v54 val_main_v53 val_main_v52 val_main_v51 val_main_cst_8 val_main_cst_9 val_main_cst_10
  generalize val_main_v50 (F := Ideal) dp ds z = x
  pointwise

/-- The two side by side. -/
theorem result_eq : val_main_v67 (F := Ideal) yp ys dp ds z w b na ns = mixed yp ys dp ds z w b na ns := by
  suffices h : ∀ (i : Fin 8704) (j : Fin 4096),
      val_main_v67 (F := Ideal) yp ys dp ds z w b na ns (ix2 i j) = mixed yp ys dp ds z w b na ns (ix2 i j) by
    funext i
    rw [eq_ix2 i]
    exact h _ _
  intro i j
  have hj := j.isLt
  have e : val_main_v67 (F := Ideal) yp ys dp ds z w b na ns (ix2 i j)
      = if h : j.val < 2048 then val_main_v47 (F := Ideal) yp ys z w b na (ix2 i ⟨j.val, h⟩)
        else val_main_v65 (F := Ideal) dp ds z ns (ix2 i ⟨j.val - 2048, by omega⟩) := by
    unfold val_main_v67 val_main_v66
    generalize val_main_v47 (F := Ideal) yp ys z w b na = p
    generalize val_main_v65 (F := Ideal) dp ds z ns = q
    pointwise
  refine e.trans ?_
  by_cases h : j.val < 2048
  · rw [dif_pos h, normA_eq]
    exact (mixed_left yp ys dp ds z w b na ns i j ⟨j.val, h⟩ rfl).symm
  · rw [dif_neg h, normS_eq]
    exact (mixed_right yp ys dp ds z w b na ns i j ⟨j.val - 2048, by omega⟩ (by dsimp only; omega)).symm

end Cert.MixRefIdeal.Block

end

end
-- ==== Proof.MixValue.lean ====
/-
  THE GATED MIX, THE EQUATION.  The blocks the points write cover the result, each being a block of the specified array;
  the reference computes the same array.
-/
module

public import proofs.«01_k».proof.Defs
public import proofs.«01_k».proof.Proof.MixBlock
public import proofs.«01_k».proof.Proof.MixRef

@[expose] public section

set_option maxRecDepth 16384

noncomputable section

namespace Cert.MixIdeal.Block

open Cert.MixIdeal Cert.MixIdeal.Gen Cert.MixIdeal.Value Idealize.ShloMosaic Idealize.ShloMosaic.TcCoe Idealize.SL.Sem
open Idealize.ShloMosaic.Pipeline (Dat)
open Cert.Rows Cert.MixSpec

variable (m : (ℓ : Loc nD τ sig) → Buf (Elt Ideal) ℓ) (ρ : Dev nD → PrngReg)

theorem zero2 : (![0, 0] : Fin 2 → Nat) = fun _ => 0 := by funext a; revert a; decide
theorem zero3 : (![0, 0, 0] : Fin 3 → Nat) = fun _ => 0 := by funext a; revert a; decide

section Halves

variable (p q : Vec Ideal S256x2048 .bf16)

/-- An entry of the left half of a block written in two halves. -/
theorem half_left (r : Fin 256) (j : Fin 4096) (l : Fin 2048) (h : j.val = l.val) :
    View.canon (Val := Elt Ideal) (s := S256x4096) (e := .bf16) [⟨r0_4, q⟩, ⟨r0_3, p⟩] (ix2 r j) = p (ix2 r l) := by
  have hl := l.isLt
  rw [View.canon_cons_of_not_mem]
  · have e : (ix2 r j : S256x4096.Idx) = r0_3.emb (ix2 r l) := by
      funext a; apply Fin.ext
      match a with
      | ⟨0, _⟩ => show r.val = 0 + 1 * r.val; omega
      | ⟨1, _⟩ => show j.val = 0 + 1 * l.val; omega
    rw [e]
    exact View.canon_cons_emb (Val := Elt Ideal) r0_3 p [] (ix2 r l)
  · intro hm
    rw [Rect.mem_set_unit] at hm
    have h' : 2048 ≤ j.val := (hm 1).1
    omega

/-- And of the right half. -/
theorem half_right (r : Fin 256) (j : Fin 4096) (l : Fin 2048) (h : j.val = 2048 + l.val) :
    View.canon (Val := Elt Ideal) (s := S256x4096) (e := .bf16) [⟨r0_4, q⟩, ⟨r0_3, p⟩] (ix2 r j) = q (ix2 r l) := by
  have e : (ix2 r j : S256x4096.Idx) = r0_4.emb (ix2 r l) := by
    funext a; apply Fin.ext
    match a with
    | ⟨0, _⟩ => show r.val = 0 + 1 * r.val; omega
    | ⟨1, _⟩ => show j.val = 2048 + 1 * l.val; omega
  rw [e]
  exact View.canon_cons_emb (Val := Elt Ideal) r0_4 q [⟨r0_3, p⟩] (ix2 r l)

end Halves

/-- The mixed rows of the arguments at launch. -/
def result (c : Dev nD) : Vec Ideal S8704x4096 .bf16 :=
  mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- An entry a point writes is an entry of the result. -/
theorem entry_eq (c : Dev nD) (t : Fin cfg0.N) (r : Fin 256) (j : Fin 4096) (h : t.val * 256 + r.val < 8704) :
    out0_10 (grid0.coords t) (iblk m c 0 t) (iblk m c 1 t) (iblk m c 2 t) (iblk m c 3 t) (iblk m c 4 t) (iblk m c 5 t) (iblk m c 6 t)
      (iblk m c 7 t) (iblk m c 8 t) (iblk m c 9 t) (ix2 r j) = result m c (ix2 ⟨t.val * 256 + r.val, h⟩ j) := by
  unfold out0_10 result
  simp only [View.ld_unit_zero (S := S256x2048) zero2, View.ld_unit_zero (S := S1x2048x2048) zero3, View.ld_unit_zero (S := S1x1x2048) zero3]
  by_cases hj : j.val < 2048
  · refine (half_left _ _ r j ⟨j.val, hj⟩ rfl).trans ?_
    refine (left_eq m c t r ⟨j.val, hj⟩ h).trans ?_
    exact (mixed_left _ _ _ _ _ _ _ _ _ _ j ⟨j.val, hj⟩ rfl).symm
  · have hj' : j.val - 2048 < 2048 := by have := j.isLt; omega
    refine (half_right _ _ r j ⟨j.val - 2048, hj'⟩ (by dsimp only; omega)).trans ?_
    refine (right_eq m c t r ⟨j.val - 2048, hj'⟩ h).trans ?_
    exact (mixed_right _ _ _ _ _ _ _ _ _ _ j ⟨j.val - 2048, hj'⟩ (by dsimp only; omega)).symm

/-- The output's blocks: point `t` writes rows `256 t … 256 t + 255`. -/
theorem out_index_eq : ∀ t : Fin cfg0.N, win0_10.index t (0 : Fin 2) = t.val ∧ win0_10.index t (1 : Fin 2) = 0 ∧ (cfg0.win 10).flush t = true :=
  (by decide +kernel : ∀ t : Fin grid0.N, _)

/-- The block a point writes out is a block of the result. -/
theorem written_eq (c : Dev nD) (t : Fin cfg0.N) :
    (dats m 0 c).flushed 10 t = ((cfg0.win 10).blk t).view.read (Elt Ideal) (result m c : Buf (Elt Ideal) ((c : Thread nD τ).loc main_v4)) := by
  have hN : t.val < 34 := t.isLt
  obtain ⟨e0, e1, -⟩ := out_index_eq t
  rw [flushed10]
  funext y
  rw [View.read_apply]
  have hy0 : (y 0).val < 256 := (y 0).isLt
  have hy1 : (y 1).val < 4096 := (y 1).isLt
  have hx : (cfg0.win 10).xinj (grid0.coords t) y = ix2 ⟨(y 0).val, hy0⟩ ⟨(y 1).val, hy1⟩ := by
    funext a; apply Fin.ext
    match a with
    | ⟨0, _⟩ => rfl
    | ⟨1, _⟩ => rfl
  show out0_10 (F := Ideal) _ _ _ _ _ _ _ _ _ _ _ ((cfg0.win 10).xinj (grid0.coords t) y) = result m c (((cfg0.win 10).blk t).view.emb y)
  rw [hx, entry_eq m c t ⟨(y 0).val, hy0⟩ ⟨(y 1).val, hy1⟩ (by dsimp only; omega)]
  congr 1
  funext a; apply Fin.ext
  match a with
  | ⟨0, _⟩ => show t.val * 256 + (y 0).val = win0_10.index t 0 * 256 + 1 * (y 0).val; rw [e0]; omega
  | ⟨1, _⟩ => show (y 1).val = win0_10.index t 1 * 4096 + 1 * (y 1).val; rw [e1]; omega

/-- Every entry lies in a written block. -/
theorem covered (i : S8704x4096.Idx) : ∃ t : Fin cfg0.N, (cfg0.win 10).flush t = true ∧ i ∈ ((cfg0.win 10).blk t).view.set := by
  have h0 : (i 0).val < 8704 := (i 0).isLt
  have h1 : (i 1).val < 4096 := (i 1).isLt
  have ht : (i 0).val / 256 < grid0.N := by show (i 0).val / 256 < 34; omega
  obtain ⟨e0, e1, hf⟩ := out_index_eq ⟨(i 0).val / 256, ht⟩
  refine ⟨⟨(i 0).val / 256, ht⟩, hf, ?_⟩
  show i ∈ ((View.whole main_v4).slice (win0_10.rect ⟨(i 0).val / 256, ht⟩)).set
  rw [View.set_slice_whole, Rect.mem_set_unit]
  intro a
  match a with
  | ⟨0, _⟩ => show win0_10.index _ (0 : Fin 2) * 256 ≤ (i 0).val ∧ (i 0).val < win0_10.index _ (0 : Fin 2) * 256 + 256; rw [e0]; dsimp only; omega
  | ⟨1, _⟩ => show win0_10.index _ (1 : Fin 2) * 4096 ≤ (i 1).val ∧ (i 1).val < win0_10.index _ (1 : Fin 2) * 4096 + 4096; rw [e1]; omega

/-- The run of the kernel: the mixed rows, the arguments unchanged. -/
theorem run_mixed : θ_run defs (onTc (τ := τ) (main (F := Ideal))) ⟨m, fun _ => 0, ρ⟩ fun r => ∀ c : Dev nD,
      r.2.mem ((c : Thread nD τ).loc main_v4) = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
      ⟨(h c).1.trans ((dats m 0 c).arrAt_eq_of_cover 10 _ (fun t _ => written_eq m c t) covered), (h c).2⟩)
    (run_blocks m ρ)

end Cert.MixIdeal.Block

namespace Cert.Proof

open Idealize.ShloMosaic Idealize.ShloMosaic.TcCoe Idealize.SL.Sem

/-- The gated mix computes the gelu, the gates and the norms of the reference. -/
theorem mix_algebraic : Cert.algebraic_MixIdeal_MixRefIdeal (hMixIdeal := Cert.MixIdeal.Gen.facts) (hMixRefIdeal := Cert.MixRefIdeal.Gen.facts) :=
  fun m ρ m' ρ' _ hag =>
    ⟨_, Cert.MixIdeal.Block.run_mixed m ρ,
      (θ_run _ _ _).mono (fun _ h c => by
        obtain ⟨a0, a1, a2, a3, a4, a5, a6, a7, a8⟩ := hag c
        obtain ⟨h0, hk⟩ := h c
        exact ⟨h0.trans ((Cert.MixRefIdeal.Block.result_eq (m' (c.tc.loc Cert.MixRefIdeal.main_arg0)) (m' (c.tc.loc Cert.MixRefIdeal.main_arg1)) (m' (c.tc.loc Cert.MixRefIdeal.main_arg2)) (m' (c.tc.loc Cert.MixRefIdeal.main_arg3)) (m' (c.tc.loc Cert.MixRefIdeal.main_arg4)) (m' (c.tc.loc Cert.MixRefIdeal.main_arg5)) (m' (c.tc.loc Cert.MixRefIdeal.main_arg6)) (m' (c.tc.loc Cert.MixRefIdeal.main_arg7)) (m' (c.tc.loc Cert.MixRefIdeal.main_arg8))).trans (by rw [a0, a1, a2, a3, a4, a5, a6, a7, a8])), hk⟩)
        (Cert.MixRefIdeal.Value.run m' ρ')⟩

end Cert.Proof

end

end
-- ==== Proof.lean ====
/-
  The claim: of each call of the layer the frames of the kernel, of its ideal program and of its reference, that the
  ideal program is the kernel over the extended reals, and that kernel and reference compute the same arrays.  The
  values are proved call by call under Proof/; here they are put together.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutLast
public import proofs.«01_k».proof.Proof.Gen.OutLast.Frame
public import proofs.«01_k».proof.Proof.Gen.OutLastIdeal
public import proofs.«01_k».proof.Proof.Gen.OutLastIdeal.Frame
public import proofs.«01_k».proof.Proof.Gen.OutLastRefIdeal
public import proofs.«01_k».proof.Proof.Gen.OutLastRefIdeal.Run
public import proofs.«01_k».proof.Proof.Gen.OutLastRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.DecodeValue
public import proofs.«01_k».proof.Proof.InProjValue
public import proofs.«01_k».proof.Proof.NormValue
public import proofs.«01_k».proof.Proof.OutProjValue
public import proofs.«01_k».proof.Proof.OutLastFrame
public import proofs.«01_k».proof.Proof.OutLastBits
public import proofs.«01_k».proof.Proof.OutLastValue
public import proofs.«01_k».proof.Proof.MixValue
public import Idealize.ShloMosaic.Adequacy
public import Idealize.ShloMosaic.Init

@[expose] public section

noncomputable section

namespace Cert.Proof

open Idealize.ShloMosaic Idealize.SL.Sem

/-- The reference of `Kernel` runs, keeps its arguments, and has no semaphore. -/
theorem quiescent_ReferenceIdeal : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The reference of `InProj` runs, keeps its arguments, and has no semaphore. -/
theorem quiescent_InProjRefIdeal : Cert.quiescent_InProjRefIdeal (hInProjRefIdeal := Cert.InProjRefIdeal.Gen.facts) := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The reference of `Norm` runs, keeps its arguments, and has no semaphore. -/
theorem quiescent_NormRefIdeal : Cert.quiescent_NormRefIdeal (hNormRefIdeal := Cert.NormRefIdeal.Gen.facts) := fun m ρ _ =>
  (θ_run Cert.NormRefIdeal.defs _ _).mono (fun r h => ⟨fun c => (h c).2.2, Idealize.ShloMosaic.sem_eq_zero_of_no_sems (by decide) r.2⟩)
    (Cert.NormRefIdeal.Value.run (F := Ideal) m ρ)

/-- The reference of `OutProj` runs, keeps its arguments, and has no semaphore. -/
theorem quiescent_OutProjRefIdeal : Cert.quiescent_OutProjRefIdeal (hOutProjRefIdeal := Cert.OutProjRefIdeal.Gen.facts) := fun m ρ _ =>
  (θ_run Cert.OutProjRefIdeal.defs _ _).mono (fun r h => ⟨fun c => (h c).2.2.2, Idealize.ShloMosaic.sem_eq_zero_of_no_sems (by decide) r.2⟩)
    (Cert.OutProjRefIdeal.Value.run (F := Ideal) m ρ)

/-- The reference of `OutLast` runs, keeps its arguments, and has no semaphore. -/
theorem quiescent_OutLastRefIdeal : Cert.quiescent_OutLastRefIdeal (hOutLastRefIdeal := Cert.OutLastRefIdeal.Gen.facts) := fun m ρ _ =>
  (θ_run Cert.OutLastRefIdeal.defs _ _).mono (fun r h => ⟨fun c => (h c).2.2, Idealize.ShloMosaic.sem_eq_zero_of_no_sems (by decide) r.2⟩)
    (Cert.OutLastRefIdeal.Value.run (F := Ideal) m ρ)

/-- The reference of `Mix` runs, keeps its arguments, and has no semaphore. -/
theorem quiescent_MixRefIdeal : Cert.quiescent_MixRefIdeal (hMixRefIdeal := Cert.MixRefIdeal.Gen.facts) := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)

/-- Everything claimed. -/
theorem claim : Cert.Claim :=
  ⟨Cert.Kernel.Gen.facts,
    Cert.KernelIdeal.Gen.facts,
    Cert.ReferenceIdeal.Gen.facts,
    Cert.InProj.Gen.facts,
    Cert.InProjIdeal.Gen.facts,
    Cert.InProjRefIdeal.Gen.facts,
    Cert.Norm.Gen.facts,
    Cert.NormIdeal.Gen.facts,
    Cert.NormRefIdeal.Gen.facts,
    Cert.OutProj.Gen.facts,
    Cert.OutProjIdeal.Gen.facts,
    Cert.OutProjRefIdeal.Gen.facts,
    Cert.OutLast.Gen.facts,
    Cert.OutLastIdeal.Gen.facts,
    Cert.OutLastRefIdeal.Gen.facts,
    Cert.Mix.Gen.facts,
    Cert.MixIdeal.Gen.facts,
    Cert.MixRefIdeal.Gen.facts,
    finite_facts,
    fun m ρ _ => Cert.Kernel.Gen.frame m ρ,
    fun m ρ _ => Cert.KernelIdeal.Gen.frame m ρ,
    fun m ρ _ => Cert.KernelIdeal.Gen.frame m ρ,
    quiescent_ReferenceIdeal,
    fun m ρ _ => quiescent_ReferenceIdeal m ρ trivial,
    fun m ρ _ => Cert.InProj.Gen.frame m ρ,
    fun m ρ _ => Cert.InProjIdeal.Gen.frame m ρ,
    quiescent_InProjRefIdeal,
    fun m ρ _ => Cert.Norm.Gen.frame m ρ,
    fun m ρ _ => Cert.NormIdeal.Gen.frame m ρ,
    quiescent_NormRefIdeal,
    fun m ρ _ => Cert.OutProj.Gen.frame m ρ,
    fun m ρ _ => Cert.OutProjIdeal.Gen.frame m ρ,
    quiescent_OutProjRefIdeal,
    outLast_frame,
    fun m ρ _ => Cert.OutLastIdeal.Last.frame m ρ,
    quiescent_OutLastRefIdeal,
    fun m ρ _ => Cert.Mix.Gen.frame m ρ,
    fun m ρ _ => Cert.MixIdeal.Gen.frame m ρ,
    quiescent_MixRefIdeal,
    trivial,
    s5Decode_algebraic,
    trivial,
    inProj_algebraic,
    trivial,
    norm_algebraic,
    trivial,
    outProj_algebraic,
    trivial,
    outLast_algebraic,
    trivial,
    mix_algebraic⟩

end Cert.Proof

end

end
